-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S11264x2048 : Shape := ⟨2, ![11264, 2048]⟩
abbrev S11264x16 : Shape := ⟨2, ![11264, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S88x11 : Shape := ⟨2, ![88, 11]⟩
abbrev S88x1 : Shape := ⟨2, ![88, 1]⟩
abbrev S88 : Shape := ⟨1, ![88]⟩
abbrev S_ : Shape := ⟨0, ![]⟩

class Facts : Prop where
  slices_S88x11_S88x1_0_0 : S88x11.Slices ![0, 0] S88x1
  shapeCasts_S88x1_S88 : S88x1.ShapeCasts S88
  bcast_S_S88 : S_.BroadcastsInDim S88 (![] : Fin 0 → Fin S88.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S88 32) (arg1 : IVec S_ 32) : IVec S88 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S88 32 := broadcastInDim S88 ![] bcast_S_S88 v2
  let v4 : IVec S88 32 := Host.remsi arg0 v3
  let c_1 : IVec S_ 32 := constantI S_ 32 0#32
  let v5 : IVec S88 32 := broadcastInDim S88 ![] bcast_S_S88 c_1
  let v6 : IVec S88 1 := cmpi .ne v4 v5
  let c_2 : IVec S_ 32 := constantI S_ 32 0#32
  let v7 : IVec S88 32 := broadcastInDim S88 ![] bcast_S_S88 c_2
  let v8 : IVec S88 1 := cmpi .slt v4 v7
  let c_3 : IVec S_ 32 := constantI S_ 32 0#32
  let v9 : IVec S_ 1 := cmpi .slt v2 c_3
  let v10 : IVec S88 1 := broadcastInDim S88 ![] bcast_S_S88 v9
  let v11 : IVec S88 1 := cmpi .ne v8 v10
  let v12 : IVec S88 1 := andi v11 v6
  let v13 : IVec S88 32 := broadcastInDim S88 ![] bcast_S_S88 v2
  let v14 : IVec S88 32 := addi v4 v13
  let v15 : IVec S88 32 := select v12 v14 v4
  v15

def fn {F : FTy → Type} [FloatOps F] (main_arg0 : FVec F S11264x2048 .fp8e4m3) (main_arg1 : FVec F S11264x16 .f32) (main_arg2 : FVec F S2048x180224 .fp8e4m3) (main_arg3 : FVec F S16x1408 .f32) (main_arg4 : FVec F S90112x2048 .fp8e4m3) (main_arg5 : FVec F S704x16 .f32) (main_arg6 : IVec S88x11 32) : IVec S88 1 :=
  let main_v0 : IVec S88x1 32 := (extractStridedSlice S88x1 ![0, 0] · slices_S88x11_S88x1_0_0) main_arg6
  let main_v1 : IVec S88 32 := shapeCast S88 main_v0 shapeCasts_S88x1_S88
  let main_c : IVec S_ 32 := constantI S_ 32 0#32
  let main_v2 : IVec S88 32 := broadcastInDim S88 ![] bcast_S_S88 main_c
  let main_v3 : IVec S88 1 := cmpi .sge main_v1 main_v2
  let main_c_0 : IVec S_ 32 := constantI S_ 32 704#32
  let main_v4 : IVec S88 32 := broadcastInDim S88 ![] bcast_S_S88 main_c_0
  let main_v5 : IVec S88 1 := cmpi .slt main_v1 main_v4
  let main_v6 : IVec S88 1 := andi main_v3 main_v5
  let main_c_1 : IVec S_ 32 := constantI S_ 32 11#32
  let main_v7 : IVec S88 32 := fn_remainder (F := F) main_v1 main_c_1
  let main_c_2 : IVec S_ 32 := constantI S_ 32 0#32
  let main_v8 : IVec S88 32 := broadcastInDim S88 ![] bcast_S_S88 main_c_2
  let main_v9 : IVec S88 1 := cmpi .eq main_v7 main_v8
  let main_v10 : IVec S88 1 := andi main_v6 main_v9
  main_v10
-- ==== Kernel.lean ====
abbrev S11264x2048 : Shape := ⟨2, ![11264, 2048]⟩
abbrev S11264x16 : Shape := ⟨2, ![11264, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S88x11 : Shape := ⟨2, ![88, 11]⟩
abbrev S88x1 : Shape := ⟨2, ![88, 1]⟩
abbrev S88 : Shape := ⟨1, ![88]⟩
abbrev S_ : Shape := ⟨0, ![]⟩
abbrev S16x2x64x11 : Shape := ⟨4, ![16, 2, 64, 11]⟩
abbrev S64x16x2x11 : Shape := ⟨4, ![64, 16, 2, 11]⟩
abbrev S64x352 : Shape := ⟨2, ![64, 352]⟩
abbrev S64x176 : Shape := ⟨2, ![64, 176]⟩
abbrev S11264x1408 : Shape := ⟨2, ![11264, 1408]⟩
abbrev S11264x11 : Shape := ⟨2, ![11264, 11]⟩
abbrev S128x2048 : Shape := ⟨2, ![128, 2048]⟩
abbrev S128x16 : Shape := ⟨2, ![128, 16]⟩
abbrev S2048x1408 : Shape := ⟨2, ![2048, 1408]⟩
abbrev S1 : Shape := ⟨1, ![1]⟩
abbrev S1408x2048 : Shape := ⟨2, ![1408, 2048]⟩
abbrev S128x1408 : Shape := ⟨2, ![128, 1408]⟩
abbrev S128x11 : Shape := ⟨2, ![128, 11]⟩
abbrev S128x128 : Shape := ⟨2, ![128, 128]⟩
abbrev S128x1 : Shape := ⟨2, ![128, 1]⟩
abbrev S128x256 : Shape := ⟨2, ![128, 256]⟩
abbrev S1x1 : Shape := ⟨2, ![1, 1]⟩
abbrev S256x256 : Shape := ⟨2, ![256, 256]⟩
abbrev S128 : Shape := ⟨1, ![128]⟩

abbrev nBuf : Space → Nat
  | .hbm => 33
  | .vmem => 18
  | .smem => 3
  | _ => 0

abbrev bufTy : (tb : Table) → Fin (tcTables nBuf tb) → BufTy
  | .hbm, ⟨0, _⟩ => ⟨S11264x2048, .fp8e4m3⟩
  | .hbm, ⟨1, _⟩ => ⟨S11264x16, .f32⟩
  | .hbm, ⟨2, _⟩ => ⟨S2048x180224, .fp8e4m3⟩
  | .hbm, ⟨3, _⟩ => ⟨S16x1408, .f32⟩
  | .hbm, ⟨4, _⟩ => ⟨S90112x2048, .fp8e4m3⟩
  | .hbm, ⟨5, _⟩ => ⟨S704x16, .f32⟩
  | .hbm, ⟨6, _⟩ => ⟨S88x11, .i32⟩
  | .hbm, ⟨7, _⟩ => ⟨S88x1, .i32⟩
  | .hbm, ⟨8, _⟩ => ⟨S88, .i32⟩
  | .hbm, ⟨9, _⟩ => ⟨S_, .i32⟩
  | .hbm, ⟨10, _⟩ => ⟨S_, .i32⟩
  | .hbm, ⟨11, _⟩ => ⟨S88, .i32⟩
  | .hbm, ⟨12, _⟩ => ⟨S88, .i32⟩
  | .hbm, ⟨13, _⟩ => ⟨S88, .i32⟩
  | .hbm, ⟨14, _⟩ => ⟨S_, .i32⟩
  | .hbm, ⟨15, _⟩ => ⟨S88, .i32⟩
  | .hbm, ⟨16, _⟩ => ⟨S88, .i1⟩
  | .hbm, ⟨17, _⟩ => ⟨S88, .i32⟩
  | .hbm, ⟨18, _⟩ => ⟨S88, .i32⟩
  | .hbm, ⟨19, _⟩ => ⟨S_, .i32⟩
  | .hbm, ⟨20, _⟩ => ⟨S88, .i32⟩
  | .hbm, ⟨21, _⟩ => ⟨S88, .i1⟩
  | .hbm, ⟨22, _⟩ => ⟨S88, .i1⟩
  | .hbm, ⟨23, _⟩ => ⟨S_, .i32⟩
  | .hbm, ⟨24, _⟩ => ⟨S88, .i32⟩
  | .hbm, ⟨25, _⟩ => ⟨S88, .i32⟩
  | .hbm, ⟨26, _⟩ => ⟨S16x2x64x11, .f32⟩
  | .hbm, ⟨27, _⟩ => ⟨S64x16x2x11, .f32⟩
  | .hbm, ⟨28, _⟩ => ⟨S64x352, .f32⟩
  | .hbm, ⟨29, _⟩ => ⟨S64x176, .f32⟩
  | .hbm, ⟨30, _⟩ => ⟨S11264x2048, .bf16⟩
  | .hbm, ⟨31, _⟩ => ⟨S11264x1408, .fp8e4m3⟩
  | .hbm, ⟨32, _⟩ => ⟨S11264x11, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S128x16, .f32⟩
  | .local _ .vmem, ⟨3, _⟩ => ⟨S128x16, .f32⟩
  | .local _ .vmem, ⟨4, _⟩ => ⟨S2048x1408, .fp8e4m3⟩
  | .local _ .vmem, ⟨5, _⟩ => ⟨S2048x1408, .fp8e4m3⟩
  | .local _ .vmem, ⟨6, _⟩ => ⟨S2048x1408, .fp8e4m3⟩
  | .local _ .vmem, ⟨7, _⟩ => ⟨S2048x1408, .fp8e4m3⟩
  | .local _ .vmem, ⟨8, _⟩ => ⟨S1408x2048, .fp8e4m3⟩
  | .local _ .vmem, ⟨9, _⟩ => ⟨S1408x2048, .fp8e4m3⟩
  | .local _ .vmem, ⟨10, _⟩ => ⟨S128x2048, .bf16⟩
  | .local _ .vmem, ⟨11, _⟩ => ⟨S128x2048, .bf16⟩
  | .local _ .vmem, ⟨12, _⟩ => ⟨S128x1408, .fp8e4m3⟩
  | .local _ .vmem, ⟨13, _⟩ => ⟨S128x1408, .fp8e4m3⟩
  | .local _ .vmem, ⟨14, _⟩ => ⟨S128x11, .f32⟩
  | .local _ .vmem, ⟨15, _⟩ => ⟨S128x11, .f32⟩
  | .local _ .vmem, ⟨16, _⟩ => ⟨S128x2048, .bf16⟩
  | .local _ .vmem, ⟨17, _⟩ => ⟨S128x1408, .bf16⟩
  | .local _ .smem, ⟨0, _⟩ => ⟨S88, .i32⟩
  | .local _ .smem, ⟨1, _⟩ => ⟨S64x352, .f32⟩
  | .local _ .smem, ⟨2, _⟩ => ⟨S64x176, .f32⟩
  | _, _ => ⟨S11264x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7_0 : Ref sig .tc := ⟨.hbm, 30, rfl⟩
abbrev main_v7_1 : Ref sig .tc := ⟨.hbm, 31, rfl⟩
abbrev main_v7_2 : Ref sig .tc := ⟨.hbm, 32, rfl⟩
abbrev main_v2 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![88], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v135 : Index := Scalar.indexCast v1
  let c0_51 : Index := 0#32
  ![v135.toNat, 0]

def k0_off3 (v1 : BitVec 32) : Fin 2 → Nat :=
  let v138 : Index := Scalar.indexCast v1
  let c11 : Index := 11#32
  ![v138.toNat, 11]
def k0_off4 (v1 : BitVec 32) : Fin 2 → Nat :=
  let v143 : Index := Scalar.indexCast v1
  let c22 : Index := 22#32
  ![v143.toNat, 22]
def k0_off5 (v1 : BitVec 32) : Fin 2 → Nat :=
  let v146 : Index := Scalar.indexCast v1
  let c33 : Index := 33#32
  ![v146.toNat, 33]
def k0_off6 (v1 : BitVec 32) : Fin 2 → Nat :=
  let v169 : Index := Scalar.indexCast v1
  let c44 : Index := 44#32
  ![v169.toNat, 44]
def k0_off7 (v1 : BitVec 32) : Fin 2 → Nat :=
  let v172 : Index := Scalar.indexCast v1
  let c55 : Index := 55#32
  ![v172.toNat, 55]
def k0_off8 (v1 : BitVec 32) : Fin 2 → Nat :=
  let v177 : Index := Scalar.indexCast v1
  let c66 : Index := 66#32
  ![v177.toNat, 66]
def k0_off9 (v1 : BitVec 32) : Fin 2 → Nat :=
  let v180 : Index := Scalar.indexCast v1
  let c77 : Index := 77#32
  ![v180.toNat, 77]
def k0_off10 (v1 : BitVec 32) : Fin 2 → Nat :=
  let v203 : Index := Scalar.indexCast v1
  let c88 : Index := 88#32
  ![v203.toNat, 88]
def k0_off11 (v1 : BitVec 32) : Fin 2 → Nat :=
  let v206 : Index := Scalar.indexCast v1
  let c99 : Index := 99#32
  ![v206.toNat, 99]
def k0_off12 (v1 : BitVec 32) : Fin 2 → Nat :=
  let v211 : Index := Scalar.indexCast v1
  let c110 : Index := 110#32
  ![v211.toNat, 110]
def k0_off13 (v1 : BitVec 32) : Fin 2 → Nat :=
  let v214 : Index := Scalar.indexCast v1
  let c121 : Index := 121#32
  ![v214.toNat, 121]
def k0_off14 (v1 : BitVec 32) : Fin 2 → Nat :=
  let v237 : Index := Scalar.indexCast v1
  let c132 : Index := 132#32
  ![v237.toNat, 132]
def k0_off15 (v1 : BitVec 32) : Fin 2 → Nat :=
  let v240 : Index := Scalar.indexCast v1
  let c143 : Index := 143#32
  ![v240.toNat, 143]
def k0_off16 (v1 : BitVec 32) : Fin 2 → Nat :=
  let v245 : Index := Scalar.indexCast v1
  let c154 : Index := 154#32
  ![v245.toNat, 154]
def k0_off17 (v1 : BitVec 32) : Fin 2 → Nat :=
  let v248 : Index := Scalar.indexCast v1
  let c165 : Index := 165#32
  ![v248.toNat, 165]
def k0_off18 (v1 : BitVec 32) : Fin 2 → Nat :=
  let v271 : Index := Scalar.indexCast v1
  let c176 : Index := 176#32
  ![v271.toNat, 176]
def k0_off19 (v1 : BitVec 32) : Fin 2 → Nat :=
  let v274 : Index := Scalar.indexCast v1
  let c187 : Index := 187#32
  ![v274.toNat, 187]
def k0_off20 (v1 : BitVec 32) : Fin 2 → Nat :=
  let v279 : Index := Scalar.indexCast v1
  let c198 : Index := 198#32
  ![v279.toNat, 198]
def k0_off21 (v1 : BitVec 32) : Fin 2 → Nat :=
  let v282 : Index := Scalar.indexCast v1
  let c209 : Index := 209#32
  ![v282.toNat, 209]
def k0_off22 (v1 : BitVec 32) : Fin 2 → Nat :=
  let v305 : Index := Scalar.indexCast v1
  let c220 : Index := 220#32
  ![v305.toNat, 220]
def k0_off23 (v1 : BitVec 32) : Fin 2 → Nat :=
  let v308 : Index := Scalar.indexCast v1
  let c231 : Index := 231#32
  ![v308.toNat, 231]
def k0_off24 (v1 : BitVec 32) : Fin 2 → Nat :=
  let v313 : Index := Scalar.indexCast v1
  let c242 : Index := 242#32
  ![v313.toNat, 242]
def k0_off25 (v1 : BitVec 32) : Fin 2 → Nat :=
  let v316 : Index := Scalar.indexCast v1
  let c253 : Index := 253#32
  ![v316.toNat, 253]
def k0_off26 (v1 : BitVec 32) : Fin 2 → Nat :=
  let v339 : Index := Scalar.indexCast v1
  let c264 : Index := 264#32
  ![v339.toNat, 264]
def k0_off27 (v1 : BitVec 32) : Fin 2 → Nat :=
  let v342 : Index := Scalar.indexCast v1
  let c275 : Index := 275#32
  ![v342.toNat, 275]
def k0_off28 (v1 : BitVec 32) : Fin 2 → Nat :=
  let v347 : Index := Scalar.indexCast v1
  let c286 : Index := 286#32
  ![v347.toNat, 286]
def k0_off29 (v1 : BitVec 32) : Fin 2 → Nat :=
  let v350 : Index := Scalar.indexCast v1
  let c297 : Index := 297#32
  ![v350.toNat, 297]
def k0_off30 (v1 : BitVec 32) : Fin 2 → Nat :=
  let v373 : Index := Scalar.indexCast v1
  let c308 : Index := 308#32
  ![v373.toNat, 308]
def k0_off31 (v1 : BitVec 32) : Fin 2 → Nat :=
  let v376 : Index := Scalar.indexCast v1
  let c319 : Index := 319#32
  ![v376.toNat, 319]
def k0_off32 (v1 : BitVec 32) : Fin 2 → Nat :=
  let v381 : Index := Scalar.indexCast v1
  let c330 : Index := 330#32
  ![v381.toNat, 330]
def k0_off33 (v1 : BitVec 32) : Fin 2 → Nat :=
  let v384 : Index := Scalar.indexCast v1
  let c341 : Index := 341#32
  ![v384.toNat, 341]
def k0_off34 (v1 : BitVec 32) : Fin 2 → Nat :=
  let v460 : Index := Scalar.indexCast v1
  let c1 : Index := 1#32
  ![v460.toNat, 1]
def k0_off35 (v1 : BitVec 32) : Fin 2 → Nat :=
  let v463 : Index := Scalar.indexCast v1
  let c12 : Index := 12#32
  ![v463.toNat, 12]
def k0_off36 (v1 : BitVec 32) : Fin 2 → Nat :=
  let v468 : Index := Scalar.indexCast v1
  let c23 : Index := 23#32
  ![v468.toNat, 23]
def k0_off37 (v1 : BitVec 32) : Fin 2 → Nat :=
  let v471 : Index := Scalar.indexCast v1
  let c34 : Index := 34#32
  ![v471.toNat, 34]
def k0_off38 (v1 : BitVec 32) : Fin 2 → Nat :=
  let v494 : Index := Scalar.indexCast v1
  let c45 : Index := 45#32
  ![v494.toNat, 45]
def k0_off39 (v1 : BitVec 32) : Fin 2 → Nat :=
  let v497 : Index := Scalar.indexCast v1
  let c56 : Index := 56#32
  ![v497.toNat, 56]
def k0_off40 (v1 : BitVec 32) : Fin 2 → Nat :=
  let v502 : Index := Scalar.indexCast v1
  let c67 : Index := 67#32
  ![v502.toNat, 67]
def k0_off41 (v1 : BitVec 32) : Fin 2 → Nat :=
  let v505 : Index := Scalar.indexCast v1
  let c78 : Index := 78#32
  ![v505.toNat, 78]
def k0_off42 (v1 : BitVec 32) : Fin 2 → Nat :=
  let v528 : Index := Scalar.indexCast v1
  let c89 : Index := 89#32
  ![v528.toNat, 89]
def k0_off43 (v1 : BitVec 32) : Fin 2 → Nat :=
  let v531 : Index := Scalar.indexCast v1
  let c100 : Index := 100#32
  ![v531.toNat, 100]
def k0_off44 (v1 : BitVec 32) : Fin 2 → Nat :=
  let v536 : Index := Scalar.indexCast v1
  let c111 : Index := 111#32
  ![v536.toNat, 111]
def k0_off45 (v1 : BitVec 32) : Fin 2 → Nat :=
  let v539 : Index := Scalar.indexCast v1
  let c122 : Index := 122#32
  ![v539.toNat, 122]
def k0_off46 (v1 : BitVec 32) : Fin 2 → Nat :=
  let v562 : Index := Scalar.indexCast v1
  let c133 : Index := 133#32
  ![v562.toNat, 133]
def k0_off47 (v1 : BitVec 32) : Fin 2 → Nat :=
  let v565 : Index := Scalar.indexCast v1
  let c144 : Index := 144#32
  ![v565.toNat, 144]
def k0_off48 (v1 : BitVec 32) : Fin 2 → Nat :=
  let v570 : Index := Scalar.indexCast v1
  let c155 : Index := 155#32
  ![v570.toNat, 155]
def k0_off49 (v1 : BitVec 32) : Fin 2 → Nat :=
  let v573 : Index := Scalar.indexCast v1
  let c166 : Index := 166#32
  ![v573.toNat, 166]
def k0_off50 (v1 : BitVec 32) : Fin 2 → Nat :=
  let v596 : Index := Scalar.indexCast v1
  let c177 : Index := 177#32
  ![v596.toNat, 177]
def k0_off51 (v1 : BitVec 32) : Fin 2 → Nat :=
  let v599 : Index := Scalar.indexCast v1
  let c188 : Index := 188#32
  ![v599.toNat, 188]
def k0_off52 (v1 : BitVec 32) : Fin 2 → Nat :=
  let v604 : Index := Scalar.indexCast v1
  let c199 : Index := 199#32
  ![v604.toNat, 199]
def k0_off53 (v1 : BitVec 32) : Fin 2 → Nat :=
  let v607 : Index := Scalar.indexCast v1
  let c210 : Index := 210#32
  ![v607.toNat, 210]
def k0_off54 (v1 : BitVec 32) : Fin 2 → Nat :=
  let v630 : Index := Scalar.indexCast v1
  let c221 : Index := 221#32
  ![v630.toNat, 221]
def k0_off55 (v1 : BitVec 32) : Fin 2 → Nat :=
  let v633 : Index := Scalar.indexCast v1
  let c232 : Index := 232#32
  ![v633.toNat, 232]
def k0_off56 (v1 : BitVec 32) : Fin 2 → Nat :=
  let v638 : Index := Scalar.indexCast v1
  let c243 : Index := 243#32
  ![v638.toNat, 243]
def k0_off57 (v1 : BitVec 32) : Fin 2 → Nat :=
  let v641 : Index := Scalar.indexCast v1
  let c254 : Index := 254#32
  ![v641.toNat, 254]
def k0_off58 (v1 : BitVec 32) : Fin 2 → Nat :=
  let v664 : Index := Scalar.indexCast v1
  let c265 : Index := 265#32
  ![v664.toNat, 265]
def k0_off59 (v1 : BitVec 32) : Fin 2 → Nat :=
  let v667 : Index := Scalar.indexCast v1
  let c276 : Index := 276#32
  ![v667.toNat, 276]
def k0_off60 (v1 : BitVec 32) : Fin 2 → Nat :=
  let v672 : Index := Scalar.indexCast v1
  let c287 : Index := 287#32
  ![v672.toNat, 287]
def k0_off61 (v1 : BitVec 32) : Fin 2 → Nat :=
  let v675 : Index := Scalar.indexCast v1
  let c298 : Index := 298#32
  ![v675.toNat, 298]
def k0_off62 (v1 : BitVec 32) : Fin 2 → Nat :=
  let v698 : Index := Scalar.indexCast v1
  let c309 : Index := 309#32
  ![v698.toNat, 309]
def k0_off63 (v1 : BitVec 32) : Fin 2 → Nat :=
  let v701 : Index := Scalar.indexCast v1
  let c320 : Index := 320#32
  ![v701.toNat, 320]
def k0_off64 (v1 : BitVec 32) : Fin 2 → Nat :=
  let v706 : Index := Scalar.indexCast v1
  let c331 : Index := 331#32
  ![v706.toNat, 331]
def k0_off65 (v1 : BitVec 32) : Fin 2 → Nat :=
  let v709 : Index := Scalar.indexCast v1
  let c342 : Index := 342#32
  ![v709.toNat, 342]
def k0_off66 (v1 : BitVec 32) : Fin 2 → Nat :=
  let v785 : Index := Scalar.indexCast v1
  let c2 : Index := 2#32
  ![v785.toNat, 2]
def k0_off67 (v1 : BitVec 32) : Fin 2 → Nat :=
  let v788 : Index := Scalar.indexCast v1
  let c13 : Index := 13#32
  ![v788.toNat, 13]
def k0_off68 (v1 : BitVec 32) : Fin 2 → Nat :=
  let v793 : Index := Scalar.indexCast v1
  let c24 : Index := 24#32
  ![v793.toNat, 24]
def k0_off69 (v1 : BitVec 32) : Fin 2 → Nat :=
  let v796 : Index := Scalar.indexCast v1
  let c35 : Index := 35#32
  ![v796.toNat, 35]
def k0_off70 (v1 : BitVec 32) : Fin 2 → Nat :=
  let v819 : Index := Scalar.indexCast v1
  let c46 : Index := 46#32
  ![v819.toNat, 46]
def k0_off71 (v1 : BitVec 32) : Fin 2 → Nat :=
  let v822 : Index := Scalar.indexCast v1
  let c57 : Index := 57#32
  ![v822.toNat, 57]
def k0_off72 (v1 : BitVec 32) : Fin 2 → Nat :=
  let v827 : Index := Scalar.indexCast v1
  let c68 : Index := 68#32
  ![v827.toNat, 68]
def k0_off73 (v1 : BitVec 32) : Fin 2 → Nat :=
  let v830 : Index := Scalar.indexCast v1
  let c79 : Index := 79#32
  ![v830.toNat, 79]
def k0_off74 (v1 : BitVec 32) : Fin 2 → Nat :=
  let v853 : Index := Scalar.indexCast v1
  let c90 : Index := 90#32
  ![v853.toNat, 90]
def k0_off75 (v1 : BitVec 32) : Fin 2 → Nat :=
  let v856 : Index := Scalar.indexCast v1
  let c101 : Index := 101#32
  ![v856.toNat, 101]
def k0_off76 (v1 : BitVec 32) : Fin 2 → Nat :=
  let v861 : Index := Scalar.indexCast v1
  let c112 : Index := 112#32
  ![v861.toNat, 112]
def k0_off77 (v1 : BitVec 32) : Fin 2 → Nat :=
  let v864 : Index := Scalar.indexCast v1
  let c123 : Index := 123#32
  ![v864.toNat, 123]
def k0_off78 (v1 : BitVec 32) : Fin 2 → Nat :=
  let v887 : Index := Scalar.indexCast v1
  let c134 : Index := 134#32
  ![v887.toNat, 134]
def k0_off79 (v1 : BitVec 32) : Fin 2 → Nat :=
  let v890 : Index := Scalar.indexCast v1
  let c145 : Index := 145#32
  ![v890.toNat, 145]
def k0_off80 (v1 : BitVec 32) : Fin 2 → Nat :=
  let v895 : Index := Scalar.indexCast v1
  let c156 : Index := 156#32
  ![v895.toNat, 156]
def k0_off81 (v1 : BitVec 32) : Fin 2 → Nat :=
  let v898 : Index := Scalar.indexCast v1
  let c167 : Index := 167#32
  ![v898.toNat, 167]
def k0_off82 (v1 : BitVec 32) : Fin 2 → Nat :=
  let v921 : Index := Scalar.indexCast v1
  let c178 : Index := 178#32
  ![v921.toNat, 178]
def k0_off83 (v1 : BitVec 32) : Fin 2 → Nat :=
  let v924 : Index := Scalar.indexCast v1
  let c189 : Index := 189#32
  ![v924.toNat, 189]
def k0_off84 (v1 : BitVec 32) : Fin 2 → Nat :=
  let v929 : Index := Scalar.indexCast v1
  let c200 : Index := 200#32
  ![v929.toNat, 200]
def k0_off85 (v1 : BitVec 32) : Fin 2 → Nat :=
  let v932 : Index := Scalar.indexCast v1
  let c211 : Index := 211#32
  ![v932.toNat, 211]
def k0_off86 (v1 : BitVec 32) : Fin 2 → Nat :=
  let v955 : Index := Scalar.indexCast v1
  let c222 : Index := 222#32
  ![v955.toNat, 222]
def k0_off87 (v1 : BitVec 32) : Fin 2 → Nat :=
  let v958 : Index := Scalar.indexCast v1
  let c233 : Index := 233#32
  ![v958.toNat, 233]
def k0_off88 (v1 : BitVec 32) : Fin 2 → Nat :=
  let v963 : Index := Scalar.indexCast v1
  let c244 : Index := 244#32
  ![v963.toNat, 244]
def k0_off89 (v1 : BitVec 32) : Fin 2 → Nat :=
  let v966 : Index := Scalar.indexCast v1
  let c255 : Index := 255#32
  ![v966.toNat, 255]
def k0_off90 (v1 : BitVec 32) : Fin 2 → Nat :=
  let v989 : Index := Scalar.indexCast v1
  let c266 : Index := 266#32
  ![v989.toNat, 266]
def k0_off91 (v1 : BitVec 32) : Fin 2 → Nat :=
  let v992 : Index := Scalar.indexCast v1
  let c277 : Index := 277#32
  ![v992.toNat, 277]
def k0_off92 (v1 : BitVec 32) : Fin 2 → Nat :=
  let v997 : Index := Scalar.indexCast v1
  let c288 : Index := 288#32
  ![v997.toNat, 288]
def k0_off93 (v1 : BitVec 32) : Fin 2 → Nat :=
  let v1000 : Index := Scalar.indexCast v1
  let c299 : Index := 299#32
  ![v1000.toNat, 299]
def k0_off94 (v1 : BitVec 32) : Fin 2 → Nat :=
  let v1023 : Index := Scalar.indexCast v1
  let c310 : Index := 310#32
  ![v1023.toNat, 310]
def k0_off95 (v1 : BitVec 32) : Fin 2 → Nat :=
  let v1026 : Index := Scalar.indexCast v1
  let c321 : Index := 321#32
  ![v1026.toNat, 321]
def k0_off96 (v1 : BitVec 32) : Fin 2 → Nat :=
  let v1031 : Index := Scalar.indexCast v1
  let c332 : Index := 332#32
  ![v1031.toNat, 332]
def k0_off97 (v1 : BitVec 32) : Fin 2 → Nat :=
  let v1034 : Index := Scalar.indexCast v1
  let c343 : Index := 343#32
  ![v1034.toNat, 343]
def k0_off98 (v1 : BitVec 32) : Fin 2 → Nat :=
  let v1110 : Index := Scalar.indexCast v1
  let c3 : Index := 3#32
  ![v1110.toNat, 3]
def k0_off99 (v1 : BitVec 32) : Fin 2 → Nat :=
  let v1113 : Index := Scalar.indexCast v1
  let c14 : Index := 14#32
  ![v1113.toNat, 14]
def k0_off100 (v1 : BitVec 32) : Fin 2 → Nat :=
  let v1118 : Index := Scalar.indexCast v1
  let c25 : Index := 25#32
  ![v1118.toNat, 25]
def k0_off101 (v1 : BitVec 32) : Fin 2 → Nat :=
  let v1121 : Index := Scalar.indexCast v1
  let c36 : Index := 36#32
  ![v1121.toNat, 36]
def k0_off102 (v1 : BitVec 32) : Fin 2 → Nat :=
  let v1144 : Index := Scalar.indexCast v1
  let c47 : Index := 47#32
  ![v1144.toNat, 47]
def k0_off103 (v1 : BitVec 32) : Fin 2 → Nat :=
  let v1147 : Index := Scalar.indexCast v1
  let c58 : Index := 58#32
  ![v1147.toNat, 58]
def k0_off104 (v1 : BitVec 32) : Fin 2 → Nat :=
  let v1152 : Index := Scalar.indexCast v1
  let c69 : Index := 69#32
  ![v1152.toNat, 69]
def k0_off105 (v1 : BitVec 32) : Fin 2 → Nat :=
  let v1155 : Index := Scalar.indexCast v1
  let c80 : Index := 80#32
  ![v1155.toNat, 80]
def k0_off106 (v1 : BitVec 32) : Fin 2 → Nat :=
  let v1178 : Index := Scalar.indexCast v1
  let c91 : Index := 91#32
  ![v1178.toNat, 91]
def k0_off107 (v1 : BitVec 32) : Fin 2 → Nat :=
  let v1181 : Index := Scalar.indexCast v1
  let c102 : Index := 102#32
  ![v1181.toNat, 102]
def k0_off108 (v1 : BitVec 32) : Fin 2 → Nat :=
  let v1186 : Index := Scalar.indexCast v1
  let c113 : Index := 113#32
  ![v1186.toNat, 113]
def k0_off109 (v1 : BitVec 32) : Fin 2 → Nat :=
  let v1189 : Index := Scalar.indexCast v1
  let c124 : Index := 124#32
  ![v1189.toNat, 124]
def k0_off110 (v1 : BitVec 32) : Fin 2 → Nat :=
  let v1212 : Index := Scalar.indexCast v1
  let c135 : Index := 135#32
  ![v1212.toNat, 135]
def k0_off111 (v1 : BitVec 32) : Fin 2 → Nat :=
  let v1215 : Index := Scalar.indexCast v1
  let c146 : Index := 146#32
  ![v1215.toNat, 146]
def k0_off112 (v1 : BitVec 32) : Fin 2 → Nat :=
  let v1220 : Index := Scalar.indexCast v1
  let c157 : Index := 157#32
  ![v1220.toNat, 157]
def k0_off113 (v1 : BitVec 32) : Fin 2 → Nat :=
  let v1223 : Index := Scalar.indexCast v1
  let c168 : Index := 168#32
  ![v1223.toNat, 168]
def k0_off114 (v1 : BitVec 32) : Fin 2 → Nat :=
  let v1246 : Index := Scalar.indexCast v1
  let c179 : Index := 179#32
  ![v1246.toNat, 179]
def k0_off115 (v1 : BitVec 32) : Fin 2 → Nat :=
  let v1249 : Index := Scalar.indexCast v1
  let c190 : Index := 190#32
  ![v1249.toNat, 190]
def k0_off116 (v1 : BitVec 32) : Fin 2 → Nat :=
  let v1254 : Index := Scalar.indexCast v1
  let c201 : Index := 201#32
  ![v1254.toNat, 201]
def k0_off117 (v1 : BitVec 32) : Fin 2 → Nat :=
  let v1257 : Index := Scalar.indexCast v1
  let c212 : Index := 212#32
  ![v1257.toNat, 212]
def k0_off118 (v1 : BitVec 32) : Fin 2 → Nat :=
  let v1280 : Index := Scalar.indexCast v1
  let c223 : Index := 223#32
  ![v1280.toNat, 223]
def k0_off119 (v1 : BitVec 32) : Fin 2 → Nat :=
  let v1283 : Index := Scalar.indexCast v1
  let c234 : Index := 234#32
  ![v1283.toNat, 234]
def k0_off120 (v1 : BitVec 32) : Fin 2 → Nat :=
  let v1288 : Index := Scalar.indexCast v1
  let c245 : Index := 245#32
  ![v1288.toNat, 245]
def k0_off121 (v1 : BitVec 32) : Fin 2 → Nat :=
  let v1291 : Index := Scalar.indexCast v1
  let c256_422 : Index := 256#32
  ![v1291.toNat, 256]
def k0_off122 (v1 : BitVec 32) : Fin 2 → Nat :=
  let v1314 : Index := Scalar.indexCast v1
  let c267 : Index := 267#32
  ![v1314.toNat, 267]
def k0_off123 (v1 : BitVec 32) : Fin 2 → Nat :=
  let v1317 : Index := Scalar.indexCast v1
  let c278 : Index := 278#32
  ![v1317.toNat, 278]
def k0_off124 (v1 : BitVec 32) : Fin 2 → Nat :=
  let v1322 : Index := Scalar.indexCast v1
  let c289 : Index := 289#32
  ![v1322.toNat, 289]
def k0_off125 (v1 : BitVec 32) : Fin 2 → Nat :=
  let v1325 : Index := Scalar.indexCast v1
  let c300 : Index := 300#32
  ![v1325.toNat, 300]
def k0_off126 (v1 : BitVec 32) : Fin 2 → Nat :=
  let v1348 : Index := Scalar.indexCast v1
  let c311 : Index := 311#32
  ![v1348.toNat, 311]
def k0_off127 (v1 : BitVec 32) : Fin 2 → Nat :=
  let v1351 : Index := Scalar.indexCast v1
  let c322 : Index := 322#32
  ![v1351.toNat, 322]
def k0_off128 (v1 : BitVec 32) : Fin 2 → Nat :=
  let v1356 : Index := Scalar.indexCast v1
  let c333 : Index := 333#32
  ![v1356.toNat, 333]
def k0_off129 (v1 : BitVec 32) : Fin 2 → Nat :=
  let v1359 : Index := Scalar.indexCast v1
  let c344 : Index := 344#32
  ![v1359.toNat, 344]
def k0_off130 (v1 : BitVec 32) : Fin 2 → Nat :=
  let v1435 : Index := Scalar.indexCast v1
  let c4 : Index := 4#32
  ![v1435.toNat, 4]
def k0_off131 (v1 : BitVec 32) : Fin 2 → Nat :=
  let v1438 : Index := Scalar.indexCast v1
  let c15 : Index := 15#32
  ![v1438.toNat, 15]
def k0_off132 (v1 : BitVec 32) : Fin 2 → Nat :=
  let v1443 : Index := Scalar.indexCast v1
  let c26 : Index := 26#32
  ![v1443.toNat, 26]
def k0_off133 (v1 : BitVec 32) : Fin 2 → Nat :=
  let v1446 : Index := Scalar.indexCast v1
  let c37 : Index := 37#32
  ![v1446.toNat, 37]
def k0_off134 (v1 : BitVec 32) : Fin 2 → Nat :=
  let v1469 : Index := Scalar.indexCast v1
  let c48 : Index := 48#32
  ![v1469.toNat, 48]
def k0_off135 (v1 : BitVec 32) : Fin 2 → Nat :=
  let v1472 : Index := Scalar.indexCast v1
  let c59 : Index := 59#32
  ![v1472.toNat, 59]
def k0_off136 (v1 : BitVec 32) : Fin 2 → Nat :=
  let v1477 : Index := Scalar.indexCast v1
  let c70 : Index := 70#32
  ![v1477.toNat, 70]
def k0_off137 (v1 : BitVec 32) : Fin 2 → Nat :=
  let v1480 : Index := Scalar.indexCast v1
  let c81 : Index := 81#32
  ![v1480.toNat, 81]
def k0_off138 (v1 : BitVec 32) : Fin 2 → Nat :=
  let v1503 : Index := Scalar.indexCast v1
  let c92 : Index := 92#32
  ![v1503.toNat, 92]
def k0_off139 (v1 : BitVec 32) : Fin 2 → Nat :=
  let v1506 : Index := Scalar.indexCast v1
  let c103 : Index := 103#32
  ![v1506.toNat, 103]
def k0_off140 (v1 : BitVec 32) : Fin 2 → Nat :=
  let v1511 : Index := Scalar.indexCast v1
  let c114 : Index := 114#32
  ![v1511.toNat, 114]
def k0_off141 (v1 : BitVec 32) : Fin 2 → Nat :=
  let v1514 : Index := Scalar.indexCast v1
  let c125 : Index := 125#32
  ![v1514.toNat, 125]
def k0_off142 (v1 : BitVec 32) : Fin 2 → Nat :=
  let v1537 : Index := Scalar.indexCast v1
  let c136 : Index := 136#32
  ![v1537.toNat, 136]
def k0_off143 (v1 : BitVec 32) : Fin 2 → Nat :=
  let v1540 : Index := Scalar.indexCast v1
  let c147 : Index := 147#32
  ![v1540.toNat, 147]
def k0_off144 (v1 : BitVec 32) : Fin 2 → Nat :=
  let v1545 : Index := Scalar.indexCast v1
  let c158 : Index := 158#32
  ![v1545.toNat, 158]
def k0_off145 (v1 : BitVec 32) : Fin 2 → Nat :=
  let v1548 : Index := Scalar.indexCast v1
  let c169 : Index := 169#32
  ![v1548.toNat, 169]
def k0_off146 (v1 : BitVec 32) : Fin 2 → Nat :=
  let v1571 : Index := Scalar.indexCast v1
  let c180 : Index := 180#32
  ![v1571.toNat, 180]
def k0_off147 (v1 : BitVec 32) : Fin 2 → Nat :=
  let v1574 : Index := Scalar.indexCast v1
  let c191 : Index := 191#32
  ![v1574.toNat, 191]
def k0_off148 (v1 : BitVec 32) : Fin 2 → Nat :=
  let v1579 : Index := Scalar.indexCast v1
  let c202 : Index := 202#32
  ![v1579.toNat, 202]
def k0_off149 (v1 : BitVec 32) : Fin 2 → Nat :=
  let v1582 : Index := Scalar.indexCast v1
  let c213 : Index := 213#32
  ![v1582.toNat, 213]
def k0_off150 (v1 : BitVec 32) : Fin 2 → Nat :=
  let v1605 : Index := Scalar.indexCast v1
  let c224 : Index := 224#32
  ![v1605.toNat, 224]
def k0_off151 (v1 : BitVec 32) : Fin 2 → Nat :=
  let v1608 : Index := Scalar.indexCast v1
  let c235 : Index := 235#32
  ![v1608.toNat, 235]
def k0_off152 (v1 : BitVec 32) : Fin 2 → Nat :=
  let v1613 : Index := Scalar.indexCast v1
  let c246 : Index := 246#32
  ![v1613.toNat, 246]
def k0_off153 (v1 : BitVec 32) : Fin 2 → Nat :=
  let v1616 : Index := Scalar.indexCast v1
  let c257 : Index := 257#32
  ![v1616.toNat, 257]
def k0_off154 (v1 : BitVec 32) : Fin 2 → Nat :=
  let v1639 : Index := Scalar.indexCast v1
  let c268 : Index := 268#32
  ![v1639.toNat, 268]
def k0_off155 (v1 : BitVec 32) : Fin 2 → Nat :=
  let v1642 : Index := Scalar.indexCast v1
  let c279 : Index := 279#32
  ![v1642.toNat, 279]
def k0_off156 (v1 : BitVec 32) : Fin 2 → Nat :=
  let v1647 : Index := Scalar.indexCast v1
  let c290 : Index := 290#32
  ![v1647.toNat, 290]
def k0_off157 (v1 : BitVec 32) : Fin 2 → Nat :=
  let v1650 : Index := Scalar.indexCast v1
  let c301 : Index := 301#32
  ![v1650.toNat, 301]
def k0_off158 (v1 : BitVec 32) : Fin 2 → Nat :=
  let v1673 : Index := Scalar.indexCast v1
  let c312 : Index := 312#32
  ![v1673.toNat, 312]
def k0_off159 (v1 : BitVec 32) : Fin 2 → Nat :=
  let v1676 : Index := Scalar.indexCast v1
  let c323 : Index := 323#32
  ![v1676.toNat, 323]
def k0_off160 (v1 : BitVec 32) : Fin 2 → Nat :=
  let v1681 : Index := Scalar.indexCast v1
  let c334 : Index := 334#32
  ![v1681.toNat, 334]
def k0_off161 (v1 : BitVec 32) : Fin 2 → Nat :=
  let v1684 : Index := Scalar.indexCast v1
  let c345 : Index := 345#32
  ![v1684.toNat, 345]
def k0_off162 (v1 : BitVec 32) : Fin 2 → Nat :=
  let v1760 : Index := Scalar.indexCast v1
  let c5 : Index := 5#32
  ![v1760.toNat, 5]
def k0_off163 (v1 : BitVec 32) : Fin 2 → Nat :=
  let v1763 : Index := Scalar.indexCast v1
  let c16 : Index := 16#32
  ![v1763.toNat, 16]
def k0_off164 (v1 : BitVec 32) : Fin 2 → Nat :=
  let v1768 : Index := Scalar.indexCast v1
  let c27 : Index := 27#32
  ![v1768.toNat, 27]
def k0_off165 (v1 : BitVec 32) : Fin 2 → Nat :=
  let v1771 : Index := Scalar.indexCast v1
  let c38 : Index := 38#32
  ![v1771.toNat, 38]
def k0_off166 (v1 : BitVec 32) : Fin 2 → Nat :=
  let v1794 : Index := Scalar.indexCast v1
  let c49 : Index := 49#32
  ![v1794.toNat, 49]
def k0_off167 (v1 : BitVec 32) : Fin 2 → Nat :=
  let v1797 : Index := Scalar.indexCast v1
  let c60 : Index := 60#32
  ![v1797.toNat, 60]
def k0_off168 (v1 : BitVec 32) : Fin 2 → Nat :=
  let v1802 : Index := Scalar.indexCast v1
  let c71 : Index := 71#32
  ![v1802.toNat, 71]
def k0_off169 (v1 : BitVec 32) : Fin 2 → Nat :=
  let v1805 : Index := Scalar.indexCast v1
  let c82 : Index := 82#32
  ![v1805.toNat, 82]
def k0_off170 (v1 : BitVec 32) : Fin 2 → Nat :=
  let v1828 : Index := Scalar.indexCast v1
  let c93 : Index := 93#32
  ![v1828.toNat, 93]
def k0_off171 (v1 : BitVec 32) : Fin 2 → Nat :=
  let v1831 : Index := Scalar.indexCast v1
  let c104 : Index := 104#32
  ![v1831.toNat, 104]
def k0_off172 (v1 : BitVec 32) : Fin 2 → Nat :=
  let v1836 : Index := Scalar.indexCast v1
  let c115 : Index := 115#32
  ![v1836.toNat, 115]
def k0_off173 (v1 : BitVec 32) : Fin 2 → Nat :=
  let v1839 : Index := Scalar.indexCast v1
  let c126 : Index := 126#32
  ![v1839.toNat, 126]
def k0_off174 (v1 : BitVec 32) : Fin 2 → Nat :=
  let v1862 : Index := Scalar.indexCast v1
  let c137 : Index := 137#32
  ![v1862.toNat, 137]
def k0_off175 (v1 : BitVec 32) : Fin 2 → Nat :=
  let v1865 : Index := Scalar.indexCast v1
  let c148 : Index := 148#32
  ![v1865.toNat, 148]
def k0_off176 (v1 : BitVec 32) : Fin 2 → Nat :=
  let v1870 : Index := Scalar.indexCast v1
  let c159 : Index := 159#32
  ![v1870.toNat, 159]
def k0_off177 (v1 : BitVec 32) : Fin 2 → Nat :=
  let v1873 : Index := Scalar.indexCast v1
  let c170 : Index := 170#32
  ![v1873.toNat, 170]
def k0_off178 (v1 : BitVec 32) : Fin 2 → Nat :=
  let v1896 : Index := Scalar.indexCast v1
  let c181 : Index := 181#32
  ![v1896.toNat, 181]
def k0_off179 (v1 : BitVec 32) : Fin 2 → Nat :=
  let v1899 : Index := Scalar.indexCast v1
  let c192 : Index := 192#32
  ![v1899.toNat, 192]
def k0_off180 (v1 : BitVec 32) : Fin 2 → Nat :=
  let v1904 : Index := Scalar.indexCast v1
  let c203 : Index := 203#32
  ![v1904.toNat, 203]
def k0_off181 (v1 : BitVec 32) : Fin 2 → Nat :=
  let v1907 : Index := Scalar.indexCast v1
  let c214 : Index := 214#32
  ![v1907.toNat, 214]
def k0_off182 (v1 : BitVec 32) : Fin 2 → Nat :=
  let v1930 : Index := Scalar.indexCast v1
  let c225 : Index := 225#32
  ![v1930.toNat, 225]
def k0_off183 (v1 : BitVec 32) : Fin 2 → Nat :=
  let v1933 : Index := Scalar.indexCast v1
  let c236 : Index := 236#32
  ![v1933.toNat, 236]
def k0_off184 (v1 : BitVec 32) : Fin 2 → Nat :=
  let v1938 : Index := Scalar.indexCast v1
  let c247 : Index := 247#32
  ![v1938.toNat, 247]
def k0_off185 (v1 : BitVec 32) : Fin 2 → Nat :=
  let v1941 : Index := Scalar.indexCast v1
  let c258 : Index := 258#32
  ![v1941.toNat, 258]
def k0_off186 (v1 : BitVec 32) : Fin 2 → Nat :=
  let v1964 : Index := Scalar.indexCast v1
  let c269 : Index := 269#32
  ![v1964.toNat, 269]
def k0_off187 (v1 : BitVec 32) : Fin 2 → Nat :=
  let v1967 : Index := Scalar.indexCast v1
  let c280 : Index := 280#32
  ![v1967.toNat, 280]
def k0_off188 (v1 : BitVec 32) : Fin 2 → Nat :=
  let v1972 : Index := Scalar.indexCast v1
  let c291 : Index := 291#32
  ![v1972.toNat, 291]
def k0_off189 (v1 : BitVec 32) : Fin 2 → Nat :=
  let v1975 : Index := Scalar.indexCast v1
  let c302 : Index := 302#32
  ![v1975.toNat, 302]
def k0_off190 (v1 : BitVec 32) : Fin 2 → Nat :=
  let v1998 : Index := Scalar.indexCast v1
  let c313 : Index := 313#32
  ![v1998.toNat, 313]
def k0_off191 (v1 : BitVec 32) : Fin 2 → Nat :=
  let v2001 : Index := Scalar.indexCast v1
  let c324 : Index := 324#32
  ![v2001.toNat, 324]
def k0_off192 (v1 : BitVec 32) : Fin 2 → Nat :=
  let v2006 : Index := Scalar.indexCast v1
  let c335 : Index := 335#32
  ![v2006.toNat, 335]
def k0_off193 (v1 : BitVec 32) : Fin 2 → Nat :=
  let v2009 : Index := Scalar.indexCast v1
  let c346 : Index := 346#32
  ![v2009.toNat, 346]
def k0_off194 (v1 : BitVec 32) : Fin 2 → Nat :=
  let v2085 : Index := Scalar.indexCast v1
  let c6 : Index := 6#32
  ![v2085.toNat, 6]
def k0_off195 (v1 : BitVec 32) : Fin 2 → Nat :=
  let v2088 : Index := Scalar.indexCast v1
  let c17 : Index := 17#32
  ![v2088.toNat, 17]
def k0_off196 (v1 : BitVec 32) : Fin 2 → Nat :=
  let v2093 : Index := Scalar.indexCast v1
  let c28 : Index := 28#32
  ![v2093.toNat, 28]
def k0_off197 (v1 : BitVec 32) : Fin 2 → Nat :=
  let v2096 : Index := Scalar.indexCast v1
  let c39 : Index := 39#32
  ![v2096.toNat, 39]
def k0_off198 (v1 : BitVec 32) : Fin 2 → Nat :=
  let v2119 : Index := Scalar.indexCast v1
  let c50 : Index := 50#32
  ![v2119.toNat, 50]
def k0_off199 (v1 : BitVec 32) : Fin 2 → Nat :=
  let v2122 : Index := Scalar.indexCast v1
  let c61 : Index := 61#32
  ![v2122.toNat, 61]
def k0_off200 (v1 : BitVec 32) : Fin 2 → Nat :=
  let v2127 : Index := Scalar.indexCast v1
  let c72 : Index := 72#32
  ![v2127.toNat, 72]
def k0_off201 (v1 : BitVec 32) : Fin 2 → Nat :=
  let v2130 : Index := Scalar.indexCast v1
  let c83 : Index := 83#32
  ![v2130.toNat, 83]
def k0_off202 (v1 : BitVec 32) : Fin 2 → Nat :=
  let v2153 : Index := Scalar.indexCast v1
  let c94 : Index := 94#32
  ![v2153.toNat, 94]
def k0_off203 (v1 : BitVec 32) : Fin 2 → Nat :=
  let v2156 : Index := Scalar.indexCast v1
  let c105 : Index := 105#32
  ![v2156.toNat, 105]
def k0_off204 (v1 : BitVec 32) : Fin 2 → Nat :=
  let v2161 : Index := Scalar.indexCast v1
  let c116 : Index := 116#32
  ![v2161.toNat, 116]
def k0_off205 (v1 : BitVec 32) : Fin 2 → Nat :=
  let v2164 : Index := Scalar.indexCast v1
  let c127 : Index := 127#32
  ![v2164.toNat, 127]
def k0_off206 (v1 : BitVec 32) : Fin 2 → Nat :=
  let v2187 : Index := Scalar.indexCast v1
  let c138 : Index := 138#32
  ![v2187.toNat, 138]
def k0_off207 (v1 : BitVec 32) : Fin 2 → Nat :=
  let v2190 : Index := Scalar.indexCast v1
  let c149 : Index := 149#32
  ![v2190.toNat, 149]
def k0_off208 (v1 : BitVec 32) : Fin 2 → Nat :=
  let v2195 : Index := Scalar.indexCast v1
  let c160 : Index := 160#32
  ![v2195.toNat, 160]
def k0_off209 (v1 : BitVec 32) : Fin 2 → Nat :=
  let v2198 : Index := Scalar.indexCast v1
  let c171 : Index := 171#32
  ![v2198.toNat, 171]
def k0_off210 (v1 : BitVec 32) : Fin 2 → Nat :=
  let v2221 : Index := Scalar.indexCast v1
  let c182 : Index := 182#32
  ![v2221.toNat, 182]
def k0_off211 (v1 : BitVec 32) : Fin 2 → Nat :=
  let v2224 : Index := Scalar.indexCast v1
  let c193 : Index := 193#32
  ![v2224.toNat, 193]
def k0_off212 (v1 : BitVec 32) : Fin 2 → Nat :=
  let v2229 : Index := Scalar.indexCast v1
  let c204 : Index := 204#32
  ![v2229.toNat, 204]
def k0_off213 (v1 : BitVec 32) : Fin 2 → Nat :=
  let v2232 : Index := Scalar.indexCast v1
  let c215 : Index := 215#32
  ![v2232.toNat, 215]
def k0_off214 (v1 : BitVec 32) : Fin 2 → Nat :=
  let v2255 : Index := Scalar.indexCast v1
  let c226 : Index := 226#32
  ![v2255.toNat, 226]
def k0_off215 (v1 : BitVec 32) : Fin 2 → Nat :=
  let v2258 : Index := Scalar.indexCast v1
  let c237 : Index := 237#32
  ![v2258.toNat, 237]
def k0_off216 (v1 : BitVec 32) : Fin 2 → Nat :=
  let v2263 : Index := Scalar.indexCast v1
  let c248 : Index := 248#32
  ![v2263.toNat, 248]
def k0_off217 (v1 : BitVec 32) : Fin 2 → Nat :=
  let v2266 : Index := Scalar.indexCast v1
  let c259 : Index := 259#32
  ![v2266.toNat, 259]
def k0_off218 (v1 : BitVec 32) : Fin 2 → Nat :=
  let v2289 : Index := Scalar.indexCast v1
  let c270 : Index := 270#32
  ![v2289.toNat, 270]
def k0_off219 (v1 : BitVec 32) : Fin 2 → Nat :=
  let v2292 : Index := Scalar.indexCast v1
  let c281 : Index := 281#32
  ![v2292.toNat, 281]
def k0_off220 (v1 : BitVec 32) : Fin 2 → Nat :=
  let v2297 : Index := Scalar.indexCast v1
  let c292 : Index := 292#32
  ![v2297.toNat, 292]
def k0_off221 (v1 : BitVec 32) : Fin 2 → Nat :=
  let v2300 : Index := Scalar.indexCast v1
  let c303 : Index := 303#32
  ![v2300.toNat, 303]
def k0_off222 (v1 : BitVec 32) : Fin 2 → Nat :=
  let v2323 : Index := Scalar.indexCast v1
  let c314 : Index := 314#32
  ![v2323.toNat, 314]
def k0_off223 (v1 : BitVec 32) : Fin 2 → Nat :=
  let v2326 : Index := Scalar.indexCast v1
  let c325 : Index := 325#32
  ![v2326.toNat, 325]
def k0_off224 (v1 : BitVec 32) : Fin 2 → Nat :=
  let v2331 : Index := Scalar.indexCast v1
  let c336 : Index := 336#32
  ![v2331.toNat, 336]
def k0_off225 (v1 : BitVec 32) : Fin 2 → Nat :=
  let v2334 : Index := Scalar.indexCast v1
  let c347 : Index := 347#32
  ![v2334.toNat, 347]
def k0_off226 (v1 : BitVec 32) : Fin 2 → Nat :=
  let v2410 : Index := Scalar.indexCast v1
  let c7 : Index := 7#32
  ![v2410.toNat, 7]
def k0_off227 (v1 : BitVec 32) : Fin 2 → Nat :=
  let v2413 : Index := Scalar.indexCast v1
  let c18 : Index := 18#32
  ![v2413.toNat, 18]
def k0_off228 (v1 : BitVec 32) : Fin 2 → Nat :=
  let v2418 : Index := Scalar.indexCast v1
  let c29 : Index := 29#32
  ![v2418.toNat, 29]
def k0_off229 (v1 : BitVec 32) : Fin 2 → Nat :=
  let v2421 : Index := Scalar.indexCast v1
  let c40 : Index := 40#32
  ![v2421.toNat, 40]
def k0_off230 (v1 : BitVec 32) : Fin 2 → Nat :=
  let v2444 : Index := Scalar.indexCast v1
  let c51 : Index := 51#32
  ![v2444.toNat, 51]
def k0_off231 (v1 : BitVec 32) : Fin 2 → Nat :=
  let v2447 : Index := Scalar.indexCast v1
  let c62 : Index := 62#32
  ![v2447.toNat, 62]
def k0_off232 (v1 : BitVec 32) : Fin 2 → Nat :=
  let v2452 : Index := Scalar.indexCast v1
  let c73 : Index := 73#32
  ![v2452.toNat, 73]
def k0_off233 (v1 : BitVec 32) : Fin 2 → Nat :=
  let v2455 : Index := Scalar.indexCast v1
  let c84 : Index := 84#32
  ![v2455.toNat, 84]
def k0_off234 (v1 : BitVec 32) : Fin 2 → Nat :=
  let v2478 : Index := Scalar.indexCast v1
  let c95 : Index := 95#32
  ![v2478.toNat, 95]
def k0_off235 (v1 : BitVec 32) : Fin 2 → Nat :=
  let v2481 : Index := Scalar.indexCast v1
  let c106 : Index := 106#32
  ![v2481.toNat, 106]
def k0_off236 (v1 : BitVec 32) : Fin 2 → Nat :=
  let v2486 : Index := Scalar.indexCast v1
  let c117 : Index := 117#32
  ![v2486.toNat, 117]
def k0_off237 (v1 : BitVec 32) : Fin 2 → Nat :=
  let v2489 : Index := Scalar.indexCast v1
  let c128_810 : Index := 128#32
  ![v2489.toNat, 128]
def k0_off238 (v1 : BitVec 32) : Fin 2 → Nat :=
  let v2512 : Index := Scalar.indexCast v1
  let c139 : Index := 139#32
  ![v2512.toNat, 139]
def k0_off239 (v1 : BitVec 32) : Fin 2 → Nat :=
  let v2515 : Index := Scalar.indexCast v1
  let c150 : Index := 150#32
  ![v2515.toNat, 150]
def k0_off240 (v1 : BitVec 32) : Fin 2 → Nat :=
  let v2520 : Index := Scalar.indexCast v1
  let c161 : Index := 161#32
  ![v2520.toNat, 161]
def k0_off241 (v1 : BitVec 32) : Fin 2 → Nat :=
  let v2523 : Index := Scalar.indexCast v1
  let c172 : Index := 172#32
  ![v2523.toNat, 172]
def k0_off242 (v1 : BitVec 32) : Fin 2 → Nat :=
  let v2546 : Index := Scalar.indexCast v1
  let c183 : Index := 183#32
  ![v2546.toNat, 183]
def k0_off243 (v1 : BitVec 32) : Fin 2 → Nat :=
  let v2549 : Index := Scalar.indexCast v1
  let c194 : Index := 194#32
  ![v2549.toNat, 194]
def k0_off244 (v1 : BitVec 32) : Fin 2 → Nat :=
  let v2554 : Index := Scalar.indexCast v1
  let c205 : Index := 205#32
  ![v2554.toNat, 205]
def k0_off245 (v1 : BitVec 32) : Fin 2 → Nat :=
  let v2557 : Index := Scalar.indexCast v1
  let c216 : Index := 216#32
  ![v2557.toNat, 216]
def k0_off246 (v1 : BitVec 32) : Fin 2 → Nat :=
  let v2580 : Index := Scalar.indexCast v1
  let c227 : Index := 227#32
  ![v2580.toNat, 227]
def k0_off247 (v1 : BitVec 32) : Fin 2 → Nat :=
  let v2583 : Index := Scalar.indexCast v1
  let c238 : Index := 238#32
  ![v2583.toNat, 238]
def k0_off248 (v1 : BitVec 32) : Fin 2 → Nat :=
  let v2588 : Index := Scalar.indexCast v1
  let c249 : Index := 249#32
  ![v2588.toNat, 249]
def k0_off249 (v1 : BitVec 32) : Fin 2 → Nat :=
  let v2591 : Index := Scalar.indexCast v1
  let c260 : Index := 260#32
  ![v2591.toNat, 260]
def k0_off250 (v1 : BitVec 32) : Fin 2 → Nat :=
  let v2614 : Index := Scalar.indexCast v1
  let c271 : Index := 271#32
  ![v2614.toNat, 271]
def k0_off251 (v1 : BitVec 32) : Fin 2 → Nat :=
  let v2617 : Index := Scalar.indexCast v1
  let c282 : Index := 282#32
  ![v2617.toNat, 282]
def k0_off252 (v1 : BitVec 32) : Fin 2 → Nat :=
  let v2622 : Index := Scalar.indexCast v1
  let c293 : Index := 293#32
  ![v2622.toNat, 293]
def k0_off253 (v1 : BitVec 32) : Fin 2 → Nat :=
  let v2625 : Index := Scalar.indexCast v1
  let c304 : Index := 304#32
  ![v2625.toNat, 304]
def k0_off254 (v1 : BitVec 32) : Fin 2 → Nat :=
  let v2648 : Index := Scalar.indexCast v1
  let c315 : Index := 315#32
  ![v2648.toNat, 315]
def k0_off255 (v1 : BitVec 32) : Fin 2 → Nat :=
  let v2651 : Index := Scalar.indexCast v1
  let c326 : Index := 326#32
  ![v2651.toNat, 326]
def k0_off256 (v1 : BitVec 32) : Fin 2 → Nat :=
  let v2656 : Index := Scalar.indexCast v1
  let c337 : Index := 337#32
  ![v2656.toNat, 337]
def k0_off257 (v1 : BitVec 32) : Fin 2 → Nat :=
  let v2659 : Index := Scalar.indexCast v1
  let c348 : Index := 348#32
  ![v2659.toNat, 348]
def k0_off258 (v1 : BitVec 32) : Fin 2 → Nat :=
  let v2735 : Index := Scalar.indexCast v1
  let c8 : Index := 8#32
  ![v2735.toNat, 8]
def k0_off259 (v1 : BitVec 32) : Fin 2 → Nat :=
  let v2738 : Index := Scalar.indexCast v1
  let c19 : Index := 19#32
  ![v2738.toNat, 19]
def k0_off260 (v1 : BitVec 32) : Fin 2 → Nat :=
  let v2743 : Index := Scalar.indexCast v1
  let c30 : Index := 30#32
  ![v2743.toNat, 30]
def k0_off261 (v1 : BitVec 32) : Fin 2 → Nat :=
  let v2746 : Index := Scalar.indexCast v1
  let c41 : Index := 41#32
  ![v2746.toNat, 41]
def k0_off262 (v1 : BitVec 32) : Fin 2 → Nat :=
  let v2769 : Index := Scalar.indexCast v1
  let c52 : Index := 52#32
  ![v2769.toNat, 52]
def k0_off263 (v1 : BitVec 32) : Fin 2 → Nat :=
  let v2772 : Index := Scalar.indexCast v1
  let c63 : Index := 63#32
  ![v2772.toNat, 63]
def k0_off264 (v1 : BitVec 32) : Fin 2 → Nat :=
  let v2777 : Index := Scalar.indexCast v1
  let c74 : Index := 74#32
  ![v2777.toNat, 74]
def k0_off265 (v1 : BitVec 32) : Fin 2 → Nat :=
  let v2780 : Index := Scalar.indexCast v1
  let c85 : Index := 85#32
  ![v2780.toNat, 85]
def k0_off266 (v1 : BitVec 32) : Fin 2 → Nat :=
  let v2803 : Index := Scalar.indexCast v1
  let c96 : Index := 96#32
  ![v2803.toNat, 96]
def k0_off267 (v1 : BitVec 32) : Fin 2 → Nat :=
  let v2806 : Index := Scalar.indexCast v1
  let c107 : Index := 107#32
  ![v2806.toNat, 107]
def k0_off268 (v1 : BitVec 32) : Fin 2 → Nat :=
  let v2811 : Index := Scalar.indexCast v1
  let c118 : Index := 118#32
  ![v2811.toNat, 118]
def k0_off269 (v1 : BitVec 32) : Fin 2 → Nat :=
  let v2814 : Index := Scalar.indexCast v1
  let c129 : Index := 129#32
  ![v2814.toNat, 129]
def k0_off270 (v1 : BitVec 32) : Fin 2 → Nat :=
  let v2837 : Index := Scalar.indexCast v1
  let c140 : Index := 140#32
  ![v2837.toNat, 140]
def k0_off271 (v1 : BitVec 32) : Fin 2 → Nat :=
  let v2840 : Index := Scalar.indexCast v1
  let c151 : Index := 151#32
  ![v2840.toNat, 151]
def k0_off272 (v1 : BitVec 32) : Fin 2 → Nat :=
  let v2845 : Index := Scalar.indexCast v1
  let c162 : Index := 162#32
  ![v2845.toNat, 162]
def k0_off273 (v1 : BitVec 32) : Fin 2 → Nat :=
  let v2848 : Index := Scalar.indexCast v1
  let c173 : Index := 173#32
  ![v2848.toNat, 173]
def k0_off274 (v1 : BitVec 32) : Fin 2 → Nat :=
  let v2871 : Index := Scalar.indexCast v1
  let c184 : Index := 184#32
  ![v2871.toNat, 184]
def k0_off275 (v1 : BitVec 32) : Fin 2 → Nat :=
  let v2874 : Index := Scalar.indexCast v1
  let c195 : Index := 195#32
  ![v2874.toNat, 195]
def k0_off276 (v1 : BitVec 32) : Fin 2 → Nat :=
  let v2879 : Index := Scalar.indexCast v1
  let c206 : Index := 206#32
  ![v2879.toNat, 206]
def k0_off277 (v1 : BitVec 32) : Fin 2 → Nat :=
  let v2882 : Index := Scalar.indexCast v1
  let c217 : Index := 217#32
  ![v2882.toNat, 217]
def k0_off278 (v1 : BitVec 32) : Fin 2 → Nat :=
  let v2905 : Index := Scalar.indexCast v1
  let c228 : Index := 228#32
  ![v2905.toNat, 228]
def k0_off279 (v1 : BitVec 32) : Fin 2 → Nat :=
  let v2908 : Index := Scalar.indexCast v1
  let c239 : Index := 239#32
  ![v2908.toNat, 239]
def k0_off280 (v1 : BitVec 32) : Fin 2 → Nat :=
  let v2913 : Index := Scalar.indexCast v1
  let c250 : Index := 250#32
  ![v2913.toNat, 250]
def k0_off281 (v1 : BitVec 32) : Fin 2 → Nat :=
  let v2916 : Index := Scalar.indexCast v1
  let c261 : Index := 261#32
  ![v2916.toNat, 261]
def k0_off282 (v1 : BitVec 32) : Fin 2 → Nat :=
  let v2939 : Index := Scalar.indexCast v1
  let c272 : Index := 272#32
  ![v2939.toNat, 272]
def k0_off283 (v1 : BitVec 32) : Fin 2 → Nat :=
  let v2942 : Index := Scalar.indexCast v1
  let c283 : Index := 283#32
  ![v2942.toNat, 283]
def k0_off284 (v1 : BitVec 32) : Fin 2 → Nat :=
  let v2947 : Index := Scalar.indexCast v1
  let c294 : Index := 294#32
  ![v2947.toNat, 294]
def k0_off285 (v1 : BitVec 32) : Fin 2 → Nat :=
  let v2950 : Index := Scalar.indexCast v1
  let c305 : Index := 305#32
  ![v2950.toNat, 305]
def k0_off286 (v1 : BitVec 32) : Fin 2 → Nat :=
  let v2973 : Index := Scalar.indexCast v1
  let c316 : Index := 316#32
  ![v2973.toNat, 316]
def k0_off287 (v1 : BitVec 32) : Fin 2 → Nat :=
  let v2976 : Index := Scalar.indexCast v1
  let c327 : Index := 327#32
  ![v2976.toNat, 327]
def k0_off288 (v1 : BitVec 32) : Fin 2 → Nat :=
  let v2981 : Index := Scalar.indexCast v1
  let c338 : Index := 338#32
  ![v2981.toNat, 338]
def k0_off289 (v1 : BitVec 32) : Fin 2 → Nat :=
  let v2984 : Index := Scalar.indexCast v1
  let c349 : Index := 349#32
  ![v2984.toNat, 349]
def k0_off290 (v1 : BitVec 32) : Fin 2 → Nat :=
  let v3060 : Index := Scalar.indexCast v1
  let c9 : Index := 9#32
  ![v3060.toNat, 9]
def k0_off291 (v1 : BitVec 32) : Fin 2 → Nat :=
  let v3063 : Index := Scalar.indexCast v1
  let c20 : Index := 20#32
  ![v3063.toNat, 20]
def k0_off292 (v1 : BitVec 32) : Fin 2 → Nat :=
  let v3068 : Index := Scalar.indexCast v1
  let c31 : Index := 31#32
  ![v3068.toNat, 31]
def k0_off293 (v1 : BitVec 32) : Fin 2 → Nat :=
  let v3071 : Index := Scalar.indexCast v1
  let c42 : Index := 42#32
  ![v3071.toNat, 42]
def k0_off294 (v1 : BitVec 32) : Fin 2 → Nat :=
  let v3094 : Index := Scalar.indexCast v1
  let c53 : Index := 53#32
  ![v3094.toNat, 53]
def k0_off295 (v1 : BitVec 32) : Fin 2 → Nat :=
  let v3097 : Index := Scalar.indexCast v1
  let c64 : Index := 64#32
  ![v3097.toNat, 64]
def k0_off296 (v1 : BitVec 32) : Fin 2 → Nat :=
  let v3102 : Index := Scalar.indexCast v1
  let c75 : Index := 75#32
  ![v3102.toNat, 75]
def k0_off297 (v1 : BitVec 32) : Fin 2 → Nat :=
  let v3105 : Index := Scalar.indexCast v1
  let c86 : Index := 86#32
  ![v3105.toNat, 86]
def k0_off298 (v1 : BitVec 32) : Fin 2 → Nat :=
  let v3128 : Index := Scalar.indexCast v1
  let c97 : Index := 97#32
  ![v3128.toNat, 97]
def k0_off299 (v1 : BitVec 32) : Fin 2 → Nat :=
  let v3131 : Index := Scalar.indexCast v1
  let c108 : Index := 108#32
  ![v3131.toNat, 108]
def k0_off300 (v1 : BitVec 32) : Fin 2 → Nat :=
  let v3136 : Index := Scalar.indexCast v1
  let c119 : Index := 119#32
  ![v3136.toNat, 119]
def k0_off301 (v1 : BitVec 32) : Fin 2 → Nat :=
  let v3139 : Index := Scalar.indexCast v1
  let c130 : Index := 130#32
  ![v3139.toNat, 130]
def k0_off302 (v1 : BitVec 32) : Fin 2 → Nat :=
  let v3162 : Index := Scalar.indexCast v1
  let c141 : Index := 141#32
  ![v3162.toNat, 141]
def k0_off303 (v1 : BitVec 32) : Fin 2 → Nat :=
  let v3165 : Index := Scalar.indexCast v1
  let c152 : Index := 152#32
  ![v3165.toNat, 152]
def k0_off304 (v1 : BitVec 32) : Fin 2 → Nat :=
  let v3170 : Index := Scalar.indexCast v1
  let c163 : Index := 163#32
  ![v3170.toNat, 163]
def k0_off305 (v1 : BitVec 32) : Fin 2 → Nat :=
  let v3173 : Index := Scalar.indexCast v1
  let c174 : Index := 174#32
  ![v3173.toNat, 174]
def k0_off306 (v1 : BitVec 32) : Fin 2 → Nat :=
  let v3196 : Index := Scalar.indexCast v1
  let c185 : Index := 185#32
  ![v3196.toNat, 185]
def k0_off307 (v1 : BitVec 32) : Fin 2 → Nat :=
  let v3199 : Index := Scalar.indexCast v1
  let c196 : Index := 196#32
  ![v3199.toNat, 196]
def k0_off308 (v1 : BitVec 32) : Fin 2 → Nat :=
  let v3204 : Index := Scalar.indexCast v1
  let c207 : Index := 207#32
  ![v3204.toNat, 207]
def k0_off309 (v1 : BitVec 32) : Fin 2 → Nat :=
  let v3207 : Index := Scalar.indexCast v1
  let c218 : Index := 218#32
  ![v3207.toNat, 218]
def k0_off310 (v1 : BitVec 32) : Fin 2 → Nat :=
  let v3230 : Index := Scalar.indexCast v1
  let c229 : Index := 229#32
  ![v3230.toNat, 229]
def k0_off311 (v1 : BitVec 32) : Fin 2 → Nat :=
  let v3233 : Index := Scalar.indexCast v1
  let c240 : Index := 240#32
  ![v3233.toNat, 240]
def k0_off312 (v1 : BitVec 32) : Fin 2 → Nat :=
  let v3238 : Index := Scalar.indexCast v1
  let c251 : Index := 251#32
  ![v3238.toNat, 251]
def k0_off313 (v1 : BitVec 32) : Fin 2 → Nat :=
  let v3241 : Index := Scalar.indexCast v1
  let c262 : Index := 262#32
  ![v3241.toNat, 262]
def k0_off314 (v1 : BitVec 32) : Fin 2 → Nat :=
  let v3264 : Index := Scalar.indexCast v1
  let c273 : Index := 273#32
  ![v3264.toNat, 273]
def k0_off315 (v1 : BitVec 32) : Fin 2 → Nat :=
  let v3267 : Index := Scalar.indexCast v1
  let c284 : Index := 284#32
  ![v3267.toNat, 284]
def k0_off316 (v1 : BitVec 32) : Fin 2 → Nat :=
  let v3272 : Index := Scalar.indexCast v1
  let c295 : Index := 295#32
  ![v3272.toNat, 295]
def k0_off317 (v1 : BitVec 32) : Fin 2 → Nat :=
  let v3275 : Index := Scalar.indexCast v1
  let c306 : Index := 306#32
  ![v3275.toNat, 306]
def k0_off318 (v1 : BitVec 32) : Fin 2 → Nat :=
  let v3298 : Index := Scalar.indexCast v1
  let c317 : Index := 317#32
  ![v3298.toNat, 317]
def k0_off319 (v1 : BitVec 32) : Fin 2 → Nat :=
  let v3301 : Index := Scalar.indexCast v1
  let c328 : Index := 328#32
  ![v3301.toNat, 328]
def k0_off320 (v1 : BitVec 32) : Fin 2 → Nat :=
  let v3306 : Index := Scalar.indexCast v1
  let c339 : Index := 339#32
  ![v3306.toNat, 339]
def k0_off321 (v1 : BitVec 32) : Fin 2 → Nat :=
  let v3309 : Index := Scalar.indexCast v1
  let c350 : Index := 350#32
  ![v3309.toNat, 350]
def k0_off322 (v1 : BitVec 32) : Fin 2 → Nat :=
  let v3385 : Index := Scalar.indexCast v1
  let c10 : Index := 10#32
  ![v3385.toNat, 10]
def k0_off323 (v1 : BitVec 32) : Fin 2 → Nat :=
  let v3388 : Index := Scalar.indexCast v1
  let c21 : Index := 21#32
  ![v3388.toNat, 21]
def k0_off324 (v1 : BitVec 32) : Fin 2 → Nat :=
  let v3393 : Index := Scalar.indexCast v1
  let c32 : Index := 32#32
  ![v3393.toNat, 32]
def k0_off325 (v1 : BitVec 32) : Fin 2 → Nat :=
  let v3396 : Index := Scalar.indexCast v1
  let c43 : Index := 43#32
  ![v3396.toNat, 43]
def k0_off326 (v1 : BitVec 32) : Fin 2 → Nat :=
  let v3419 : Index := Scalar.indexCast v1
  let c54 : Index := 54#32
  ![v3419.toNat, 54]
def k0_off327 (v1 : BitVec 32) : Fin 2 → Nat :=
  let v3422 : Index := Scalar.indexCast v1
  let c65 : Index := 65#32
  ![v3422.toNat, 65]
def k0_off328 (v1 : BitVec 32) : Fin 2 → Nat :=
  let v3427 : Index := Scalar.indexCast v1
  let c76 : Index := 76#32
  ![v3427.toNat, 76]
def k0_off329 (v1 : BitVec 32) : Fin 2 → Nat :=
  let v3430 : Index := Scalar.indexCast v1
  let c87 : Index := 87#32
  ![v3430.toNat, 87]
def k0_off330 (v1 : BitVec 32) : Fin 2 → Nat :=
  let v3453 : Index := Scalar.indexCast v1
  let c98 : Index := 98#32
  ![v3453.toNat, 98]
def k0_off331 (v1 : BitVec 32) : Fin 2 → Nat :=
  let v3456 : Index := Scalar.indexCast v1
  let c109 : Index := 109#32
  ![v3456.toNat, 109]
def k0_off332 (v1 : BitVec 32) : Fin 2 → Nat :=
  let v3461 : Index := Scalar.indexCast v1
  let c120 : Index := 120#32
  ![v3461.toNat, 120]
def k0_off333 (v1 : BitVec 32) : Fin 2 → Nat :=
  let v3464 : Index := Scalar.indexCast v1
  let c131 : Index := 131#32
  ![v3464.toNat, 131]
def k0_off334 (v1 : BitVec 32) : Fin 2 → Nat :=
  let v3487 : Index := Scalar.indexCast v1
  let c142 : Index := 142#32
  ![v3487.toNat, 142]
def k0_off335 (v1 : BitVec 32) : Fin 2 → Nat :=
  let v3490 : Index := Scalar.indexCast v1
  let c153 : Index := 153#32
  ![v3490.toNat, 153]
def k0_off336 (v1 : BitVec 32) : Fin 2 → Nat :=
  let v3495 : Index := Scalar.indexCast v1
  let c164 : Index := 164#32
  ![v3495.toNat, 164]
def k0_off337 (v1 : BitVec 32) : Fin 2 → Nat :=
  let v3498 : Index := Scalar.indexCast v1
  let c175 : Index := 175#32
  ![v3498.toNat, 175]
def k0_off338 (v1 : BitVec 32) : Fin 2 → Nat :=
  let v3521 : Index := Scalar.indexCast v1
  let c186 : Index := 186#32
  ![v3521.toNat, 186]
def k0_off339 (v1 : BitVec 32) : Fin 2 → Nat :=
  let v3524 : Index := Scalar.indexCast v1
  let c197 : Index := 197#32
  ![v3524.toNat, 197]
def k0_off340 (v1 : BitVec 32) : Fin 2 → Nat :=
  let v3529 : Index := Scalar.indexCast v1
  let c208 : Index := 208#32
  ![v3529.toNat, 208]
def k0_off341 (v1 : BitVec 32) : Fin 2 → Nat :=
  let v3532 : Index := Scalar.indexCast v1
  let c219 : Index := 219#32
  ![v3532.toNat, 219]
def k0_off342 (v1 : BitVec 32) : Fin 2 → Nat :=
  let v3555 : Index := Scalar.indexCast v1
  let c230 : Index := 230#32
  ![v3555.toNat, 230]
def k0_off343 (v1 : BitVec 32) : Fin 2 → Nat :=
  let v3558 : Index := Scalar.indexCast v1
  let c241 : Index := 241#32
  ![v3558.toNat, 241]
def k0_off344 (v1 : BitVec 32) : Fin 2 → Nat :=
  let v3563 : Index := Scalar.indexCast v1
  let c252 : Index := 252#32
  ![v3563.toNat, 252]
def k0_off345 (v1 : BitVec 32) : Fin 2 → Nat :=
  let v3566 : Index := Scalar.indexCast v1
  let c263 : Index := 263#32
  ![v3566.toNat, 263]
def k0_off346 (v1 : BitVec 32) : Fin 2 → Nat :=
  let v3589 : Index := Scalar.indexCast v1
  let c274 : Index := 274#32
  ![v3589.toNat, 274]
def k0_off347 (v1 : BitVec 32) : Fin 2 → Nat :=
  let v3592 : Index := Scalar.indexCast v1
  let c285 : Index := 285#32
  ![v3592.toNat, 285]
def k0_off348 (v1 : BitVec 32) : Fin 2 → Nat :=
  let v3597 : Index := Scalar.indexCast v1
  let c296 : Index := 296#32
  ![v3597.toNat, 296]
def k0_off349 (v1 : BitVec 32) : Fin 2 → Nat :=
  let v3600 : Index := Scalar.indexCast v1
  let c307 : Index := 307#32
  ![v3600.toNat, 307]
def k0_off350 (v1 : BitVec 32) : Fin 2 → Nat :=
  let v3623 : Index := Scalar.indexCast v1
  let c318 : Index := 318#32
  ![v3623.toNat, 318]
def k0_off351 (v1 : BitVec 32) : Fin 2 → Nat :=
  let v3626 : Index := Scalar.indexCast v1
  let c329 : Index := 329#32
  ![v3626.toNat, 329]
def k0_off352 (v1 : BitVec 32) : Fin 2 → Nat :=
  let v3631 : Index := Scalar.indexCast v1
  let c340 : Index := 340#32
  ![v3631.toNat, 340]
def k0_off353 (v1 : BitVec 32) : Fin 2 → Nat :=
  let v3634 : Index := Scalar.indexCast v1
  let c351 : Index := 351#32
  ![v3634.toNat, 351]
def k0_off354 (v1 : BitVec 32) : Fin 2 → Nat :=
  let v3712 : Index := Scalar.indexCast v1
  let c0_1209 : Index := 0#32
  ![v3712.toNat, 0]
def k0_off355 (v1 : BitVec 32) : Fin 2 → Nat :=
  let v3716 : Index := Scalar.indexCast v1
  let c1_1212 : Index := 1#32
  ![v3716.toNat, 1]
def k0_off356 (v1 : BitVec 32) : Fin 2 → Nat :=
  let v3720 : Index := Scalar.indexCast v1
  let c16_1215 : Index := 16#32
  ![v3720.toNat, 16]
def k0_off357 (v1 : BitVec 32) : Fin 2 → Nat :=
  let v3724 : Index := Scalar.indexCast v1
  let c17_1218 : Index := 17#32
  ![v3724.toNat, 17]
def k0_off358 (v1 : BitVec 32) : Fin 2 → Nat :=
  let v3746 : Index := Scalar.indexCast v1
  let c32_1224 : Index := 32#32
  ![v3746.toNat, 32]
def k0_off359 (v1 : BitVec 32) : Fin 2 → Nat :=
  let v3750 : Index := Scalar.indexCast v1
  let c33_1227 : Index := 33#32
  ![v3750.toNat, 33]
def k0_off360 (v1 : BitVec 32) : Fin 2 → Nat :=
  let v3754 : Index := Scalar.indexCast v1
  let c48_1230 : Index := 48#32
  ![v3754.toNat, 48]
def k0_off361 (v1 : BitVec 32) : Fin 2 → Nat :=
  let v3758 : Index := Scalar.indexCast v1
  let c49_1233 : Index := 49#32
  ![v3758.toNat, 49]
def k0_off362 (v1 : BitVec 32) : Fin 2 → Nat :=
  let v3780 : Index := Scalar.indexCast v1
  let c64_1239 : Index := 64#32
  ![v3780.toNat, 64]
def k0_off363 (v1 : BitVec 32) : Fin 2 → Nat :=
  let v3784 : Index := Scalar.indexCast v1
  let c65_1242 : Index := 65#32
  ![v3784.toNat, 65]
def k0_off364 (v1 : BitVec 32) : Fin 2 → Nat :=
  let v3788 : Index := Scalar.indexCast v1
  let c80_1245 : Index := 80#32
  ![v3788.toNat, 80]
def k0_off365 (v1 : BitVec 32) : Fin 2 → Nat :=
  let v3792 : Index := Scalar.indexCast v1
  let c81_1248 : Index := 81#32
  ![v3792.toNat, 81]
def k0_off366 (v1 : BitVec 32) : Fin 2 → Nat :=
  let v3814 : Index := Scalar.indexCast v1
  let c96_1254 : Index := 96#32
  ![v3814.toNat, 96]
def k0_off367 (v1 : BitVec 32) : Fin 2 → Nat :=
  let v3818 : Index := Scalar.indexCast v1
  let c97_1257 : Index := 97#32
  ![v3818.toNat, 97]
def k0_off368 (v1 : BitVec 32) : Fin 2 → Nat :=
  let v3822 : Index := Scalar.indexCast v1
  let c112_1260 : Index := 112#32
  ![v3822.toNat, 112]
def k0_off369 (v1 : BitVec 32) : Fin 2 → Nat :=
  let v3826 : Index := Scalar.indexCast v1
  let c113_1263 : Index := 113#32
  ![v3826.toNat, 113]
def k0_off370 (v1 : BitVec 32) : Fin 2 → Nat :=
  let v3848 : Index := Scalar.indexCast v1
  let c128_1269 : Index := 128#32
  ![v3848.toNat, 128]
def k0_off371 (v1 : BitVec 32) : Fin 2 → Nat :=
  let v3852 : Index := Scalar.indexCast v1
  let c129_1272 : Index := 129#32
  ![v3852.toNat, 129]
def k0_off372 (v1 : BitVec 32) : Fin 2 → Nat :=
  let v3856 : Index := Scalar.indexCast v1
  let c144_1275 : Index := 144#32
  ![v3856.toNat, 144]
def k0_off373 (v1 : BitVec 32) : Fin 2 → Nat :=
  let v3860 : Index := Scalar.indexCast v1
  let c145_1278 : Index := 145#32
  ![v3860.toNat, 145]
def k0_off374 (v1 : BitVec 32) : Fin 2 → Nat :=
  let v3882 : Index := Scalar.indexCast v1
  let c160_1284 : Index := 160#32
  ![v3882.toNat, 160]
def k0_off375 (v1 : BitVec 32) : Fin 2 → Nat :=
  let v3886 : Index := Scalar.indexCast v1
  let c161_1287 : Index := 161#32
  ![v3886.toNat, 161]
def k0_off376 (v1 : BitVec 32) : Fin 2 → Nat :=
  let v3903 : Index := Scalar.indexCast v1
  let c2_1296 : Index := 2#32
  ![v3903.toNat, 2]
def k0_off377 (v1 : BitVec 32) : Fin 2 → Nat :=
  let v3907 : Index := Scalar.indexCast v1
  let c3_1299 : Index := 3#32
  ![v3907.toNat, 3]
def k0_off378 (v1 : BitVec 32) : Fin 2 → Nat :=
  let v3911 : Index := Scalar.indexCast v1
  let c18_1302 : Index := 18#32
  ![v3911.toNat, 18]
def k0_off379 (v1 : BitVec 32) : Fin 2 → Nat :=
  let v3915 : Index := Scalar.indexCast v1
  let c19_1305 : Index := 19#32
  ![v3915.toNat, 19]
def k0_off380 (v1 : BitVec 32) : Fin 2 → Nat :=
  let v3937 : Index := Scalar.indexCast v1
  let c34_1311 : Index := 34#32
  ![v3937.toNat, 34]
def k0_off381 (v1 : BitVec 32) : Fin 2 → Nat :=
  let v3941 : Index := Scalar.indexCast v1
  let c35_1314 : Index := 35#32
  ![v3941.toNat, 35]
def k0_off382 (v1 : BitVec 32) : Fin 2 → Nat :=
  let v3945 : Index := Scalar.indexCast v1
  let c50_1317 : Index := 50#32
  ![v3945.toNat, 50]
def k0_off383 (v1 : BitVec 32) : Fin 2 → Nat :=
  let v3949 : Index := Scalar.indexCast v1
  let c51_1320 : Index := 51#32
  ![v3949.toNat, 51]
def k0_off384 (v1 : BitVec 32) : Fin 2 → Nat :=
  let v3971 : Index := Scalar.indexCast v1
  let c66_1326 : Index := 66#32
  ![v3971.toNat, 66]
def k0_off385 (v1 : BitVec 32) : Fin 2 → Nat :=
  let v3975 : Index := Scalar.indexCast v1
  let c67_1329 : Index := 67#32
  ![v3975.toNat, 67]
def k0_off386 (v1 : BitVec 32) : Fin 2 → Nat :=
  let v3979 : Index := Scalar.indexCast v1
  let c82_1332 : Index := 82#32
  ![v3979.toNat, 82]
def k0_off387 (v1 : BitVec 32) : Fin 2 → Nat :=
  let v3983 : Index := Scalar.indexCast v1
  let c83_1335 : Index := 83#32
  ![v3983.toNat, 83]
def k0_off388 (v1 : BitVec 32) : Fin 2 → Nat :=
  let v4005 : Index := Scalar.indexCast v1
  let c98_1341 : Index := 98#32
  ![v4005.toNat, 98]
def k0_off389 (v1 : BitVec 32) : Fin 2 → Nat :=
  let v4009 : Index := Scalar.indexCast v1
  let c99_1344 : Index := 99#32
  ![v4009.toNat, 99]
def k0_off390 (v1 : BitVec 32) : Fin 2 → Nat :=
  let v4013 : Index := Scalar.indexCast v1
  let c114_1347 : Index := 114#32
  ![v4013.toNat, 114]
def k0_off391 (v1 : BitVec 32) : Fin 2 → Nat :=
  let v4017 : Index := Scalar.indexCast v1
  let c115_1350 : Index := 115#32
  ![v4017.toNat, 115]
def k0_off392 (v1 : BitVec 32) : Fin 2 → Nat :=
  let v4039 : Index := Scalar.indexCast v1
  let c130_1356 : Index := 130#32
  ![v4039.toNat, 130]
def k0_off393 (v1 : BitVec 32) : Fin 2 → Nat :=
  let v4043 : Index := Scalar.indexCast v1
  let c131_1359 : Index := 131#32
  ![v4043.toNat, 131]
def k0_off394 (v1 : BitVec 32) : Fin 2 → Nat :=
  let v4047 : Index := Scalar.indexCast v1
  let c146_1362 : Index := 146#32
  ![v4047.toNat, 146]
def k0_off395 (v1 : BitVec 32) : Fin 2 → Nat :=
  let v4051 : Index := Scalar.indexCast v1
  let c147_1365 : Index := 147#32
  ![v4051.toNat, 147]
def k0_off396 (v1 : BitVec 32) : Fin 2 → Nat :=
  let v4073 : Index := Scalar.indexCast v1
  let c162_1371 : Index := 162#32
  ![v4073.toNat, 162]
def k0_off397 (v1 : BitVec 32) : Fin 2 → Nat :=
  let v4077 : Index := Scalar.indexCast v1
  let c163_1374 : Index := 163#32
  ![v4077.toNat, 163]
def k0_off398 (v1 : BitVec 32) : Fin 2 → Nat :=
  let v4094 : Index := Scalar.indexCast v1
  let c4_1383 : Index := 4#32
  ![v4094.toNat, 4]
def k0_off399 (v1 : BitVec 32) : Fin 2 → Nat :=
  let v4098 : Index := Scalar.indexCast v1
  let c5_1386 : Index := 5#32
  ![v4098.toNat, 5]
def k0_off400 (v1 : BitVec 32) : Fin 2 → Nat :=
  let v4102 : Index := Scalar.indexCast v1
  let c20_1389 : Index := 20#32
  ![v4102.toNat, 20]
def k0_off401 (v1 : BitVec 32) : Fin 2 → Nat :=
  let v4106 : Index := Scalar.indexCast v1
  let c21_1392 : Index := 21#32
  ![v4106.toNat, 21]
def k0_off402 (v1 : BitVec 32) : Fin 2 → Nat :=
  let v4128 : Index := Scalar.indexCast v1
  let c36_1398 : Index := 36#32
  ![v4128.toNat, 36]
def k0_off403 (v1 : BitVec 32) : Fin 2 → Nat :=
  let v4132 : Index := Scalar.indexCast v1
  let c37_1401 : Index := 37#32
  ![v4132.toNat, 37]
def k0_off404 (v1 : BitVec 32) : Fin 2 → Nat :=
  let v4136 : Index := Scalar.indexCast v1
  let c52_1404 : Index := 52#32
  ![v4136.toNat, 52]
def k0_off405 (v1 : BitVec 32) : Fin 2 → Nat :=
  let v4140 : Index := Scalar.indexCast v1
  let c53_1407 : Index := 53#32
  ![v4140.toNat, 53]
def k0_off406 (v1 : BitVec 32) : Fin 2 → Nat :=
  let v4162 : Index := Scalar.indexCast v1
  let c68_1413 : Index := 68#32
  ![v4162.toNat, 68]
def k0_off407 (v1 : BitVec 32) : Fin 2 → Nat :=
  let v4166 : Index := Scalar.indexCast v1
  let c69_1416 : Index := 69#32
  ![v4166.toNat, 69]
def k0_off408 (v1 : BitVec 32) : Fin 2 → Nat :=
  let v4170 : Index := Scalar.indexCast v1
  let c84_1419 : Index := 84#32
  ![v4170.toNat, 84]
def k0_off409 (v1 : BitVec 32) : Fin 2 → Nat :=
  let v4174 : Index := Scalar.indexCast v1
  let c85_1422 : Index := 85#32
  ![v4174.toNat, 85]
def k0_off410 (v1 : BitVec 32) : Fin 2 → Nat :=
  let v4196 : Index := Scalar.indexCast v1
  let c100_1428 : Index := 100#32
  ![v4196.toNat, 100]
def k0_off411 (v1 : BitVec 32) : Fin 2 → Nat :=
  let v4200 : Index := Scalar.indexCast v1
  let c101_1431 : Index := 101#32
  ![v4200.toNat, 101]
def k0_off412 (v1 : BitVec 32) : Fin 2 → Nat :=
  let v4204 : Index := Scalar.indexCast v1
  let c116_1434 : Index := 116#32
  ![v4204.toNat, 116]
def k0_off413 (v1 : BitVec 32) : Fin 2 → Nat :=
  let v4208 : Index := Scalar.indexCast v1
  let c117_1437 : Index := 117#32
  ![v4208.toNat, 117]
def k0_off414 (v1 : BitVec 32) : Fin 2 → Nat :=
  let v4230 : Index := Scalar.indexCast v1
  let c132_1443 : Index := 132#32
  ![v4230.toNat, 132]
def k0_off415 (v1 : BitVec 32) : Fin 2 → Nat :=
  let v4234 : Index := Scalar.indexCast v1
  let c133_1446 : Index := 133#32
  ![v4234.toNat, 133]
def k0_off416 (v1 : BitVec 32) : Fin 2 → Nat :=
  let v4238 : Index := Scalar.indexCast v1
  let c148_1449 : Index := 148#32
  ![v4238.toNat, 148]
def k0_off417 (v1 : BitVec 32) : Fin 2 → Nat :=
  let v4242 : Index := Scalar.indexCast v1
  let c149_1452 : Index := 149#32
  ![v4242.toNat, 149]
def k0_off418 (v1 : BitVec 32) : Fin 2 → Nat :=
  let v4264 : Index := Scalar.indexCast v1
  let c164_1458 : Index := 164#32
  ![v4264.toNat, 164]
def k0_off419 (v1 : BitVec 32) : Fin 2 → Nat :=
  let v4268 : Index := Scalar.indexCast v1
  let c165_1461 : Index := 165#32
  ![v4268.toNat, 165]
def k0_off420 (v1 : BitVec 32) : Fin 2 → Nat :=
  let v4285 : Index := Scalar.indexCast v1
  let c6_1470 : Index := 6#32
  ![v4285.toNat, 6]
def k0_off421 (v1 : BitVec 32) : Fin 2 → Nat :=
  let v4289 : Index := Scalar.indexCast v1
  let c7_1473 : Index := 7#32
  ![v4289.toNat, 7]
def k0_off422 (v1 : BitVec 32) : Fin 2 → Nat :=
  let v4293 : Index := Scalar.indexCast v1
  let c22_1476 : Index := 22#32
  ![v4293.toNat, 22]
def k0_off423 (v1 : BitVec 32) : Fin 2 → Nat :=
  let v4297 : Index := Scalar.indexCast v1
  let c23_1479 : Index := 23#32
  ![v4297.toNat, 23]
def k0_off424 (v1 : BitVec 32) : Fin 2 → Nat :=
  let v4319 : Index := Scalar.indexCast v1
  let c38_1485 : Index := 38#32
  ![v4319.toNat, 38]
def k0_off425 (v1 : BitVec 32) : Fin 2 → Nat :=
  let v4323 : Index := Scalar.indexCast v1
  let c39_1488 : Index := 39#32
  ![v4323.toNat, 39]
def k0_off426 (v1 : BitVec 32) : Fin 2 → Nat :=
  let v4327 : Index := Scalar.indexCast v1
  let c54_1491 : Index := 54#32
  ![v4327.toNat, 54]
def k0_off427 (v1 : BitVec 32) : Fin 2 → Nat :=
  let v4331 : Index := Scalar.indexCast v1
  let c55_1494 : Index := 55#32
  ![v4331.toNat, 55]
def k0_off428 (v1 : BitVec 32) : Fin 2 → Nat :=
  let v4353 : Index := Scalar.indexCast v1
  let c70_1500 : Index := 70#32
  ![v4353.toNat, 70]
def k0_off429 (v1 : BitVec 32) : Fin 2 → Nat :=
  let v4357 : Index := Scalar.indexCast v1
  let c71_1503 : Index := 71#32
  ![v4357.toNat, 71]
def k0_off430 (v1 : BitVec 32) : Fin 2 → Nat :=
  let v4361 : Index := Scalar.indexCast v1
  let c86_1506 : Index := 86#32
  ![v4361.toNat, 86]
def k0_off431 (v1 : BitVec 32) : Fin 2 → Nat :=
  let v4365 : Index := Scalar.indexCast v1
  let c87_1509 : Index := 87#32
  ![v4365.toNat, 87]
def k0_off432 (v1 : BitVec 32) : Fin 2 → Nat :=
  let v4387 : Index := Scalar.indexCast v1
  let c102_1515 : Index := 102#32
  ![v4387.toNat, 102]
def k0_off433 (v1 : BitVec 32) : Fin 2 → Nat :=
  let v4391 : Index := Scalar.indexCast v1
  let c103_1518 : Index := 103#32
  ![v4391.toNat, 103]
def k0_off434 (v1 : BitVec 32) : Fin 2 → Nat :=
  let v4395 : Index := Scalar.indexCast v1
  let c118_1521 : Index := 118#32
  ![v4395.toNat, 118]
def k0_off435 (v1 : BitVec 32) : Fin 2 → Nat :=
  let v4399 : Index := Scalar.indexCast v1
  let c119_1524 : Index := 119#32
  ![v4399.toNat, 119]
def k0_off436 (v1 : BitVec 32) : Fin 2 → Nat :=
  let v4421 : Index := Scalar.indexCast v1
  let c134_1530 : Index := 134#32
  ![v4421.toNat, 134]
def k0_off437 (v1 : BitVec 32) : Fin 2 → Nat :=
  let v4425 : Index := Scalar.indexCast v1
  let c135_1533 : Index := 135#32
  ![v4425.toNat, 135]
def k0_off438 (v1 : BitVec 32) : Fin 2 → Nat :=
  let v4429 : Index := Scalar.indexCast v1
  let c150_1536 : Index := 150#32
  ![v4429.toNat, 150]
def k0_off439 (v1 : BitVec 32) : Fin 2 → Nat :=
  let v4433 : Index := Scalar.indexCast v1
  let c151_1539 : Index := 151#32
  ![v4433.toNat, 151]
def k0_off440 (v1 : BitVec 32) : Fin 2 → Nat :=
  let v4455 : Index := Scalar.indexCast v1
  let c166_1545 : Index := 166#32
  ![v4455.toNat, 166]
def k0_off441 (v1 : BitVec 32) : Fin 2 → Nat :=
  let v4459 : Index := Scalar.indexCast v1
  let c167_1548 : Index := 167#32
  ![v4459.toNat, 167]
def k0_off442 (v1 : BitVec 32) : Fin 2 → Nat :=
  let v4476 : Index := Scalar.indexCast v1
  let c8_1557 : Index := 8#32
  ![v4476.toNat, 8]
def k0_off443 (v1 : BitVec 32) : Fin 2 → Nat :=
  let v4480 : Index := Scalar.indexCast v1
  let c9_1560 : Index := 9#32
  ![v4480.toNat, 9]
def k0_off444 (v1 : BitVec 32) : Fin 2 → Nat :=
  let v4484 : Index := Scalar.indexCast v1
  let c24_1563 : Index := 24#32
  ![v4484.toNat, 24]
def k0_off445 (v1 : BitVec 32) : Fin 2 → Nat :=
  let v4488 : Index := Scalar.indexCast v1
  let c25_1566 : Index := 25#32
  ![v4488.toNat, 25]
def k0_off446 (v1 : BitVec 32) : Fin 2 → Nat :=
  let v4510 : Index := Scalar.indexCast v1
  let c40_1572 : Index := 40#32
  ![v4510.toNat, 40]
def k0_off447 (v1 : BitVec 32) : Fin 2 → Nat :=
  let v4514 : Index := Scalar.indexCast v1
  let c41_1575 : Index := 41#32
  ![v4514.toNat, 41]
def k0_off448 (v1 : BitVec 32) : Fin 2 → Nat :=
  let v4518 : Index := Scalar.indexCast v1
  let c56_1578 : Index := 56#32
  ![v4518.toNat, 56]
def k0_off449 (v1 : BitVec 32) : Fin 2 → Nat :=
  let v4522 : Index := Scalar.indexCast v1
  let c57_1581 : Index := 57#32
  ![v4522.toNat, 57]
def k0_off450 (v1 : BitVec 32) : Fin 2 → Nat :=
  let v4544 : Index := Scalar.indexCast v1
  let c72_1587 : Index := 72#32
  ![v4544.toNat, 72]
def k0_off451 (v1 : BitVec 32) : Fin 2 → Nat :=
  let v4548 : Index := Scalar.indexCast v1
  let c73_1590 : Index := 73#32
  ![v4548.toNat, 73]
def k0_off452 (v1 : BitVec 32) : Fin 2 → Nat :=
  let v4552 : Index := Scalar.indexCast v1
  let c88_1593 : Index := 88#32
  ![v4552.toNat, 88]
def k0_off453 (v1 : BitVec 32) : Fin 2 → Nat :=
  let v4556 : Index := Scalar.indexCast v1
  let c89_1596 : Index := 89#32
  ![v4556.toNat, 89]
def k0_off454 (v1 : BitVec 32) : Fin 2 → Nat :=
  let v4578 : Index := Scalar.indexCast v1
  let c104_1602 : Index := 104#32
  ![v4578.toNat, 104]
def k0_off455 (v1 : BitVec 32) : Fin 2 → Nat :=
  let v4582 : Index := Scalar.indexCast v1
  let c105_1605 : Index := 105#32
  ![v4582.toNat, 105]
def k0_off456 (v1 : BitVec 32) : Fin 2 → Nat :=
  let v4586 : Index := Scalar.indexCast v1
  let c120_1608 : Index := 120#32
  ![v4586.toNat, 120]
def k0_off457 (v1 : BitVec 32) : Fin 2 → Nat :=
  let v4590 : Index := Scalar.indexCast v1
  let c121_1611 : Index := 121#32
  ![v4590.toNat, 121]
def k0_off458 (v1 : BitVec 32) : Fin 2 → Nat :=
  let v4612 : Index := Scalar.indexCast v1
  let c136_1617 : Index := 136#32
  ![v4612.toNat, 136]
def k0_off459 (v1 : BitVec 32) : Fin 2 → Nat :=
  let v4616 : Index := Scalar.indexCast v1
  let c137_1620 : Index := 137#32
  ![v4616.toNat, 137]
def k0_off460 (v1 : BitVec 32) : Fin 2 → Nat :=
  let v4620 : Index := Scalar.indexCast v1
  let c152_1623 : Index := 152#32
  ![v4620.toNat, 152]
def k0_off461 (v1 : BitVec 32) : Fin 2 → Nat :=
  let v4624 : Index := Scalar.indexCast v1
  let c153_1626 : Index := 153#32
  ![v4624.toNat, 153]
def k0_off462 (v1 : BitVec 32) : Fin 2 → Nat :=
  let v4646 : Index := Scalar.indexCast v1
  let c168_1632 : Index := 168#32
  ![v4646.toNat, 168]
def k0_off463 (v1 : BitVec 32) : Fin 2 → Nat :=
  let v4650 : Index := Scalar.indexCast v1
  let c169_1635 : Index := 169#32
  ![v4650.toNat, 169]
def k0_off464 (v1 : BitVec 32) : Fin 2 → Nat :=
  let v4667 : Index := Scalar.indexCast v1
  let c10_1644 : Index := 10#32
  ![v4667.toNat, 10]
def k0_off465 (v1 : BitVec 32) : Fin 2 → Nat :=
  let v4671 : Index := Scalar.indexCast v1
  let c11_1647 : Index := 11#32
  ![v4671.toNat, 11]
def k0_off466 (v1 : BitVec 32) : Fin 2 → Nat :=
  let v4675 : Index := Scalar.indexCast v1
  let c26_1650 : Index := 26#32
  ![v4675.toNat, 26]
def k0_off467 (v1 : BitVec 32) : Fin 2 → Nat :=
  let v4679 : Index := Scalar.indexCast v1
  let c27_1653 : Index := 27#32
  ![v4679.toNat, 27]
def k0_off468 (v1 : BitVec 32) : Fin 2 → Nat :=
  let v4701 : Index := Scalar.indexCast v1
  let c42_1659 : Index := 42#32
  ![v4701.toNat, 42]
def k0_off469 (v1 : BitVec 32) : Fin 2 → Nat :=
  let v4705 : Index := Scalar.indexCast v1
  let c43_1662 : Index := 43#32
  ![v4705.toNat, 43]
def k0_off470 (v1 : BitVec 32) : Fin 2 → Nat :=
  let v4709 : Index := Scalar.indexCast v1
  let c58_1665 : Index := 58#32
  ![v4709.toNat, 58]
def k0_off471 (v1 : BitVec 32) : Fin 2 → Nat :=
  let v4713 : Index := Scalar.indexCast v1
  let c59_1668 : Index := 59#32
  ![v4713.toNat, 59]
def k0_off472 (v1 : BitVec 32) : Fin 2 → Nat :=
  let v4735 : Index := Scalar.indexCast v1
  let c74_1674 : Index := 74#32
  ![v4735.toNat, 74]
def k0_off473 (v1 : BitVec 32) : Fin 2 → Nat :=
  let v4739 : Index := Scalar.indexCast v1
  let c75_1677 : Index := 75#32
  ![v4739.toNat, 75]
def k0_off474 (v1 : BitVec 32) : Fin 2 → Nat :=
  let v4743 : Index := Scalar.indexCast v1
  let c90_1680 : Index := 90#32
  ![v4743.toNat, 90]
def k0_off475 (v1 : BitVec 32) : Fin 2 → Nat :=
  let v4747 : Index := Scalar.indexCast v1
  let c91_1683 : Index := 91#32
  ![v4747.toNat, 91]
def k0_off476 (v1 : BitVec 32) : Fin 2 → Nat :=
  let v4769 : Index := Scalar.indexCast v1
  let c106_1689 : Index := 106#32
  ![v4769.toNat, 106]
def k0_off477 (v1 : BitVec 32) : Fin 2 → Nat :=
  let v4773 : Index := Scalar.indexCast v1
  let c107_1692 : Index := 107#32
  ![v4773.toNat, 107]
def k0_off478 (v1 : BitVec 32) : Fin 2 → Nat :=
  let v4777 : Index := Scalar.indexCast v1
  let c122_1695 : Index := 122#32
  ![v4777.toNat, 122]
def k0_off479 (v1 : BitVec 32) : Fin 2 → Nat :=
  let v4781 : Index := Scalar.indexCast v1
  let c123_1698 : Index := 123#32
  ![v4781.toNat, 123]
def k0_off480 (v1 : BitVec 32) : Fin 2 → Nat :=
  let v4803 : Index := Scalar.indexCast v1
  let c138_1704 : Index := 138#32
  ![v4803.toNat, 138]
def k0_off481 (v1 : BitVec 32) : Fin 2 → Nat :=
  let v4807 : Index := Scalar.indexCast v1
  let c139_1707 : Index := 139#32
  ![v4807.toNat, 139]
def k0_off482 (v1 : BitVec 32) : Fin 2 → Nat :=
  let v4811 : Index := Scalar.indexCast v1
  let c154_1710 : Index := 154#32
  ![v4811.toNat, 154]
def k0_off483 (v1 : BitVec 32) : Fin 2 → Nat :=
  let v4815 : Index := Scalar.indexCast v1
  let c155_1713 : Index := 155#32
  ![v4815.toNat, 155]
def k0_off484 (v1 : BitVec 32) : Fin 2 → Nat :=
  let v4837 : Index := Scalar.indexCast v1
  let c170_1719 : Index := 170#32
  ![v4837.toNat, 170]
def k0_off485 (v1 : BitVec 32) : Fin 2 → Nat :=
  let v4841 : Index := Scalar.indexCast v1
  let c171_1722 : Index := 171#32
  ![v4841.toNat, 171]
def k0_off486 (v1 : BitVec 32) : Fin 2 → Nat :=
  let v4858 : Index := Scalar.indexCast v1
  let c12_1731 : Index := 12#32
  ![v4858.toNat, 12]
def k0_off487 (v1 : BitVec 32) : Fin 2 → Nat :=
  let v4862 : Index := Scalar.indexCast v1
  let c13_1734 : Index := 13#32
  ![v4862.toNat, 13]
def k0_off488 (v1 : BitVec 32) : Fin 2 → Nat :=
  let v4866 : Index := Scalar.indexCast v1
  let c28_1737 : Index := 28#32
  ![v4866.toNat, 28]
def k0_off489 (v1 : BitVec 32) : Fin 2 → Nat :=
  let v4870 : Index := Scalar.indexCast v1
  let c29_1740 : Index := 29#32
  ![v4870.toNat, 29]
def k0_off490 (v1 : BitVec 32) : Fin 2 → Nat :=
  let v4892 : Index := Scalar.indexCast v1
  let c44_1746 : Index := 44#32
  ![v4892.toNat, 44]
def k0_off491 (v1 : BitVec 32) : Fin 2 → Nat :=
  let v4896 : Index := Scalar.indexCast v1
  let c45_1749 : Index := 45#32
  ![v4896.toNat, 45]
def k0_off492 (v1 : BitVec 32) : Fin 2 → Nat :=
  let v4900 : Index := Scalar.indexCast v1
  let c60_1752 : Index := 60#32
  ![v4900.toNat, 60]
def k0_off493 (v1 : BitVec 32) : Fin 2 → Nat :=
  let v4904 : Index := Scalar.indexCast v1
  let c61_1755 : Index := 61#32
  ![v4904.toNat, 61]
def k0_off494 (v1 : BitVec 32) : Fin 2 → Nat :=
  let v4926 : Index := Scalar.indexCast v1
  let c76_1761 : Index := 76#32
  ![v4926.toNat, 76]
def k0_off495 (v1 : BitVec 32) : Fin 2 → Nat :=
  let v4930 : Index := Scalar.indexCast v1
  let c77_1764 : Index := 77#32
  ![v4930.toNat, 77]
def k0_off496 (v1 : BitVec 32) : Fin 2 → Nat :=
  let v4934 : Index := Scalar.indexCast v1
  let c92_1767 : Index := 92#32
  ![v4934.toNat, 92]
def k0_off497 (v1 : BitVec 32) : Fin 2 → Nat :=
  let v4938 : Index := Scalar.indexCast v1
  let c93_1770 : Index := 93#32
  ![v4938.toNat, 93]
def k0_off498 (v1 : BitVec 32) : Fin 2 → Nat :=
  let v4960 : Index := Scalar.indexCast v1
  let c108_1776 : Index := 108#32
  ![v4960.toNat, 108]
def k0_off499 (v1 : BitVec 32) : Fin 2 → Nat :=
  let v4964 : Index := Scalar.indexCast v1
  let c109_1779 : Index := 109#32
  ![v4964.toNat, 109]
def k0_off500 (v1 : BitVec 32) : Fin 2 → Nat :=
  let v4968 : Index := Scalar.indexCast v1
  let c124_1782 : Index := 124#32
  ![v4968.toNat, 124]
def k0_off501 (v1 : BitVec 32) : Fin 2 → Nat :=
  let v4972 : Index := Scalar.indexCast v1
  let c125_1785 : Index := 125#32
  ![v4972.toNat, 125]
def k0_off502 (v1 : BitVec 32) : Fin 2 → Nat :=
  let v4994 : Index := Scalar.indexCast v1
  let c140_1791 : Index := 140#32
  ![v4994.toNat, 140]
def k0_off503 (v1 : BitVec 32) : Fin 2 → Nat :=
  let v4998 : Index := Scalar.indexCast v1
  let c141_1794 : Index := 141#32
  ![v4998.toNat, 141]
def k0_off504 (v1 : BitVec 32) : Fin 2 → Nat :=
  let v5002 : Index := Scalar.indexCast v1
  let c156_1797 : Index := 156#32
  ![v5002.toNat, 156]
def k0_off505 (v1 : BitVec 32) : Fin 2 → Nat :=
  let v5006 : Index := Scalar.indexCast v1
  let c157_1800 : Index := 157#32
  ![v5006.toNat, 157]
def k0_off506 (v1 : BitVec 32) : Fin 2 → Nat :=
  let v5028 : Index := Scalar.indexCast v1
  let c172_1806 : Index := 172#32
  ![v5028.toNat, 172]
def k0_off507 (v1 : BitVec 32) : Fin 2 → Nat :=
  let v5032 : Index := Scalar.indexCast v1
  let c173_1809 : Index := 173#32
  ![v5032.toNat, 173]
def k0_off508 (v1 : BitVec 32) : Fin 2 → Nat :=
  let v5049 : Index := Scalar.indexCast v1
  let c14_1818 : Index := 14#32
  ![v5049.toNat, 14]
def k0_off509 (v1 : BitVec 32) : Fin 2 → Nat :=
  let v5053 : Index := Scalar.indexCast v1
  let c15_1821 : Index := 15#32
  ![v5053.toNat, 15]
def k0_off510 (v1 : BitVec 32) : Fin 2 → Nat :=
  let v5057 : Index := Scalar.indexCast v1
  let c30_1824 : Index := 30#32
  ![v5057.toNat, 30]
def k0_off511 (v1 : BitVec 32) : Fin 2 → Nat :=
  let v5061 : Index := Scalar.indexCast v1
  let c31_1827 : Index := 31#32
  ![v5061.toNat, 31]
def k0_off512 (v1 : BitVec 32) : Fin 2 → Nat :=
  let v5083 : Index := Scalar.indexCast v1
  let c46_1833 : Index := 46#32
  ![v5083.toNat, 46]
def k0_off513 (v1 : BitVec 32) : Fin 2 → Nat :=
  let v5087 : Index := Scalar.indexCast v1
  let c47_1836 : Index := 47#32
  ![v5087.toNat, 47]
def k0_off514 (v1 : BitVec 32) : Fin 2 → Nat :=
  let v5091 : Index := Scalar.indexCast v1
  let c62_1839 : Index := 62#32
  ![v5091.toNat, 62]
def k0_off515 (v1 : BitVec 32) : Fin 2 → Nat :=
  let v5095 : Index := Scalar.indexCast v1
  let c63_1842 : Index := 63#32
  ![v5095.toNat, 63]
def k0_off516 (v1 : BitVec 32) : Fin 2 → Nat :=
  let v5117 : Index := Scalar.indexCast v1
  let c78_1848 : Index := 78#32
  ![v5117.toNat, 78]
def k0_off517 (v1 : BitVec 32) : Fin 2 → Nat :=
  let v5121 : Index := Scalar.indexCast v1
  let c79_1851 : Index := 79#32
  ![v5121.toNat, 79]
def k0_off518 (v1 : BitVec 32) : Fin 2 → Nat :=
  let v5125 : Index := Scalar.indexCast v1
  let c94_1854 : Index := 94#32
  ![v5125.toNat, 94]
def k0_off519 (v1 : BitVec 32) : Fin 2 → Nat :=
  let v5129 : Index := Scalar.indexCast v1
  let c95_1857 : Index := 95#32
  ![v5129.toNat, 95]
def k0_off520 (v1 : BitVec 32) : Fin 2 → Nat :=
  let v5151 : Index := Scalar.indexCast v1
  let c110_1863 : Index := 110#32
  ![v5151.toNat, 110]
def k0_off521 (v1 : BitVec 32) : Fin 2 → Nat :=
  let v5155 : Index := Scalar.indexCast v1
  let c111_1866 : Index := 111#32
  ![v5155.toNat, 111]
def k0_off522 (v1 : BitVec 32) : Fin 2 → Nat :=
  let v5159 : Index := Scalar.indexCast v1
  let c126_1869 : Index := 126#32
  ![v5159.toNat, 126]
def k0_off523 (v1 : BitVec 32) : Fin 2 → Nat :=
  let v5163 : Index := Scalar.indexCast v1
  let c127_1872 : Index := 127#32
  ![v5163.toNat, 127]
def k0_off524 (v1 : BitVec 32) : Fin 2 → Nat :=
  let v5185 : Index := Scalar.indexCast v1
  let c142_1878 : Index := 142#32
  ![v5185.toNat, 142]
def k0_off525 (v1 : BitVec 32) : Fin 2 → Nat :=
  let v5189 : Index := Scalar.indexCast v1
  let c143_1881 : Index := 143#32
  ![v5189.toNat, 143]
def k0_off526 (v1 : BitVec 32) : Fin 2 → Nat :=
  let v5193 : Index := Scalar.indexCast v1
  let c158_1884 : Index := 158#32
  ![v5193.toNat, 158]
def k0_off527 (v1 : BitVec 32) : Fin 2 → Nat :=
  let v5197 : Index := Scalar.indexCast v1
  let c159_1887 : Index := 159#32
  ![v5197.toNat, 159]
def k0_off528 (v1 : BitVec 32) : Fin 2 → Nat :=
  let v5219 : Index := Scalar.indexCast v1
  let c174_1893 : Index := 174#32
  ![v5219.toNat, 174]
def k0_off529 (v1 : BitVec 32) : Fin 2 → Nat :=
  let v5223 : Index := Scalar.indexCast v1
  let c175_1896 : Index := 175#32
  ![v5223.toNat, 175]

def k0_chk1_0 (v1 : BitVec 32) : Prop :=
  (∀ a, (k0_off2 v1) a + S1x1.size a ≤ S64x352.size a) ∧
  (∀ a, (k0_off3 v1) a + S1x1.size a ≤ S64x352.size a) ∧
  (∀ a, (k0_off4 v1) a + S1x1.size a ≤ S64x352.size a) ∧
  (∀ a, (k0_off5 v1) a + S1x1.size a ≤ S64x352.size a) ∧
  (∀ a, (k0_off6 v1) a + S1x1.size a ≤ S64x352.size a) ∧
  (∀ a, (k0_off7 v1) a + S1x1.size a ≤ S64x352.size a) ∧
  (∀ a, (k0_off8 v1) a + S1x1.size a ≤ S64x352.size a) ∧
  (∀ a, (k0_off9 v1) a + S1x1.size a ≤ S64x352.size a) ∧
  (∀ a, (k0_off10 v1) a + S1x1.size a ≤ S64x352.size a) ∧
  (∀ a, (k0_off11 v1) a + S1x1.size a ≤ S64x352.size a) ∧
  (∀ a, (k0_off12 v1) a + S1x1.size a ≤ S64x352.size a) ∧
  (∀ a, (k0_off13 v1) a + S1x1.size a ≤ S64x352.size a) ∧
  (∀ a, (k0_off14 v1) a + S1x1.size a ≤ S64x352.size a) ∧
  (∀ a, (k0_off15 v1) a + S1x1.size a ≤ S64x352.size a) ∧
  (∀ a, (k0_off16 v1) a + S1x1.size a ≤ S64x352.size a) ∧
  (∀ a, (k0_off17 v1) a + S1x1.size a ≤ S64x352.size a) ∧
  (∀ a, (k0_off18 v1) a + S1x1.size a ≤ S64x352.size a) ∧
  (∀ a, (k0_off19 v1) a + S1x1.size a ≤ S64x352.size a) ∧
  (∀ a, (k0_off20 v1) a + S1x1.size a ≤ S64x352.size a) ∧
  (∀ a, (k0_off21 v1) a + S1x1.size a ≤ S64x352.size a) ∧
  (∀ a, (k0_off22 v1) a + S1x1.size a ≤ S64x352.size a) ∧
  (∀ a, (k0_off23 v1) a + S1x1.size a ≤ S64x352.size a) ∧
  (∀ a, (k0_off24 v1) a + S1x1.size a ≤ S64x352.size a) ∧
  (∀ a, (k0_off25 v1) a + S1x1.size a ≤ S64x352.size a) ∧
  (∀ a, (k0_off26 v1) a + S1x1.size a ≤ S64x352.size a) ∧
  (∀ a, (k0_off27 v1) a + S1x1.size a ≤ S64x352.size a) ∧
  (∀ a, (k0_off28 v1) a + S1x1.size a ≤ S64x352.size a) ∧
  (∀ a, (k0_off29 v1) a + S1x1.size a ≤ S64x352.size a) ∧
  (∀ a, (k0_off30 v1) a + S1x1.size a ≤ S64x352.size a) ∧
  (∀ a, (k0_off31 v1) a + S1x1.size a ≤ S64x352.size a) ∧
  (∀ a, (k0_off32 v1) a + S1x1.size a ≤ S64x352.size a) ∧
  (∀ a, (k0_off33 v1) a + S1x1.size a ≤ S64x352.size a)
def k0_chk1_1 (v1 : BitVec 32) : Prop :=
  (∀ a, (k0_off34 v1) a + S1x1.size a ≤ S64x352.size a) ∧
  (∀ a, (k0_off35 v1) a + S1x1.size a ≤ S64x352.size a) ∧
  (∀ a, (k0_off36 v1) a + S1x1.size a ≤ S64x352.size a) ∧
  (∀ a, (k0_off37 v1) a + S1x1.size a ≤ S64x352.size a) ∧
  (∀ a, (k0_off38 v1) a + S1x1.size a ≤ S64x352.size a) ∧
  (∀ a, (k0_off39 v1) a + S1x1.size a ≤ S64x352.size a) ∧
  (∀ a, (k0_off40 v1) a + S1x1.size a ≤ S64x352.size a) ∧
  (∀ a, (k0_off41 v1) a + S1x1.size a ≤ S64x352.size a) ∧
  (∀ a, (k0_off42 v1) a + S1x1.size a ≤ S64x352.size a) ∧
  (∀ a, (k0_off43 v1) a + S1x1.size a ≤ S64x352.size a) ∧
  (∀ a, (k0_off44 v1) a + S1x1.size a ≤ S64x352.size a) ∧
  (∀ a, (k0_off45 v1) a + S1x1.size a ≤ S64x352.size a) ∧
  (∀ a, (k0_off46 v1) a + S1x1.size a ≤ S64x352.size a) ∧
  (∀ a, (k0_off47 v1) a + S1x1.size a ≤ S64x352.size a) ∧
  (∀ a, (k0_off48 v1) a + S1x1.size a ≤ S64x352.size a) ∧
  (∀ a, (k0_off49 v1) a + S1x1.size a ≤ S64x352.size a) ∧
  (∀ a, (k0_off50 v1) a + S1x1.size a ≤ S64x352.size a) ∧
  (∀ a, (k0_off51 v1) a + S1x1.size a ≤ S64x352.size a) ∧
  (∀ a, (k0_off52 v1) a + S1x1.size a ≤ S64x352.size a) ∧
  (∀ a, (k0_off53 v1) a + S1x1.size a ≤ S64x352.size a) ∧
  (∀ a, (k0_off54 v1) a + S1x1.size a ≤ S64x352.size a) ∧
  (∀ a, (k0_off55 v1) a + S1x1.size a ≤ S64x352.size a) ∧
  (∀ a, (k0_off56 v1) a + S1x1.size a ≤ S64x352.size a) ∧
  (∀ a, (k0_off57 v1) a + S1x1.size a ≤ S64x352.size a) ∧
  (∀ a, (k0_off58 v1) a + S1x1.size a ≤ S64x352.size a) ∧
  (∀ a, (k0_off59 v1) a + S1x1.size a ≤ S64x352.size a) ∧
  (∀ a, (k0_off60 v1) a + S1x1.size a ≤ S64x352.size a) ∧
  (∀ a, (k0_off61 v1) a + S1x1.size a ≤ S64x352.size a) ∧
  (∀ a, (k0_off62 v1) a + S1x1.size a ≤ S64x352.size a) ∧
  (∀ a, (k0_off63 v1) a + S1x1.size a ≤ S64x352.size a) ∧
  (∀ a, (k0_off64 v1) a + S1x1.size a ≤ S64x352.size a) ∧
  (∀ a, (k0_off65 v1) a + S1x1.size a ≤ S64x352.size a)
def k0_chk1_2 (v1 : BitVec 32) : Prop :=
  (∀ a, (k0_off66 v1) a + S1x1.size a ≤ S64x352.size a) ∧
  (∀ a, (k0_off67 v1) a + S1x1.size a ≤ S64x352.size a) ∧
  (∀ a, (k0_off68 v1) a + S1x1.size a ≤ S64x352.size a) ∧
  (∀ a, (k0_off69 v1) a + S1x1.size a ≤ S64x352.size a) ∧
  (∀ a, (k0_off70 v1) a + S1x1.size a ≤ S64x352.size a) ∧
  (∀ a, (k0_off71 v1) a + S1x1.size a ≤ S64x352.size a) ∧
  (∀ a, (k0_off72 v1) a + S1x1.size a ≤ S64x352.size a) ∧
  (∀ a, (k0_off73 v1) a + S1x1.size a ≤ S64x352.size a) ∧
  (∀ a, (k0_off74 v1) a + S1x1.size a ≤ S64x352.size a) ∧
  (∀ a, (k0_off75 v1) a + S1x1.size a ≤ S64x352.size a) ∧
  (∀ a, (k0_off76 v1) a + S1x1.size a ≤ S64x352.size a) ∧
  (∀ a, (k0_off77 v1) a + S1x1.size a ≤ S64x352.size a) ∧
  (∀ a, (k0_off78 v1) a + S1x1.size a ≤ S64x352.size a) ∧
  (∀ a, (k0_off79 v1) a + S1x1.size a ≤ S64x352.size a) ∧
  (∀ a, (k0_off80 v1) a + S1x1.size a ≤ S64x352.size a) ∧
  (∀ a, (k0_off81 v1) a + S1x1.size a ≤ S64x352.size a) ∧
  (∀ a, (k0_off82 v1) a + S1x1.size a ≤ S64x352.size a) ∧
  (∀ a, (k0_off83 v1) a + S1x1.size a ≤ S64x352.size a) ∧
  (∀ a, (k0_off84 v1) a + S1x1.size a ≤ S64x352.size a) ∧
  (∀ a, (k0_off85 v1) a + S1x1.size a ≤ S64x352.size a) ∧
  (∀ a, (k0_off86 v1) a + S1x1.size a ≤ S64x352.size a) ∧
  (∀ a, (k0_off87 v1) a + S1x1.size a ≤ S64x352.size a) ∧
  (∀ a, (k0_off88 v1) a + S1x1.size a ≤ S64x352.size a) ∧
  (∀ a, (k0_off89 v1) a + S1x1.size a ≤ S64x352.size a) ∧
  (∀ a, (k0_off90 v1) a + S1x1.size a ≤ S64x352.size a) ∧
  (∀ a, (k0_off91 v1) a + S1x1.size a ≤ S64x352.size a) ∧
  (∀ a, (k0_off92 v1) a + S1x1.size a ≤ S64x352.size a) ∧
  (∀ a, (k0_off93 v1) a + S1x1.size a ≤ S64x352.size a) ∧
  (∀ a, (k0_off94 v1) a + S1x1.size a ≤ S64x352.size a) ∧
  (∀ a, (k0_off95 v1) a + S1x1.size a ≤ S64x352.size a) ∧
  (∀ a, (k0_off96 v1) a + S1x1.size a ≤ S64x352.size a) ∧
  (∀ a, (k0_off97 v1) a + S1x1.size a ≤ S64x352.size a)
def k0_chk1_3 (v1 : BitVec 32) : Prop :=
  (∀ a, (k0_off98 v1) a + S1x1.size a ≤ S64x352.size a) ∧
  (∀ a, (k0_off99 v1) a + S1x1.size a ≤ S64x352.size a) ∧
  (∀ a, (k0_off100 v1) a + S1x1.size a ≤ S64x352.size a) ∧
  (∀ a, (k0_off101 v1) a + S1x1.size a ≤ S64x352.size a) ∧
  (∀ a, (k0_off102 v1) a + S1x1.size a ≤ S64x352.size a) ∧
  (∀ a, (k0_off103 v1) a + S1x1.size a ≤ S64x352.size a) ∧
  (∀ a, (k0_off104 v1) a + S1x1.size a ≤ S64x352.size a) ∧
  (∀ a, (k0_off105 v1) a + S1x1.size a ≤ S64x352.size a) ∧
  (∀ a, (k0_off106 v1) a + S1x1.size a ≤ S64x352.size a) ∧
  (∀ a, (k0_off107 v1) a + S1x1.size a ≤ S64x352.size a) ∧
  (∀ a, (k0_off108 v1) a + S1x1.size a ≤ S64x352.size a) ∧
  (∀ a, (k0_off109 v1) a + S1x1.size a ≤ S64x352.size a) ∧
  (∀ a, (k0_off110 v1) a + S1x1.size a ≤ S64x352.size a) ∧
  (∀ a, (k0_off111 v1) a + S1x1.size a ≤ S64x352.size a) ∧
  (∀ a, (k0_off112 v1) a + S1x1.size a ≤ S64x352.size a) ∧
  (∀ a, (k0_off113 v1) a + S1x1.size a ≤ S64x352.size a) ∧
  (∀ a, (k0_off114 v1) a + S1x1.size a ≤ S64x352.size a) ∧
  (∀ a, (k0_off115 v1) a + S1x1.size a ≤ S64x352.size a) ∧
  (∀ a, (k0_off116 v1) a + S1x1.size a ≤ S64x352.size a) ∧
  (∀ a, (k0_off117 v1) a + S1x1.size a ≤ S64x352.size a) ∧
  (∀ a, (k0_off118 v1) a + S1x1.size a ≤ S64x352.size a) ∧
  (∀ a, (k0_off119 v1) a + S1x1.size a ≤ S64x352.size a) ∧
  (∀ a, (k0_off120 v1) a + S1x1.size a ≤ S64x352.size a) ∧
  (∀ a, (k0_off121 v1) a + S1x1.size a ≤ S64x352.size a) ∧
  (∀ a, (k0_off122 v1) a + S1x1.size a ≤ S64x352.size a) ∧
  (∀ a, (k0_off123 v1) a + S1x1.size a ≤ S64x352.size a) ∧
  (∀ a, (k0_off124 v1) a + S1x1.size a ≤ S64x352.size a) ∧
  (∀ a, (k0_off125 v1) a + S1x1.size a ≤ S64x352.size a) ∧
  (∀ a, (k0_off126 v1) a + S1x1.size a ≤ S64x352.size a) ∧
  (∀ a, (k0_off127 v1) a + S1x1.size a ≤ S64x352.size a) ∧
  (∀ a, (k0_off128 v1) a + S1x1.size a ≤ S64x352.size a) ∧
  (∀ a, (k0_off129 v1) a + S1x1.size a ≤ S64x352.size a)
def k0_chk1_4 (v1 : BitVec 32) : Prop :=
  (∀ a, (k0_off130 v1) a + S1x1.size a ≤ S64x352.size a) ∧
  (∀ a, (k0_off131 v1) a + S1x1.size a ≤ S64x352.size a) ∧
  (∀ a, (k0_off132 v1) a + S1x1.size a ≤ S64x352.size a) ∧
  (∀ a, (k0_off133 v1) a + S1x1.size a ≤ S64x352.size a) ∧
  (∀ a, (k0_off134 v1) a + S1x1.size a ≤ S64x352.size a) ∧
  (∀ a, (k0_off135 v1) a + S1x1.size a ≤ S64x352.size a) ∧
  (∀ a, (k0_off136 v1) a + S1x1.size a ≤ S64x352.size a) ∧
  (∀ a, (k0_off137 v1) a + S1x1.size a ≤ S64x352.size a) ∧
  (∀ a, (k0_off138 v1) a + S1x1.size a ≤ S64x352.size a) ∧
  (∀ a, (k0_off139 v1) a + S1x1.size a ≤ S64x352.size a) ∧
  (∀ a, (k0_off140 v1) a + S1x1.size a ≤ S64x352.size a) ∧
  (∀ a, (k0_off141 v1) a + S1x1.size a ≤ S64x352.size a) ∧
  (∀ a, (k0_off142 v1) a + S1x1.size a ≤ S64x352.size a) ∧
  (∀ a, (k0_off143 v1) a + S1x1.size a ≤ S64x352.size a) ∧
  (∀ a, (k0_off144 v1) a + S1x1.size a ≤ S64x352.size a) ∧
  (∀ a, (k0_off145 v1) a + S1x1.size a ≤ S64x352.size a) ∧
  (∀ a, (k0_off146 v1) a + S1x1.size a ≤ S64x352.size a) ∧
  (∀ a, (k0_off147 v1) a + S1x1.size a ≤ S64x352.size a) ∧
  (∀ a, (k0_off148 v1) a + S1x1.size a ≤ S64x352.size a) ∧
  (∀ a, (k0_off149 v1) a + S1x1.size a ≤ S64x352.size a) ∧
  (∀ a, (k0_off150 v1) a + S1x1.size a ≤ S64x352.size a) ∧
  (∀ a, (k0_off151 v1) a + S1x1.size a ≤ S64x352.size a) ∧
  (∀ a, (k0_off152 v1) a + S1x1.size a ≤ S64x352.size a) ∧
  (∀ a, (k0_off153 v1) a + S1x1.size a ≤ S64x352.size a) ∧
  (∀ a, (k0_off154 v1) a + S1x1.size a ≤ S64x352.size a) ∧
  (∀ a, (k0_off155 v1) a + S1x1.size a ≤ S64x352.size a) ∧
  (∀ a, (k0_off156 v1) a + S1x1.size a ≤ S64x352.size a) ∧
  (∀ a, (k0_off157 v1) a + S1x1.size a ≤ S64x352.size a) ∧
  (∀ a, (k0_off158 v1) a + S1x1.size a ≤ S64x352.size a) ∧
  (∀ a, (k0_off159 v1) a + S1x1.size a ≤ S64x352.size a) ∧
  (∀ a, (k0_off160 v1) a + S1x1.size a ≤ S64x352.size a) ∧
  (∀ a, (k0_off161 v1) a + S1x1.size a ≤ S64x352.size a)
def k0_chk1_5 (v1 : BitVec 32) : Prop :=
  (∀ a, (k0_off162 v1) a + S1x1.size a ≤ S64x352.size a) ∧
  (∀ a, (k0_off163 v1) a + S1x1.size a ≤ S64x352.size a) ∧
  (∀ a, (k0_off164 v1) a + S1x1.size a ≤ S64x352.size a) ∧
  (∀ a, (k0_off165 v1) a + S1x1.size a ≤ S64x352.size a) ∧
  (∀ a, (k0_off166 v1) a + S1x1.size a ≤ S64x352.size a) ∧
  (∀ a, (k0_off167 v1) a + S1x1.size a ≤ S64x352.size a) ∧
  (∀ a, (k0_off168 v1) a + S1x1.size a ≤ S64x352.size a) ∧
  (∀ a, (k0_off169 v1) a + S1x1.size a ≤ S64x352.size a) ∧
  (∀ a, (k0_off170 v1) a + S1x1.size a ≤ S64x352.size a) ∧
  (∀ a, (k0_off171 v1) a + S1x1.size a ≤ S64x352.size a) ∧
  (∀ a, (k0_off172 v1) a + S1x1.size a ≤ S64x352.size a) ∧
  (∀ a, (k0_off173 v1) a + S1x1.size a ≤ S64x352.size a) ∧
  (∀ a, (k0_off174 v1) a + S1x1.size a ≤ S64x352.size a) ∧
  (∀ a, (k0_off175 v1) a + S1x1.size a ≤ S64x352.size a) ∧
  (∀ a, (k0_off176 v1) a + S1x1.size a ≤ S64x352.size a) ∧
  (∀ a, (k0_off177 v1) a + S1x1.size a ≤ S64x352.size a) ∧
  (∀ a, (k0_off178 v1) a + S1x1.size a ≤ S64x352.size a) ∧
  (∀ a, (k0_off179 v1) a + S1x1.size a ≤ S64x352.size a) ∧
  (∀ a, (k0_off180 v1) a + S1x1.size a ≤ S64x352.size a) ∧
  (∀ a, (k0_off181 v1) a + S1x1.size a ≤ S64x352.size a) ∧
  (∀ a, (k0_off182 v1) a + S1x1.size a ≤ S64x352.size a) ∧
  (∀ a, (k0_off183 v1) a + S1x1.size a ≤ S64x352.size a) ∧
  (∀ a, (k0_off184 v1) a + S1x1.size a ≤ S64x352.size a) ∧
  (∀ a, (k0_off185 v1) a + S1x1.size a ≤ S64x352.size a) ∧
  (∀ a, (k0_off186 v1) a + S1x1.size a ≤ S64x352.size a) ∧
  (∀ a, (k0_off187 v1) a + S1x1.size a ≤ S64x352.size a) ∧
  (∀ a, (k0_off188 v1) a + S1x1.size a ≤ S64x352.size a) ∧
  (∀ a, (k0_off189 v1) a + S1x1.size a ≤ S64x352.size a) ∧
  (∀ a, (k0_off190 v1) a + S1x1.size a ≤ S64x352.size a) ∧
  (∀ a, (k0_off191 v1) a + S1x1.size a ≤ S64x352.size a) ∧
  (∀ a, (k0_off192 v1) a + S1x1.size a ≤ S64x352.size a) ∧
  (∀ a, (k0_off193 v1) a + S1x1.size a ≤ S64x352.size a)
def k0_chk1_6 (v1 : BitVec 32) : Prop :=
  (∀ a, (k0_off194 v1) a + S1x1.size a ≤ S64x352.size a) ∧
  (∀ a, (k0_off195 v1) a + S1x1.size a ≤ S64x352.size a) ∧
  (∀ a, (k0_off196 v1) a + S1x1.size a ≤ S64x352.size a) ∧
  (∀ a, (k0_off197 v1) a + S1x1.size a ≤ S64x352.size a) ∧
  (∀ a, (k0_off198 v1) a + S1x1.size a ≤ S64x352.size a) ∧
  (∀ a, (k0_off199 v1) a + S1x1.size a ≤ S64x352.size a) ∧
  (∀ a, (k0_off200 v1) a + S1x1.size a ≤ S64x352.size a) ∧
  (∀ a, (k0_off201 v1) a + S1x1.size a ≤ S64x352.size a) ∧
  (∀ a, (k0_off202 v1) a + S1x1.size a ≤ S64x352.size a) ∧
  (∀ a, (k0_off203 v1) a + S1x1.size a ≤ S64x352.size a) ∧
  (∀ a, (k0_off204 v1) a + S1x1.size a ≤ S64x352.size a) ∧
  (∀ a, (k0_off205 v1) a + S1x1.size a ≤ S64x352.size a) ∧
  (∀ a, (k0_off206 v1) a + S1x1.size a ≤ S64x352.size a) ∧
  (∀ a, (k0_off207 v1) a + S1x1.size a ≤ S64x352.size a) ∧
  (∀ a, (k0_off208 v1) a + S1x1.size a ≤ S64x352.size a) ∧
  (∀ a, (k0_off209 v1) a + S1x1.size a ≤ S64x352.size a) ∧
  (∀ a, (k0_off210 v1) a + S1x1.size a ≤ S64x352.size a) ∧
  (∀ a, (k0_off211 v1) a + S1x1.size a ≤ S64x352.size a) ∧
  (∀ a, (k0_off212 v1) a + S1x1.size a ≤ S64x352.size a) ∧
  (∀ a, (k0_off213 v1) a + S1x1.size a ≤ S64x352.size a) ∧
  (∀ a, (k0_off214 v1) a + S1x1.size a ≤ S64x352.size a) ∧
  (∀ a, (k0_off215 v1) a + S1x1.size a ≤ S64x352.size a) ∧
  (∀ a, (k0_off216 v1) a + S1x1.size a ≤ S64x352.size a) ∧
  (∀ a, (k0_off217 v1) a + S1x1.size a ≤ S64x352.size a) ∧
  (∀ a, (k0_off218 v1) a + S1x1.size a ≤ S64x352.size a) ∧
  (∀ a, (k0_off219 v1) a + S1x1.size a ≤ S64x352.size a) ∧
  (∀ a, (k0_off220 v1) a + S1x1.size a ≤ S64x352.size a) ∧
  (∀ a, (k0_off221 v1) a + S1x1.size a ≤ S64x352.size a) ∧
  (∀ a, (k0_off222 v1) a + S1x1.size a ≤ S64x352.size a) ∧
  (∀ a, (k0_off223 v1) a + S1x1.size a ≤ S64x352.size a) ∧
  (∀ a, (k0_off224 v1) a + S1x1.size a ≤ S64x352.size a) ∧
  (∀ a, (k0_off225 v1) a + S1x1.size a ≤ S64x352.size a)
def k0_chk1_7 (v1 : BitVec 32) : Prop :=
  (∀ a, (k0_off226 v1) a + S1x1.size a ≤ S64x352.size a) ∧
  (∀ a, (k0_off227 v1) a + S1x1.size a ≤ S64x352.size a) ∧
  (∀ a, (k0_off228 v1) a + S1x1.size a ≤ S64x352.size a) ∧
  (∀ a, (k0_off229 v1) a + S1x1.size a ≤ S64x352.size a) ∧
  (∀ a, (k0_off230 v1) a + S1x1.size a ≤ S64x352.size a) ∧
  (∀ a, (k0_off231 v1) a + S1x1.size a ≤ S64x352.size a) ∧
  (∀ a, (k0_off232 v1) a + S1x1.size a ≤ S64x352.size a) ∧
  (∀ a, (k0_off233 v1) a + S1x1.size a ≤ S64x352.size a) ∧
  (∀ a, (k0_off234 v1) a + S1x1.size a ≤ S64x352.size a) ∧
  (∀ a, (k0_off235 v1) a + S1x1.size a ≤ S64x352.size a) ∧
  (∀ a, (k0_off236 v1) a + S1x1.size a ≤ S64x352.size a) ∧
  (∀ a, (k0_off237 v1) a + S1x1.size a ≤ S64x352.size a) ∧
  (∀ a, (k0_off238 v1) a + S1x1.size a ≤ S64x352.size a) ∧
  (∀ a, (k0_off239 v1) a + S1x1.size a ≤ S64x352.size a) ∧
  (∀ a, (k0_off240 v1) a + S1x1.size a ≤ S64x352.size a) ∧
  (∀ a, (k0_off241 v1) a + S1x1.size a ≤ S64x352.size a) ∧
  (∀ a, (k0_off242 v1) a + S1x1.size a ≤ S64x352.size a) ∧
  (∀ a, (k0_off243 v1) a + S1x1.size a ≤ S64x352.size a) ∧
  (∀ a, (k0_off244 v1) a + S1x1.size a ≤ S64x352.size a) ∧
  (∀ a, (k0_off245 v1) a + S1x1.size a ≤ S64x352.size a) ∧
  (∀ a, (k0_off246 v1) a + S1x1.size a ≤ S64x352.size a) ∧
  (∀ a, (k0_off247 v1) a + S1x1.size a ≤ S64x352.size a) ∧
  (∀ a, (k0_off248 v1) a + S1x1.size a ≤ S64x352.size a) ∧
  (∀ a, (k0_off249 v1) a + S1x1.size a ≤ S64x352.size a) ∧
  (∀ a, (k0_off250 v1) a + S1x1.size a ≤ S64x352.size a) ∧
  (∀ a, (k0_off251 v1) a + S1x1.size a ≤ S64x352.size a) ∧
  (∀ a, (k0_off252 v1) a + S1x1.size a ≤ S64x352.size a) ∧
  (∀ a, (k0_off253 v1) a + S1x1.size a ≤ S64x352.size a) ∧
  (∀ a, (k0_off254 v1) a + S1x1.size a ≤ S64x352.size a) ∧
  (∀ a, (k0_off255 v1) a + S1x1.size a ≤ S64x352.size a) ∧
  (∀ a, (k0_off256 v1) a + S1x1.size a ≤ S64x352.size a) ∧
  (∀ a, (k0_off257 v1) a + S1x1.size a ≤ S64x352.size a)
def k0_chk1_8 (v1 : BitVec 32) : Prop :=
  (∀ a, (k0_off258 v1) a + S1x1.size a ≤ S64x352.size a) ∧
  (∀ a, (k0_off259 v1) a + S1x1.size a ≤ S64x352.size a) ∧
  (∀ a, (k0_off260 v1) a + S1x1.size a ≤ S64x352.size a) ∧
  (∀ a, (k0_off261 v1) a + S1x1.size a ≤ S64x352.size a) ∧
  (∀ a, (k0_off262 v1) a + S1x1.size a ≤ S64x352.size a) ∧
  (∀ a, (k0_off263 v1) a + S1x1.size a ≤ S64x352.size a) ∧
  (∀ a, (k0_off264 v1) a + S1x1.size a ≤ S64x352.size a) ∧
  (∀ a, (k0_off265 v1) a + S1x1.size a ≤ S64x352.size a) ∧
  (∀ a, (k0_off266 v1) a + S1x1.size a ≤ S64x352.size a) ∧
  (∀ a, (k0_off267 v1) a + S1x1.size a ≤ S64x352.size a) ∧
  (∀ a, (k0_off268 v1) a + S1x1.size a ≤ S64x352.size a) ∧
  (∀ a, (k0_off269 v1) a + S1x1.size a ≤ S64x352.size a) ∧
  (∀ a, (k0_off270 v1) a + S1x1.size a ≤ S64x352.size a) ∧
  (∀ a, (k0_off271 v1) a + S1x1.size a ≤ S64x352.size a) ∧
  (∀ a, (k0_off272 v1) a + S1x1.size a ≤ S64x352.size a) ∧
  (∀ a, (k0_off273 v1) a + S1x1.size a ≤ S64x352.size a) ∧
  (∀ a, (k0_off274 v1) a + S1x1.size a ≤ S64x352.size a) ∧
  (∀ a, (k0_off275 v1) a + S1x1.size a ≤ S64x352.size a) ∧
  (∀ a, (k0_off276 v1) a + S1x1.size a ≤ S64x352.size a) ∧
  (∀ a, (k0_off277 v1) a + S1x1.size a ≤ S64x352.size a) ∧
  (∀ a, (k0_off278 v1) a + S1x1.size a ≤ S64x352.size a) ∧
  (∀ a, (k0_off279 v1) a + S1x1.size a ≤ S64x352.size a) ∧
  (∀ a, (k0_off280 v1) a + S1x1.size a ≤ S64x352.size a) ∧
  (∀ a, (k0_off281 v1) a + S1x1.size a ≤ S64x352.size a) ∧
  (∀ a, (k0_off282 v1) a + S1x1.size a ≤ S64x352.size a) ∧
  (∀ a, (k0_off283 v1) a + S1x1.size a ≤ S64x352.size a) ∧
  (∀ a, (k0_off284 v1) a + S1x1.size a ≤ S64x352.size a) ∧
  (∀ a, (k0_off285 v1) a + S1x1.size a ≤ S64x352.size a) ∧
  (∀ a, (k0_off286 v1) a + S1x1.size a ≤ S64x352.size a) ∧
  (∀ a, (k0_off287 v1) a + S1x1.size a ≤ S64x352.size a) ∧
  (∀ a, (k0_off288 v1) a + S1x1.size a ≤ S64x352.size a) ∧
  (∀ a, (k0_off289 v1) a + S1x1.size a ≤ S64x352.size a)
def k0_chk1_9 (v1 : BitVec 32) : Prop :=
  (∀ a, (k0_off290 v1) a + S1x1.size a ≤ S64x352.size a) ∧
  (∀ a, (k0_off291 v1) a + S1x1.size a ≤ S64x352.size a) ∧
  (∀ a, (k0_off292 v1) a + S1x1.size a ≤ S64x352.size a) ∧
  (∀ a, (k0_off293 v1) a + S1x1.size a ≤ S64x352.size a) ∧
  (∀ a, (k0_off294 v1) a + S1x1.size a ≤ S64x352.size a) ∧
  (∀ a, (k0_off295 v1) a + S1x1.size a ≤ S64x352.size a) ∧
  (∀ a, (k0_off296 v1) a + S1x1.size a ≤ S64x352.size a) ∧
  (∀ a, (k0_off297 v1) a + S1x1.size a ≤ S64x352.size a) ∧
  (∀ a, (k0_off298 v1) a + S1x1.size a ≤ S64x352.size a) ∧
  (∀ a, (k0_off299 v1) a + S1x1.size a ≤ S64x352.size a) ∧
  (∀ a, (k0_off300 v1) a + S1x1.size a ≤ S64x352.size a) ∧
  (∀ a, (k0_off301 v1) a + S1x1.size a ≤ S64x352.size a) ∧
  (∀ a, (k0_off302 v1) a + S1x1.size a ≤ S64x352.size a) ∧
  (∀ a, (k0_off303 v1) a + S1x1.size a ≤ S64x352.size a) ∧
  (∀ a, (k0_off304 v1) a + S1x1.size a ≤ S64x352.size a) ∧
  (∀ a, (k0_off305 v1) a + S1x1.size a ≤ S64x352.size a) ∧
  (∀ a, (k0_off306 v1) a + S1x1.size a ≤ S64x352.size a) ∧
  (∀ a, (k0_off307 v1) a + S1x1.size a ≤ S64x352.size a) ∧
  (∀ a, (k0_off308 v1) a + S1x1.size a ≤ S64x352.size a) ∧
  (∀ a, (k0_off309 v1) a + S1x1.size a ≤ S64x352.size a) ∧
  (∀ a, (k0_off310 v1) a + S1x1.size a ≤ S64x352.size a) ∧
  (∀ a, (k0_off311 v1) a + S1x1.size a ≤ S64x352.size a) ∧
  (∀ a, (k0_off312 v1) a + S1x1.size a ≤ S64x352.size a) ∧
  (∀ a, (k0_off313 v1) a + S1x1.size a ≤ S64x352.size a) ∧
  (∀ a, (k0_off314 v1) a + S1x1.size a ≤ S64x352.size a) ∧
  (∀ a, (k0_off315 v1) a + S1x1.size a ≤ S64x352.size a) ∧
  (∀ a, (k0_off316 v1) a + S1x1.size a ≤ S64x352.size a) ∧
  (∀ a, (k0_off317 v1) a + S1x1.size a ≤ S64x352.size a) ∧
  (∀ a, (k0_off318 v1) a + S1x1.size a ≤ S64x352.size a) ∧
  (∀ a, (k0_off319 v1) a + S1x1.size a ≤ S64x352.size a) ∧
  (∀ a, (k0_off320 v1) a + S1x1.size a ≤ S64x352.size a) ∧
  (∀ a, (k0_off321 v1) a + S1x1.size a ≤ S64x352.size a)
def k0_chk1_10 (v1 : BitVec 32) : Prop :=
  (∀ a, (k0_off322 v1) a + S1x1.size a ≤ S64x352.size a) ∧
  (∀ a, (k0_off323 v1) a + S1x1.size a ≤ S64x352.size a) ∧
  (∀ a, (k0_off324 v1) a + S1x1.size a ≤ S64x352.size a) ∧
  (∀ a, (k0_off325 v1) a + S1x1.size a ≤ S64x352.size a) ∧
  (∀ a, (k0_off326 v1) a + S1x1.size a ≤ S64x352.size a) ∧
  (∀ a, (k0_off327 v1) a + S1x1.size a ≤ S64x352.size a) ∧
  (∀ a, (k0_off328 v1) a + S1x1.size a ≤ S64x352.size a) ∧
  (∀ a, (k0_off329 v1) a + S1x1.size a ≤ S64x352.size a) ∧
  (∀ a, (k0_off330 v1) a + S1x1.size a ≤ S64x352.size a) ∧
  (∀ a, (k0_off331 v1) a + S1x1.size a ≤ S64x352.size a) ∧
  (∀ a, (k0_off332 v1) a + S1x1.size a ≤ S64x352.size a) ∧
  (∀ a, (k0_off333 v1) a + S1x1.size a ≤ S64x352.size a) ∧
  (∀ a, (k0_off334 v1) a + S1x1.size a ≤ S64x352.size a) ∧
  (∀ a, (k0_off335 v1) a + S1x1.size a ≤ S64x352.size a) ∧
  (∀ a, (k0_off336 v1) a + S1x1.size a ≤ S64x352.size a) ∧
  (∀ a, (k0_off337 v1) a + S1x1.size a ≤ S64x352.size a) ∧
  (∀ a, (k0_off338 v1) a + S1x1.size a ≤ S64x352.size a) ∧
  (∀ a, (k0_off339 v1) a + S1x1.size a ≤ S64x352.size a) ∧
  (∀ a, (k0_off340 v1) a + S1x1.size a ≤ S64x352.size a) ∧
  (∀ a, (k0_off341 v1) a + S1x1.size a ≤ S64x352.size a) ∧
  (∀ a, (k0_off342 v1) a + S1x1.size a ≤ S64x352.size a) ∧
  (∀ a, (k0_off343 v1) a + S1x1.size a ≤ S64x352.size a) ∧
  (∀ a, (k0_off344 v1) a + S1x1.size a ≤ S64x352.size a) ∧
  (∀ a, (k0_off345 v1) a + S1x1.size a ≤ S64x352.size a) ∧
  (∀ a, (k0_off346 v1) a + S1x1.size a ≤ S64x352.size a) ∧
  (∀ a, (k0_off347 v1) a + S1x1.size a ≤ S64x352.size a) ∧
  (∀ a, (k0_off348 v1) a + S1x1.size a ≤ S64x352.size a) ∧
  (∀ a, (k0_off349 v1) a + S1x1.size a ≤ S64x352.size a) ∧
  (∀ a, (k0_off350 v1) a + S1x1.size a ≤ S64x352.size a) ∧
  (∀ a, (k0_off351 v1) a + S1x1.size a ≤ S64x352.size a) ∧
  (∀ a, (k0_off352 v1) a + S1x1.size a ≤ S64x352.size a) ∧
  (∀ a, (k0_off353 v1) a + S1x1.size a ≤ S64x352.size a)
def k0_chk1_11 (v1 : BitVec 32) : Prop :=
  (∀ a, (k0_off354 v1) a + S1x1.size a ≤ S64x176.size a) ∧
  (∀ a, (k0_off355 v1) a + S1x1.size a ≤ S64x176.size a) ∧
  (∀ a, (k0_off356 v1) a + S1x1.size a ≤ S64x176.size a) ∧
  (∀ a, (k0_off357 v1) a + S1x1.size a ≤ S64x176.size a) ∧
  (∀ a, (k0_off358 v1) a + S1x1.size a ≤ S64x176.size a) ∧
  (∀ a, (k0_off359 v1) a + S1x1.size a ≤ S64x176.size a) ∧
  (∀ a, (k0_off360 v1) a + S1x1.size a ≤ S64x176.size a) ∧
  (∀ a, (k0_off361 v1) a + S1x1.size a ≤ S64x176.size a) ∧
  (∀ a, (k0_off362 v1) a + S1x1.size a ≤ S64x176.size a) ∧
  (∀ a, (k0_off363 v1) a + S1x1.size a ≤ S64x176.size a) ∧
  (∀ a, (k0_off364 v1) a + S1x1.size a ≤ S64x176.size a) ∧
  (∀ a, (k0_off365 v1) a + S1x1.size a ≤ S64x176.size a) ∧
  (∀ a, (k0_off366 v1) a + S1x1.size a ≤ S64x176.size a) ∧
  (∀ a, (k0_off367 v1) a + S1x1.size a ≤ S64x176.size a) ∧
  (∀ a, (k0_off368 v1) a + S1x1.size a ≤ S64x176.size a) ∧
  (∀ a, (k0_off369 v1) a + S1x1.size a ≤ S64x176.size a) ∧
  (∀ a, (k0_off370 v1) a + S1x1.size a ≤ S64x176.size a) ∧
  (∀ a, (k0_off371 v1) a + S1x1.size a ≤ S64x176.size a) ∧
  (∀ a, (k0_off372 v1) a + S1x1.size a ≤ S64x176.size a) ∧
  (∀ a, (k0_off373 v1) a + S1x1.size a ≤ S64x176.size a) ∧
  (∀ a, (k0_off374 v1) a + S1x1.size a ≤ S64x176.size a) ∧
  (∀ a, (k0_off375 v1) a + S1x1.size a ≤ S64x176.size a) ∧
  (∀ a, (k0_off376 v1) a + S1x1.size a ≤ S64x176.size a) ∧
  (∀ a, (k0_off377 v1) a + S1x1.size a ≤ S64x176.size a) ∧
  (∀ a, (k0_off378 v1) a + S1x1.size a ≤ S64x176.size a) ∧
  (∀ a, (k0_off379 v1) a + S1x1.size a ≤ S64x176.size a) ∧
  (∀ a, (k0_off380 v1) a + S1x1.size a ≤ S64x176.size a) ∧
  (∀ a, (k0_off381 v1) a + S1x1.size a ≤ S64x176.size a) ∧
  (∀ a, (k0_off382 v1) a + S1x1.size a ≤ S64x176.size a) ∧
  (∀ a, (k0_off383 v1) a + S1x1.size a ≤ S64x176.size a) ∧
  (∀ a, (k0_off384 v1) a + S1x1.size a ≤ S64x176.size a) ∧
  (∀ a, (k0_off385 v1) a + S1x1.size a ≤ S64x176.size a)
def k0_chk1_12 (v1 : BitVec 32) : Prop :=
  (∀ a, (k0_off386 v1) a + S1x1.size a ≤ S64x176.size a) ∧
  (∀ a, (k0_off387 v1) a + S1x1.size a ≤ S64x176.size a) ∧
  (∀ a, (k0_off388 v1) a + S1x1.size a ≤ S64x176.size a) ∧
  (∀ a, (k0_off389 v1) a + S1x1.size a ≤ S64x176.size a) ∧
  (∀ a, (k0_off390 v1) a + S1x1.size a ≤ S64x176.size a) ∧
  (∀ a, (k0_off391 v1) a + S1x1.size a ≤ S64x176.size a) ∧
  (∀ a, (k0_off392 v1) a + S1x1.size a ≤ S64x176.size a) ∧
  (∀ a, (k0_off393 v1) a + S1x1.size a ≤ S64x176.size a) ∧
  (∀ a, (k0_off394 v1) a + S1x1.size a ≤ S64x176.size a) ∧
  (∀ a, (k0_off395 v1) a + S1x1.size a ≤ S64x176.size a) ∧
  (∀ a, (k0_off396 v1) a + S1x1.size a ≤ S64x176.size a) ∧
  (∀ a, (k0_off397 v1) a + S1x1.size a ≤ S64x176.size a) ∧
  (∀ a, (k0_off398 v1) a + S1x1.size a ≤ S64x176.size a) ∧
  (∀ a, (k0_off399 v1) a + S1x1.size a ≤ S64x176.size a) ∧
  (∀ a, (k0_off400 v1) a + S1x1.size a ≤ S64x176.size a) ∧
  (∀ a, (k0_off401 v1) a + S1x1.size a ≤ S64x176.size a) ∧
  (∀ a, (k0_off402 v1) a + S1x1.size a ≤ S64x176.size a) ∧
  (∀ a, (k0_off403 v1) a + S1x1.size a ≤ S64x176.size a) ∧
  (∀ a, (k0_off404 v1) a + S1x1.size a ≤ S64x176.size a) ∧
  (∀ a, (k0_off405 v1) a + S1x1.size a ≤ S64x176.size a) ∧
  (∀ a, (k0_off406 v1) a + S1x1.size a ≤ S64x176.size a) ∧
  (∀ a, (k0_off407 v1) a + S1x1.size a ≤ S64x176.size a) ∧
  (∀ a, (k0_off408 v1) a + S1x1.size a ≤ S64x176.size a) ∧
  (∀ a, (k0_off409 v1) a + S1x1.size a ≤ S64x176.size a) ∧
  (∀ a, (k0_off410 v1) a + S1x1.size a ≤ S64x176.size a) ∧
  (∀ a, (k0_off411 v1) a + S1x1.size a ≤ S64x176.size a) ∧
  (∀ a, (k0_off412 v1) a + S1x1.size a ≤ S64x176.size a) ∧
  (∀ a, (k0_off413 v1) a + S1x1.size a ≤ S64x176.size a) ∧
  (∀ a, (k0_off414 v1) a + S1x1.size a ≤ S64x176.size a) ∧
  (∀ a, (k0_off415 v1) a + S1x1.size a ≤ S64x176.size a) ∧
  (∀ a, (k0_off416 v1) a + S1x1.size a ≤ S64x176.size a) ∧
  (∀ a, (k0_off417 v1) a + S1x1.size a ≤ S64x176.size a)
def k0_chk1_13 (v1 : BitVec 32) : Prop :=
  (∀ a, (k0_off418 v1) a + S1x1.size a ≤ S64x176.size a) ∧
  (∀ a, (k0_off419 v1) a + S1x1.size a ≤ S64x176.size a) ∧
  (∀ a, (k0_off420 v1) a + S1x1.size a ≤ S64x176.size a) ∧
  (∀ a, (k0_off421 v1) a + S1x1.size a ≤ S64x176.size a) ∧
  (∀ a, (k0_off422 v1) a + S1x1.size a ≤ S64x176.size a) ∧
  (∀ a, (k0_off423 v1) a + S1x1.size a ≤ S64x176.size a) ∧
  (∀ a, (k0_off424 v1) a + S1x1.size a ≤ S64x176.size a) ∧
  (∀ a, (k0_off425 v1) a + S1x1.size a ≤ S64x176.size a) ∧
  (∀ a, (k0_off426 v1) a + S1x1.size a ≤ S64x176.size a) ∧
  (∀ a, (k0_off427 v1) a + S1x1.size a ≤ S64x176.size a) ∧
  (∀ a, (k0_off428 v1) a + S1x1.size a ≤ S64x176.size a) ∧
  (∀ a, (k0_off429 v1) a + S1x1.size a ≤ S64x176.size a) ∧
  (∀ a, (k0_off430 v1) a + S1x1.size a ≤ S64x176.size a) ∧
  (∀ a, (k0_off431 v1) a + S1x1.size a ≤ S64x176.size a) ∧
  (∀ a, (k0_off432 v1) a + S1x1.size a ≤ S64x176.size a) ∧
  (∀ a, (k0_off433 v1) a + S1x1.size a ≤ S64x176.size a) ∧
  (∀ a, (k0_off434 v1) a + S1x1.size a ≤ S64x176.size a) ∧
  (∀ a, (k0_off435 v1) a + S1x1.size a ≤ S64x176.size a) ∧
  (∀ a, (k0_off436 v1) a + S1x1.size a ≤ S64x176.size a) ∧
  (∀ a, (k0_off437 v1) a + S1x1.size a ≤ S64x176.size a) ∧
  (∀ a, (k0_off438 v1) a + S1x1.size a ≤ S64x176.size a) ∧
  (∀ a, (k0_off439 v1) a + S1x1.size a ≤ S64x176.size a) ∧
  (∀ a, (k0_off440 v1) a + S1x1.size a ≤ S64x176.size a) ∧
  (∀ a, (k0_off441 v1) a + S1x1.size a ≤ S64x176.size a) ∧
  (∀ a, (k0_off442 v1) a + S1x1.size a ≤ S64x176.size a) ∧
  (∀ a, (k0_off443 v1) a + S1x1.size a ≤ S64x176.size a) ∧
  (∀ a, (k0_off444 v1) a + S1x1.size a ≤ S64x176.size a) ∧
  (∀ a, (k0_off445 v1) a + S1x1.size a ≤ S64x176.size a) ∧
  (∀ a, (k0_off446 v1) a + S1x1.size a ≤ S64x176.size a) ∧
  (∀ a, (k0_off447 v1) a + S1x1.size a ≤ S64x176.size a) ∧
  (∀ a, (k0_off448 v1) a + S1x1.size a ≤ S64x176.size a) ∧
  (∀ a, (k0_off449 v1) a + S1x1.size a ≤ S64x176.size a)
def k0_chk1_14 (v1 : BitVec 32) : Prop :=
  (∀ a, (k0_off450 v1) a + S1x1.size a ≤ S64x176.size a) ∧
  (∀ a, (k0_off451 v1) a + S1x1.size a ≤ S64x176.size a) ∧
  (∀ a, (k0_off452 v1) a + S1x1.size a ≤ S64x176.size a) ∧
  (∀ a, (k0_off453 v1) a + S1x1.size a ≤ S64x176.size a) ∧
  (∀ a, (k0_off454 v1) a + S1x1.size a ≤ S64x176.size a) ∧
  (∀ a, (k0_off455 v1) a + S1x1.size a ≤ S64x176.size a) ∧
  (∀ a, (k0_off456 v1) a + S1x1.size a ≤ S64x176.size a) ∧
  (∀ a, (k0_off457 v1) a + S1x1.size a ≤ S64x176.size a) ∧
  (∀ a, (k0_off458 v1) a + S1x1.size a ≤ S64x176.size a) ∧
  (∀ a, (k0_off459 v1) a + S1x1.size a ≤ S64x176.size a) ∧
  (∀ a, (k0_off460 v1) a + S1x1.size a ≤ S64x176.size a) ∧
  (∀ a, (k0_off461 v1) a + S1x1.size a ≤ S64x176.size a) ∧
  (∀ a, (k0_off462 v1) a + S1x1.size a ≤ S64x176.size a) ∧
  (∀ a, (k0_off463 v1) a + S1x1.size a ≤ S64x176.size a) ∧
  (∀ a, (k0_off464 v1) a + S1x1.size a ≤ S64x176.size a) ∧
  (∀ a, (k0_off465 v1) a + S1x1.size a ≤ S64x176.size a) ∧
  (∀ a, (k0_off466 v1) a + S1x1.size a ≤ S64x176.size a) ∧
  (∀ a, (k0_off467 v1) a + S1x1.size a ≤ S64x176.size a) ∧
  (∀ a, (k0_off468 v1) a + S1x1.size a ≤ S64x176.size a) ∧
  (∀ a, (k0_off469 v1) a + S1x1.size a ≤ S64x176.size a) ∧
  (∀ a, (k0_off470 v1) a + S1x1.size a ≤ S64x176.size a) ∧
  (∀ a, (k0_off471 v1) a + S1x1.size a ≤ S64x176.size a) ∧
  (∀ a, (k0_off472 v1) a + S1x1.size a ≤ S64x176.size a) ∧
  (∀ a, (k0_off473 v1) a + S1x1.size a ≤ S64x176.size a) ∧
  (∀ a, (k0_off474 v1) a + S1x1.size a ≤ S64x176.size a) ∧
  (∀ a, (k0_off475 v1) a + S1x1.size a ≤ S64x176.size a) ∧
  (∀ a, (k0_off476 v1) a + S1x1.size a ≤ S64x176.size a) ∧
  (∀ a, (k0_off477 v1) a + S1x1.size a ≤ S64x176.size a) ∧
  (∀ a, (k0_off478 v1) a + S1x1.size a ≤ S64x176.size a) ∧
  (∀ a, (k0_off479 v1) a + S1x1.size a ≤ S64x176.size a) ∧
  (∀ a, (k0_off480 v1) a + S1x1.size a ≤ S64x176.size a) ∧
  (∀ a, (k0_off481 v1) a + S1x1.size a ≤ S64x176.size a)
def k0_chk1_15 (v1 : BitVec 32) : Prop :=
  (∀ a, (k0_off482 v1) a + S1x1.size a ≤ S64x176.size a) ∧
  (∀ a, (k0_off483 v1) a + S1x1.size a ≤ S64x176.size a) ∧
  (∀ a, (k0_off484 v1) a + S1x1.size a ≤ S64x176.size a) ∧
  (∀ a, (k0_off485 v1) a + S1x1.size a ≤ S64x176.size a) ∧
  (∀ a, (k0_off486 v1) a + S1x1.size a ≤ S64x176.size a) ∧
  (∀ a, (k0_off487 v1) a + S1x1.size a ≤ S64x176.size a) ∧
  (∀ a, (k0_off488 v1) a + S1x1.size a ≤ S64x176.size a) ∧
  (∀ a, (k0_off489 v1) a + S1x1.size a ≤ S64x176.size a) ∧
  (∀ a, (k0_off490 v1) a + S1x1.size a ≤ S64x176.size a) ∧
  (∀ a, (k0_off491 v1) a + S1x1.size a ≤ S64x176.size a) ∧
  (∀ a, (k0_off492 v1) a + S1x1.size a ≤ S64x176.size a) ∧
  (∀ a, (k0_off493 v1) a + S1x1.size a ≤ S64x176.size a) ∧
  (∀ a, (k0_off494 v1) a + S1x1.size a ≤ S64x176.size a) ∧
  (∀ a, (k0_off495 v1) a + S1x1.size a ≤ S64x176.size a) ∧
  (∀ a, (k0_off496 v1) a + S1x1.size a ≤ S64x176.size a) ∧
  (∀ a, (k0_off497 v1) a + S1x1.size a ≤ S64x176.size a) ∧
  (∀ a, (k0_off498 v1) a + S1x1.size a ≤ S64x176.size a) ∧
  (∀ a, (k0_off499 v1) a + S1x1.size a ≤ S64x176.size a) ∧
  (∀ a, (k0_off500 v1) a + S1x1.size a ≤ S64x176.size a) ∧
  (∀ a, (k0_off501 v1) a + S1x1.size a ≤ S64x176.size a) ∧
  (∀ a, (k0_off502 v1) a + S1x1.size a ≤ S64x176.size a) ∧
  (∀ a, (k0_off503 v1) a + S1x1.size a ≤ S64x176.size a) ∧
  (∀ a, (k0_off504 v1) a + S1x1.size a ≤ S64x176.size a) ∧
  (∀ a, (k0_off505 v1) a + S1x1.size a ≤ S64x176.size a) ∧
  (∀ a, (k0_off506 v1) a + S1x1.size a ≤ S64x176.size a) ∧
  (∀ a, (k0_off507 v1) a + S1x1.size a ≤ S64x176.size a) ∧
  (∀ a, (k0_off508 v1) a + S1x1.size a ≤ S64x176.size a) ∧
  (∀ a, (k0_off509 v1) a + S1x1.size a ≤ S64x176.size a) ∧
  (∀ a, (k0_off510 v1) a + S1x1.size a ≤ S64x176.size a) ∧
  (∀ a, (k0_off511 v1) a + S1x1.size a ≤ S64x176.size a) ∧
  (∀ a, (k0_off512 v1) a + S1x1.size a ≤ S64x176.size a) ∧
  (∀ a, (k0_off513 v1) a + S1x1.size a ≤ S64x176.size a)
def k0_chk1_16 (v1 : BitVec 32) : Prop :=
  (∀ a, (k0_off514 v1) a + S1x1.size a ≤ S64x176.size a) ∧
  (∀ a, (k0_off515 v1) a + S1x1.size a ≤ S64x176.size a) ∧
  (∀ a, (k0_off516 v1) a + S1x1.size a ≤ S64x176.size a) ∧
  (∀ a, (k0_off517 v1) a + S1x1.size a ≤ S64x176.size a) ∧
  (∀ a, (k0_off518 v1) a + S1x1.size a ≤ S64x176.size a) ∧
  (∀ a, (k0_off519 v1) a + S1x1.size a ≤ S64x176.size a) ∧
  (∀ a, (k0_off520 v1) a + S1x1.size a ≤ S64x176.size a) ∧
  (∀ a, (k0_off521 v1) a + S1x1.size a ≤ S64x176.size a) ∧
  (∀ a, (k0_off522 v1) a + S1x1.size a ≤ S64x176.size a) ∧
  (∀ a, (k0_off523 v1) a + S1x1.size a ≤ S64x176.size a) ∧
  (∀ a, (k0_off524 v1) a + S1x1.size a ≤ S64x176.size a) ∧
  (∀ a, (k0_off525 v1) a + S1x1.size a ≤ S64x176.size a) ∧
  (∀ a, (k0_off526 v1) a + S1x1.size a ≤ S64x176.size a) ∧
  (∀ a, (k0_off527 v1) a + S1x1.size a ≤ S64x176.size a) ∧
  (∀ a, (k0_off528 v1) a + S1x1.size a ≤ S64x176.size a) ∧
  (∀ a, (k0_off529 v1) a + S1x1.size a ≤ S64x176.size a)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1 ∧
  k0_chk1_6 v1 ∧
  k0_chk1_7 v1 ∧
  k0_chk1_8 v1 ∧
  k0_chk1_9 v1 ∧
  k0_chk1_10 v1 ∧
  k0_chk1_11 v1 ∧
  k0_chk1_12 v1 ∧
  k0_chk1_13 v1 ∧
  k0_chk1_14 v1 ∧
  k0_chk1_15 v1 ∧
  k0_chk1_16 v1
theorem k0_off2_inb : ∀ (v1 : BitVec 32) (k0_hw1 : k0_chk1 v1), ∀ a, (k0_off2 v1) a + S1x1.size a ≤ S64x352.size a := fun v1 k0_hw1 => k0_hw1.1.1
theorem k0_off3_inb : ∀ (v1 : BitVec 32) (k0_hw1 : k0_chk1 v1), ∀ a, (k0_off3 v1) a + S1x1.size a ≤ S64x352.size a := fun v1 k0_hw1 => k0_hw1.1.2.1
theorem k0_off4_inb : ∀ (v1 : BitVec 32) (k0_hw1 : k0_chk1 v1), ∀ a, (k0_off4 v1) a + S1x1.size a ≤ S64x352.size a := fun v1 k0_hw1 => k0_hw1.1.2.2.1
theorem k0_off5_inb : ∀ (v1 : BitVec 32) (k0_hw1 : k0_chk1 v1), ∀ a, (k0_off5 v1) a + S1x1.size a ≤ S64x352.size a := fun v1 k0_hw1 => k0_hw1.1.2.2.2.1
theorem k0_off6_inb : ∀ (v1 : BitVec 32) (k0_hw1 : k0_chk1 v1), ∀ a, (k0_off6 v1) a + S1x1.size a ≤ S64x352.size a := fun v1 k0_hw1 => k0_hw1.1.2.2.2.2.1
theorem k0_off7_inb : ∀ (v1 : BitVec 32) (k0_hw1 : k0_chk1 v1), ∀ a, (k0_off7 v1) a + S1x1.size a ≤ S64x352.size a := fun v1 k0_hw1 => k0_hw1.1.2.2.2.2.2.1
theorem k0_off8_inb : ∀ (v1 : BitVec 32) (k0_hw1 : k0_chk1 v1), ∀ a, (k0_off8 v1) a + S1x1.size a ≤ S64x352.size a := fun v1 k0_hw1 => k0_hw1.1.2.2.2.2.2.2.1
theorem k0_off9_inb : ∀ (v1 : BitVec 32) (k0_hw1 : k0_chk1 v1), ∀ a, (k0_off9 v1) a + S1x1.size a ≤ S64x352.size a := fun v1 k0_hw1 => k0_hw1.1.2.2.2.2.2.2.2.1
theorem k0_off10_inb : ∀ (v1 : BitVec 32) (k0_hw1 : k0_chk1 v1), ∀ a, (k0_off10 v1) a + S1x1.size a ≤ S64x352.size a := fun v1 k0_hw1 => k0_hw1.1.2.2.2.2.2.2.2.2.1
theorem k0_off11_inb : ∀ (v1 : BitVec 32) (k0_hw1 : k0_chk1 v1), ∀ a, (k0_off11 v1) a + S1x1.size a ≤ S64x352.size a := fun v1 k0_hw1 => k0_hw1.1.2.2.2.2.2.2.2.2.2.1
theorem k0_off12_inb : ∀ (v1 : BitVec 32) (k0_hw1 : k0_chk1 v1), ∀ a, (k0_off12 v1) a + S1x1.size a ≤ S64x352.size a := fun v1 k0_hw1 => k0_hw1.1.2.2.2.2.2.2.2.2.2.2.1
theorem k0_off13_inb : ∀ (v1 : BitVec 32) (k0_hw1 : k0_chk1 v1), ∀ a, (k0_off13 v1) a + S1x1.size a ≤ S64x352.size a := fun v1 k0_hw1 => k0_hw1.1.2.2.2.2.2.2.2.2.2.2.2.1
theorem k0_off14_inb : ∀ (v1 : BitVec 32) (k0_hw1 : k0_chk1 v1), ∀ a, (k0_off14 v1) a + S1x1.size a ≤ S64x352.size a := fun v1 k0_hw1 => k0_hw1.1.2.2.2.2.2.2.2.2.2.2.2.2.1
theorem k0_off15_inb : ∀ (v1 : BitVec 32) (k0_hw1 : k0_chk1 v1), ∀ a, (k0_off15 v1) a + S1x1.size a ≤ S64x352.size a := fun v1 k0_hw1 => k0_hw1.1.2.2.2.2.2.2.2.2.2.2.2.2.2.1
theorem k0_off16_inb : ∀ (v1 : BitVec 32) (k0_hw1 : k0_chk1 v1), ∀ a, (k0_off16 v1) a + S1x1.size a ≤ S64x352.size a := fun v1 k0_hw1 => k0_hw1.1.2.2.2.2.2.2.2.2.2.2.2.2.2.2.1
theorem k0_off17_inb : ∀ (v1 : BitVec 32) (k0_hw1 : k0_chk1 v1), ∀ a, (k0_off17 v1) a + S1x1.size a ≤ S64x352.size a := fun v1 k0_hw1 => k0_hw1.1.2.2.2.2.2.2.2.2.2.2.2.2.2.2.2.1
theorem k0_off18_inb : ∀ (v1 : BitVec 32) (k0_hw1 : k0_chk1 v1), ∀ a, (k0_off18 v1) a + S1x1.size a ≤ S64x352.size a := fun v1 k0_hw1 => k0_hw1.1.2.2.2.2.2.2.2.2.2.2.2.2.2.2.2.2.1
theorem k0_off19_inb : ∀ (v1 : BitVec 32) (k0_hw1 : k0_chk1 v1), ∀ a, (k0_off19 v1) a + S1x1.size a ≤ S64x352.size a := fun v1 k0_hw1 => k0_hw1.1.2.2.2.2.2.2.2.2.2.2.2.2.2.2.2.2.2.1
theorem k0_off20_inb : ∀ (v1 : BitVec 32) (k0_hw1 : k0_chk1 v1), ∀ a, (k0_off20 v1) a + S1x1.size a ≤ S64x352.size a := fun v1 k0_hw1 => k0_hw1.1.2.2.2.2.2.2.2.2.2.2.2.2.2.2.2.2.2.2.1
theorem k0_off21_inb : ∀ (v1 : BitVec 32) (k0_hw1 : k0_chk1 v1), ∀ a, (k0_off21 v1) a + S1x1.size a ≤ S64x352.size a := fun v1 k0_hw1 => k0_hw1.1.2.2.2.2.2.2.2.2.2.2.2.2.2.2.2.2.2.2.2.1
theorem k0_off22_inb : ∀ (v1 : BitVec 32) (k0_hw1 : k0_chk1 v1), ∀ a, (k0_off22 v1) a + S1x1.size a ≤ S64x352.size a := fun v1 k0_hw1 => k0_hw1.1.2.2.2.2.2.2.2.2.2.2.2.2.2.2.2.2.2.2.2.2.1
theorem k0_off23_inb : ∀ (v1 : BitVec 32) (k0_hw1 : k0_chk1 v1), ∀ a, (k0_off23 v1) a + S1x1.size a ≤ S64x352.size a := fun v1 k0_hw1 => k0_hw1.1.2.2.2.2.2.2.2.2.2.2.2.2.2.2.2.2.2.2.2.2.2.1
theorem k0_off24_inb : ∀ (v1 : BitVec 32) (k0_hw1 : k0_chk1 v1), ∀ a, (k0_off24 v1) a + S1x1.size a ≤ S64x352.size a := fun v1 k0_hw1 => k0_hw1.1.2.2.2.2.2.2.2.2.2.2.2.2.2.2.2.2.2.2.2.2.2.2.1
theorem k0_off25_inb : ∀ (v1 : BitVec 32) (k0_hw1 : k0_chk1 v1), ∀ a, (k0_off25 v1) a + S1x1.size a ≤ S64x352.size a := fun v1 k0_hw1 => k0_hw1.1.2.2.2.2.2.2.2.2.2.2.2.2.2.2.2.2.2.2.2.2.2.2.2.1
theorem k0_off26_inb : ∀ (v1 : BitVec 32) (k0_hw1 : k0_chk1 v1), ∀ a, (k0_off26 v1) a + S1x1.size a ≤ S64x352.size a := fun v1 k0_hw1 => k0_hw1.1.2.2.2.2.2.2.2.2.2.2.2.2.2.2.2.2.2.2.2.2.2.2.2.2.1
theorem k0_off27_inb : ∀ (v1 : BitVec 32) (k0_hw1 : k0_chk1 v1), ∀ a, (k0_off27 v1) a + S1x1.size a ≤ S64x352.size a := fun v1 k0_hw1 => k0_hw1.1.2.2.2.2.2.2.2.2.2.2.2.2.2.2.2.2.2.2.2.2.2.2.2.2.2.1
theorem k0_off28_inb : ∀ (v1 : BitVec 32) (k0_hw1 : k0_chk1 v1), ∀ a, (k0_off28 v1) a + S1x1.size a ≤ S64x352.size a := fun v1 k0_hw1 => k0_hw1.1.2.2.2.2.2.2.2.2.2.2.2.2.2.2.2.2.2.2.2.2.2.2.2.2.2.2.1
theorem k0_off29_inb : ∀ (v1 : BitVec 32) (k0_hw1 : k0_chk1 v1), ∀ a, (k0_off29 v1) a + S1x1.size a ≤ S64x352.size a := fun v1 k0_hw1 => k0_hw1.1.2.2.2.2.2.2.2.2.2.2.2.2.2.2.2.2.2.2.2.2.2.2.2.2.2.2.2.1
theorem k0_off30_inb : ∀ (v1 : BitVec 32) (k0_hw1 : k0_chk1 v1), ∀ a, (k0_off30 v1) a + S1x1.size a ≤ S64x352.size a := fun v1 k0_hw1 => k0_hw1.1.2.2.2.2.2.2.2.2.2.2.2.2.2.2.2.2.2.2.2.2.2.2.2.2.2.2.2.2.1
theorem k0_off31_inb : ∀ (v1 : BitVec 32) (k0_hw1 : k0_chk1 v1), ∀ a, (k0_off31 v1) a + S1x1.size a ≤ S64x352.size a := fun v1 k0_hw1 => k0_hw1.1.2.2.2.2.2.2.2.2.2.2.2.2.2.2.2.2.2.2.2.2.2.2.2.2.2.2.2.2.2.1
theorem k0_off32_inb : ∀ (v1 : BitVec 32) (k0_hw1 : k0_chk1 v1), ∀ a, (k0_off32 v1) a + S1x1.size a ≤ S64x352.size a := fun v1 k0_hw1 => k0_hw1.1.2.2.2.2.2.2.2.2.2.2.2.2.2.2.2.2.2.2.2.2.2.2.2.2.2.2.2.2.2.2.1
theorem k0_off33_inb : ∀ (v1 : BitVec 32) (k0_hw1 : k0_chk1 v1), ∀ a, (k0_off33 v1) a + S1x1.size a ≤ S64x352.size a := fun v1 k0_hw1 => k0_hw1.1.2.2.2.2.2.2.2.2.2.2.2.2.2.2.2.2.2.2.2.2.2.2.2.2.2.2.2.2.2.2.2
theorem k0_off34_inb : ∀ (v1 : BitVec 32) (k0_hw1 : k0_chk1 v1), ∀ a, (k0_off34 v1) a + S1x1.size a ≤ S64x352.size a := fun v1 k0_hw1 => k0_hw1.2.1.1
theorem k0_off35_inb : ∀ (v1 : BitVec 32) (k0_hw1 : k0_chk1 v1), ∀ a, (k0_off35 v1) a + S1x1.size a ≤ S64x352.size a := fun v1 k0_hw1 => k0_hw1.2.1.2.1
theorem k0_off36_inb : ∀ (v1 : BitVec 32) (k0_hw1 : k0_chk1 v1), ∀ a, (k0_off36 v1) a + S1x1.size a ≤ S64x352.size a := fun v1 k0_hw1 => k0_hw1.2.1.2.2.1
theorem k0_off37_inb : ∀ (v1 : BitVec 32) (k0_hw1 : k0_chk1 v1), ∀ a, (k0_off37 v1) a + S1x1.size a ≤ S64x352.size a := fun v1 k0_hw1 => k0_hw1.2.1.2.2.2.1
theorem k0_off38_inb : ∀ (v1 : BitVec 32) (k0_hw1 : k0_chk1 v1), ∀ a, (k0_off38 v1) a + S1x1.size a ≤ S64x352.size a := fun v1 k0_hw1 => k0_hw1.2.1.2.2.2.2.1
theorem k0_off39_inb : ∀ (v1 : BitVec 32) (k0_hw1 : k0_chk1 v1), ∀ a, (k0_off39 v1) a + S1x1.size a ≤ S64x352.size a := fun v1 k0_hw1 => k0_hw1.2.1.2.2.2.2.2.1
theorem k0_off40_inb : ∀ (v1 : BitVec 32) (k0_hw1 : k0_chk1 v1), ∀ a, (k0_off40 v1) a + S1x1.size a ≤ S64x352.size a := fun v1 k0_hw1 => k0_hw1.2.1.2.2.2.2.2.2.1
theorem k0_off41_inb : ∀ (v1 : BitVec 32) (k0_hw1 : k0_chk1 v1), ∀ a, (k0_off41 v1) a + S1x1.size a ≤ S64x352.size a := fun v1 k0_hw1 => k0_hw1.2.1.2.2.2.2.2.2.2.1
theorem k0_off42_inb : ∀ (v1 : BitVec 32) (k0_hw1 : k0_chk1 v1), ∀ a, (k0_off42 v1) a + S1x1.size a ≤ S64x352.size a := fun v1 k0_hw1 => k0_hw1.2.1.2.2.2.2.2.2.2.2.1
theorem k0_off43_inb : ∀ (v1 : BitVec 32) (k0_hw1 : k0_chk1 v1), ∀ a, (k0_off43 v1) a + S1x1.size a ≤ S64x352.size a := fun v1 k0_hw1 => k0_hw1.2.1.2.2.2.2.2.2.2.2.2.1
theorem k0_off44_inb : ∀ (v1 : BitVec 32) (k0_hw1 : k0_chk1 v1), ∀ a, (k0_off44 v1) a + S1x1.size a ≤ S64x352.size a := fun v1 k0_hw1 => k0_hw1.2.1.2.2.2.2.2.2.2.2.2.2.1
theorem k0_off45_inb : ∀ (v1 : BitVec 32) (k0_hw1 : k0_chk1 v1), ∀ a, (k0_off45 v1) a + S1x1.size a ≤ S64x352.size a := fun v1 k0_hw1 => k0_hw1.2.1.2.2.2.2.2.2.2.2.2.2.2.1
theorem k0_off46_inb : ∀ (v1 : BitVec 32) (k0_hw1 : k0_chk1 v1), ∀ a, (k0_off46 v1) a + S1x1.size a ≤ S64x352.size a := fun v1 k0_hw1 => k0_hw1.2.1.2.2.2.2.2.2.2.2.2.2.2.2.1
theorem k0_off47_inb : ∀ (v1 : BitVec 32) (k0_hw1 : k0_chk1 v1), ∀ a, (k0_off47 v1) a + S1x1.size a ≤ S64x352.size a := fun v1 k0_hw1 => k0_hw1.2.1.2.2.2.2.2.2.2.2.2.2.2.2.2.1
theorem k0_off48_inb : ∀ (v1 : BitVec 32) (k0_hw1 : k0_chk1 v1), ∀ a, (k0_off48 v1) a + S1x1.size a ≤ S64x352.size a := fun v1 k0_hw1 => k0_hw1.2.1.2.2.2.2.2.2.2.2.2.2.2.2.2.2.1
theorem k0_off49_inb : ∀ (v1 : BitVec 32) (k0_hw1 : k0_chk1 v1), ∀ a, (k0_off49 v1) a + S1x1.size a ≤ S64x352.size a := fun v1 k0_hw1 => k0_hw1.2.1.2.2.2.2.2.2.2.2.2.2.2.2.2.2.2.1
theorem k0_off50_inb : ∀ (v1 : BitVec 32) (k0_hw1 : k0_chk1 v1), ∀ a, (k0_off50 v1) a + S1x1.size a ≤ S64x352.size a := fun v1 k0_hw1 => k0_hw1.2.1.2.2.2.2.2.2.2.2.2.2.2.2.2.2.2.2.1
theorem k0_off51_inb : ∀ (v1 : BitVec 32) (k0_hw1 : k0_chk1 v1), ∀ a, (k0_off51 v1) a + S1x1.size a ≤ S64x352.size a := fun v1 k0_hw1 => k0_hw1.2.1.2.2.2.2.2.2.2.2.2.2.2.2.2.2.2.2.2.1
theorem k0_off52_inb : ∀ (v1 : BitVec 32) (k0_hw1 : k0_chk1 v1), ∀ a, (k0_off52 v1) a + S1x1.size a ≤ S64x352.size a := fun v1 k0_hw1 => k0_hw1.2.1.2.2.2.2.2.2.2.2.2.2.2.2.2.2.2.2.2.2.1
theorem k0_off53_inb : ∀ (v1 : BitVec 32) (k0_hw1 : k0_chk1 v1), ∀ a, (k0_off53 v1) a + S1x1.size a ≤ S64x352.size a := fun v1 k0_hw1 => k0_hw1.2.1.2.2.2.2.2.2.2.2.2.2.2.2.2.2.2.2.2.2.2.1
theorem k0_off54_inb : ∀ (v1 : BitVec 32) (k0_hw1 : k0_chk1 v1), ∀ a, (k0_off54 v1) a + S1x1.size a ≤ S64x352.size a := fun v1 k0_hw1 => k0_hw1.2.1.2.2.2.2.2.2.2.2.2.2.2.2.2.2.2.2.2.2.2.2.1
theorem k0_off55_inb : ∀ (v1 : BitVec 32) (k0_hw1 : k0_chk1 v1), ∀ a, (k0_off55 v1) a + S1x1.size a ≤ S64x352.size a := fun v1 k0_hw1 => k0_hw1.2.1.2.2.2.2.2.2.2.2.2.2.2.2.2.2.2.2.2.2.2.2.2.1
theorem k0_off56_inb : ∀ (v1 : BitVec 32) (k0_hw1 : k0_chk1 v1), ∀ a, (k0_off56 v1) a + S1x1.size a ≤ S64x352.size a := fun v1 k0_hw1 => k0_hw1.2.1.2.2.2.2.2.2.2.2.2.2.2.2.2.2.2.2.2.2.2.2.2.2.1
theorem k0_off57_inb : ∀ (v1 : BitVec 32) (k0_hw1 : k0_chk1 v1), ∀ a, (k0_off57 v1) a + S1x1.size a ≤ S64x352.size a := fun v1 k0_hw1 => k0_hw1.2.1.2.2.2.2.2.2.2.2.2.2.2.2.2.2.2.2.2.2.2.2.2.2.2.1
theorem k0_off58_inb : ∀ (v1 : BitVec 32) (k0_hw1 : k0_chk1 v1), ∀ a, (k0_off58 v1) a + S1x1.size a ≤ S64x352.size a := fun v1 k0_hw1 => k0_hw1.2.1.2.2.2.2.2.2.2.2.2.2.2.2.2.2.2.2.2.2.2.2.2.2.2.2.1
theorem k0_off59_inb : ∀ (v1 : BitVec 32) (k0_hw1 : k0_chk1 v1), ∀ a, (k0_off59 v1) a + S1x1.size a ≤ S64x352.size a := fun v1 k0_hw1 => k0_hw1.2.1.2.2.2.2.2.2.2.2.2.2.2.2.2.2.2.2.2.2.2.2.2.2.2.2.2.1
theorem k0_off60_inb : ∀ (v1 : BitVec 32) (k0_hw1 : k0_chk1 v1), ∀ a, (k0_off60 v1) a + S1x1.size a ≤ S64x352.size a := fun v1 k0_hw1 => k0_hw1.2.1.2.2.2.2.2.2.2.2.2.2.2.2.2.2.2.2.2.2.2.2.2.2.2.2.2.2.1
theorem k0_off61_inb : ∀ (v1 : BitVec 32) (k0_hw1 : k0_chk1 v1), ∀ a, (k0_off61 v1) a + S1x1.size a ≤ S64x352.size a := fun v1 k0_hw1 => k0_hw1.2.1.2.2.2.2.2.2.2.2.2.2.2.2.2.2.2.2.2.2.2.2.2.2.2.2.2.2.2.1
theorem k0_off62_inb : ∀ (v1 : BitVec 32) (k0_hw1 : k0_chk1 v1), ∀ a, (k0_off62 v1) a + S1x1.size a ≤ S64x352.size a := fun v1 k0_hw1 => k0_hw1.2.1.2.2.2.2.2.2.2.2.2.2.2.2.2.2.2.2.2.2.2.2.2.2.2.2.2.2.2.2.1
theorem k0_off63_inb : ∀ (v1 : BitVec 32) (k0_hw1 : k0_chk1 v1), ∀ a, (k0_off63 v1) a + S1x1.size a ≤ S64x352.size a := fun v1 k0_hw1 => k0_hw1.2.1.2.2.2.2.2.2.2.2.2.2.2.2.2.2.2.2.2.2.2.2.2.2.2.2.2.2.2.2.2.1
theorem k0_off64_inb : ∀ (v1 : BitVec 32) (k0_hw1 : k0_chk1 v1), ∀ a, (k0_off64 v1) a + S1x1.size a ≤ S64x352.size a := fun v1 k0_hw1 => k0_hw1.2.1.2.2.2.2.2.2.2.2.2.2.2.2.2.2.2.2.2.2.2.2.2.2.2.2.2.2.2.2.2.2.1
theorem k0_off65_inb : ∀ (v1 : BitVec 32) (k0_hw1 : k0_chk1 v1), ∀ a, (k0_off65 v1) a + S1x1.size a ≤ S64x352.size a := fun v1 k0_hw1 => k0_hw1.2.1.2.2.2.2.2.2.2.2.2.2.2.2.2.2.2.2.2.2.2.2.2.2.2.2.2.2.2.2.2.2.2
theorem k0_off66_inb : ∀ (v1 : BitVec 32) (k0_hw1 : k0_chk1 v1), ∀ a, (k0_off66 v1) a + S1x1.size a ≤ S64x352.size a := fun v1 k0_hw1 => k0_hw1.2.2.1.1
theorem k0_off67_inb : ∀ (v1 : BitVec 32) (k0_hw1 : k0_chk1 v1), ∀ a, (k0_off67 v1) a + S1x1.size a ≤ S64x352.size a := fun v1 k0_hw1 => k0_hw1.2.2.1.2.1
theorem k0_off68_inb : ∀ (v1 : BitVec 32) (k0_hw1 : k0_chk1 v1), ∀ a, (k0_off68 v1) a + S1x1.size a ≤ S64x352.size a := fun v1 k0_hw1 => k0_hw1.2.2.1.2.2.1
theorem k0_off69_inb : ∀ (v1 : BitVec 32) (k0_hw1 : k0_chk1 v1), ∀ a, (k0_off69 v1) a + S1x1.size a ≤ S64x352.size a := fun v1 k0_hw1 => k0_hw1.2.2.1.2.2.2.1
theorem k0_off70_inb : ∀ (v1 : BitVec 32) (k0_hw1 : k0_chk1 v1), ∀ a, (k0_off70 v1) a + S1x1.size a ≤ S64x352.size a := fun v1 k0_hw1 => k0_hw1.2.2.1.2.2.2.2.1
theorem k0_off71_inb : ∀ (v1 : BitVec 32) (k0_hw1 : k0_chk1 v1), ∀ a, (k0_off71 v1) a + S1x1.size a ≤ S64x352.size a := fun v1 k0_hw1 => k0_hw1.2.2.1.2.2.2.2.2.1
theorem k0_off72_inb : ∀ (v1 : BitVec 32) (k0_hw1 : k0_chk1 v1), ∀ a, (k0_off72 v1) a + S1x1.size a ≤ S64x352.size a := fun v1 k0_hw1 => k0_hw1.2.2.1.2.2.2.2.2.2.1
theorem k0_off73_inb : ∀ (v1 : BitVec 32) (k0_hw1 : k0_chk1 v1), ∀ a, (k0_off73 v1) a + S1x1.size a ≤ S64x352.size a := fun v1 k0_hw1 => k0_hw1.2.2.1.2.2.2.2.2.2.2.1
theorem k0_off74_inb : ∀ (v1 : BitVec 32) (k0_hw1 : k0_chk1 v1), ∀ a, (k0_off74 v1) a + S1x1.size a ≤ S64x352.size a := fun v1 k0_hw1 => k0_hw1.2.2.1.2.2.2.2.2.2.2.2.1
theorem k0_off75_inb : ∀ (v1 : BitVec 32) (k0_hw1 : k0_chk1 v1), ∀ a, (k0_off75 v1) a + S1x1.size a ≤ S64x352.size a := fun v1 k0_hw1 => k0_hw1.2.2.1.2.2.2.2.2.2.2.2.2.1
theorem k0_off76_inb : ∀ (v1 : BitVec 32) (k0_hw1 : k0_chk1 v1), ∀ a, (k0_off76 v1) a + S1x1.size a ≤ S64x352.size a := fun v1 k0_hw1 => k0_hw1.2.2.1.2.2.2.2.2.2.2.2.2.2.1
theorem k0_off77_inb : ∀ (v1 : BitVec 32) (k0_hw1 : k0_chk1 v1), ∀ a, (k0_off77 v1) a + S1x1.size a ≤ S64x352.size a := fun v1 k0_hw1 => k0_hw1.2.2.1.2.2.2.2.2.2.2.2.2.2.2.1
theorem k0_off78_inb : ∀ (v1 : BitVec 32) (k0_hw1 : k0_chk1 v1), ∀ a, (k0_off78 v1) a + S1x1.size a ≤ S64x352.size a := fun v1 k0_hw1 => k0_hw1.2.2.1.2.2.2.2.2.2.2.2.2.2.2.2.1
theorem k0_off79_inb : ∀ (v1 : BitVec 32) (k0_hw1 : k0_chk1 v1), ∀ a, (k0_off79 v1) a + S1x1.size a ≤ S64x352.size a := fun v1 k0_hw1 => k0_hw1.2.2.1.2.2.2.2.2.2.2.2.2.2.2.2.2.1
theorem k0_off80_inb : ∀ (v1 : BitVec 32) (k0_hw1 : k0_chk1 v1), ∀ a, (k0_off80 v1) a + S1x1.size a ≤ S64x352.size a := fun v1 k0_hw1 => k0_hw1.2.2.1.2.2.2.2.2.2.2.2.2.2.2.2.2.2.1
theorem k0_off81_inb : ∀ (v1 : BitVec 32) (k0_hw1 : k0_chk1 v1), ∀ a, (k0_off81 v1) a + S1x1.size a ≤ S64x352.size a := fun v1 k0_hw1 => k0_hw1.2.2.1.2.2.2.2.2.2.2.2.2.2.2.2.2.2.2.1
theorem k0_off82_inb : ∀ (v1 : BitVec 32) (k0_hw1 : k0_chk1 v1), ∀ a, (k0_off82 v1) a + S1x1.size a ≤ S64x352.size a := fun v1 k0_hw1 => k0_hw1.2.2.1.2.2.2.2.2.2.2.2.2.2.2.2.2.2.2.2.1
theorem k0_off83_inb : ∀ (v1 : BitVec 32) (k0_hw1 : k0_chk1 v1), ∀ a, (k0_off83 v1) a + S1x1.size a ≤ S64x352.size a := fun v1 k0_hw1 => k0_hw1.2.2.1.2.2.2.2.2.2.2.2.2.2.2.2.2.2.2.2.2.1
theorem k0_off84_inb : ∀ (v1 : BitVec 32) (k0_hw1 : k0_chk1 v1), ∀ a, (k0_off84 v1) a + S1x1.size a ≤ S64x352.size a := fun v1 k0_hw1 => k0_hw1.2.2.1.2.2.2.2.2.2.2.2.2.2.2.2.2.2.2.2.2.2.1
theorem k0_off85_inb : ∀ (v1 : BitVec 32) (k0_hw1 : k0_chk1 v1), ∀ a, (k0_off85 v1) a + S1x1.size a ≤ S64x352.size a := fun v1 k0_hw1 => k0_hw1.2.2.1.2.2.2.2.2.2.2.2.2.2.2.2.2.2.2.2.2.2.2.1
theorem k0_off86_inb : ∀ (v1 : BitVec 32) (k0_hw1 : k0_chk1 v1), ∀ a, (k0_off86 v1) a + S1x1.size a ≤ S64x352.size a := fun v1 k0_hw1 => k0_hw1.2.2.1.2.2.2.2.2.2.2.2.2.2.2.2.2.2.2.2.2.2.2.2.1
theorem k0_off87_inb : ∀ (v1 : BitVec 32) (k0_hw1 : k0_chk1 v1), ∀ a, (k0_off87 v1) a + S1x1.size a ≤ S64x352.size a := fun v1 k0_hw1 => k0_hw1.2.2.1.2.2.2.2.2.2.2.2.2.2.2.2.2.2.2.2.2.2.2.2.2.1
theorem k0_off88_inb : ∀ (v1 : BitVec 32) (k0_hw1 : k0_chk1 v1), ∀ a, (k0_off88 v1) a + S1x1.size a ≤ S64x352.size a := fun v1 k0_hw1 => k0_hw1.2.2.1.2.2.2.2.2.2.2.2.2.2.2.2.2.2.2.2.2.2.2.2.2.2.1
theorem k0_off89_inb : ∀ (v1 : BitVec 32) (k0_hw1 : k0_chk1 v1), ∀ a, (k0_off89 v1) a + S1x1.size a ≤ S64x352.size a := fun v1 k0_hw1 => k0_hw1.2.2.1.2.2.2.2.2.2.2.2.2.2.2.2.2.2.2.2.2.2.2.2.2.2.2.1
theorem k0_off90_inb : ∀ (v1 : BitVec 32) (k0_hw1 : k0_chk1 v1), ∀ a, (k0_off90 v1) a + S1x1.size a ≤ S64x352.size a := fun v1 k0_hw1 => k0_hw1.2.2.1.2.2.2.2.2.2.2.2.2.2.2.2.2.2.2.2.2.2.2.2.2.2.2.2.1
theorem k0_off91_inb : ∀ (v1 : BitVec 32) (k0_hw1 : k0_chk1 v1), ∀ a, (k0_off91 v1) a + S1x1.size a ≤ S64x352.size a := fun v1 k0_hw1 => k0_hw1.2.2.1.2.2.2.2.2.2.2.2.2.2.2.2.2.2.2.2.2.2.2.2.2.2.2.2.2.1
theorem k0_off92_inb : ∀ (v1 : BitVec 32) (k0_hw1 : k0_chk1 v1), ∀ a, (k0_off92 v1) a + S1x1.size a ≤ S64x352.size a := fun v1 k0_hw1 => k0_hw1.2.2.1.2.2.2.2.2.2.2.2.2.2.2.2.2.2.2.2.2.2.2.2.2.2.2.2.2.2.1
theorem k0_off93_inb : ∀ (v1 : BitVec 32) (k0_hw1 : k0_chk1 v1), ∀ a, (k0_off93 v1) a + S1x1.size a ≤ S64x352.size a := fun v1 k0_hw1 => k0_hw1.2.2.1.2.2.2.2.2.2.2.2.2.2.2.2.2.2.2.2.2.2.2.2.2.2.2.2.2.2.2.1
theorem k0_off94_inb : ∀ (v1 : BitVec 32) (k0_hw1 : k0_chk1 v1), ∀ a, (k0_off94 v1) a + S1x1.size a ≤ S64x352.size a := fun v1 k0_hw1 => k0_hw1.2.2.1.2.2.2.2.2.2.2.2.2.2.2.2.2.2.2.2.2.2.2.2.2.2.2.2.2.2.2.2.1
theorem k0_off95_inb : ∀ (v1 : BitVec 32) (k0_hw1 : k0_chk1 v1), ∀ a, (k0_off95 v1) a + S1x1.size a ≤ S64x352.size a := fun v1 k0_hw1 => k0_hw1.2.2.1.2.2.2.2.2.2.2.2.2.2.2.2.2.2.2.2.2.2.2.2.2.2.2.2.2.2.2.2.2.1
theorem k0_off96_inb : ∀ (v1 : BitVec 32) (k0_hw1 : k0_chk1 v1), ∀ a, (k0_off96 v1) a + S1x1.size a ≤ S64x352.size a := fun v1 k0_hw1 => k0_hw1.2.2.1.2.2.2.2.2.2.2.2.2.2.2.2.2.2.2.2.2.2.2.2.2.2.2.2.2.2.2.2.2.2.1
theorem k0_off97_inb : ∀ (v1 : BitVec 32) (k0_hw1 : k0_chk1 v1), ∀ a, (k0_off97 v1) a + S1x1.size a ≤ S64x352.size a := fun v1 k0_hw1 => k0_hw1.2.2.1.2.2.2.2.2.2.2.2.2.2.2.2.2.2.2.2.2.2.2.2.2.2.2.2.2.2.2.2.2.2.2
theorem k0_off98_inb : ∀ (v1 : BitVec 32) (k0_hw1 : k0_chk1 v1), ∀ a, (k0_off98 v1) a + S1x1.size a ≤ S64x352.size a := fun v1 k0_hw1 => k0_hw1.2.2.2.1.1
theorem k0_off99_inb : ∀ (v1 : BitVec 32) (k0_hw1 : k0_chk1 v1), ∀ a, (k0_off99 v1) a + S1x1.size a ≤ S64x352.size a := fun v1 k0_hw1 => k0_hw1.2.2.2.1.2.1
theorem k0_off100_inb : ∀ (v1 : BitVec 32) (k0_hw1 : k0_chk1 v1), ∀ a, (k0_off100 v1) a + S1x1.size a ≤ S64x352.size a := fun v1 k0_hw1 => k0_hw1.2.2.2.1.2.2.1
theorem k0_off101_inb : ∀ (v1 : BitVec 32) (k0_hw1 : k0_chk1 v1), ∀ a, (k0_off101 v1) a + S1x1.size a ≤ S64x352.size a := fun v1 k0_hw1 => k0_hw1.2.2.2.1.2.2.2.1
theorem k0_off102_inb : ∀ (v1 : BitVec 32) (k0_hw1 : k0_chk1 v1), ∀ a, (k0_off102 v1) a + S1x1.size a ≤ S64x352.size a := fun v1 k0_hw1 => k0_hw1.2.2.2.1.2.2.2.2.1
theorem k0_off103_inb : ∀ (v1 : BitVec 32) (k0_hw1 : k0_chk1 v1), ∀ a, (k0_off103 v1) a + S1x1.size a ≤ S64x352.size a := fun v1 k0_hw1 => k0_hw1.2.2.2.1.2.2.2.2.2.1
theorem k0_off104_inb : ∀ (v1 : BitVec 32) (k0_hw1 : k0_chk1 v1), ∀ a, (k0_off104 v1) a + S1x1.size a ≤ S64x352.size a := fun v1 k0_hw1 => k0_hw1.2.2.2.1.2.2.2.2.2.2.1
theorem k0_off105_inb : ∀ (v1 : BitVec 32) (k0_hw1 : k0_chk1 v1), ∀ a, (k0_off105 v1) a + S1x1.size a ≤ S64x352.size a := fun v1 k0_hw1 => k0_hw1.2.2.2.1.2.2.2.2.2.2.2.1
theorem k0_off106_inb : ∀ (v1 : BitVec 32) (k0_hw1 : k0_chk1 v1), ∀ a, (k0_off106 v1) a + S1x1.size a ≤ S64x352.size a := fun v1 k0_hw1 => k0_hw1.2.2.2.1.2.2.2.2.2.2.2.2.1
theorem k0_off107_inb : ∀ (v1 : BitVec 32) (k0_hw1 : k0_chk1 v1), ∀ a, (k0_off107 v1) a + S1x1.size a ≤ S64x352.size a := fun v1 k0_hw1 => k0_hw1.2.2.2.1.2.2.2.2.2.2.2.2.2.1
theorem k0_off108_inb : ∀ (v1 : BitVec 32) (k0_hw1 : k0_chk1 v1), ∀ a, (k0_off108 v1) a + S1x1.size a ≤ S64x352.size a := fun v1 k0_hw1 => k0_hw1.2.2.2.1.2.2.2.2.2.2.2.2.2.2.1
theorem k0_off109_inb : ∀ (v1 : BitVec 32) (k0_hw1 : k0_chk1 v1), ∀ a, (k0_off109 v1) a + S1x1.size a ≤ S64x352.size a := fun v1 k0_hw1 => k0_hw1.2.2.2.1.2.2.2.2.2.2.2.2.2.2.2.1
theorem k0_off110_inb : ∀ (v1 : BitVec 32) (k0_hw1 : k0_chk1 v1), ∀ a, (k0_off110 v1) a + S1x1.size a ≤ S64x352.size a := fun v1 k0_hw1 => k0_hw1.2.2.2.1.2.2.2.2.2.2.2.2.2.2.2.2.1
theorem k0_off111_inb : ∀ (v1 : BitVec 32) (k0_hw1 : k0_chk1 v1), ∀ a, (k0_off111 v1) a + S1x1.size a ≤ S64x352.size a := fun v1 k0_hw1 => k0_hw1.2.2.2.1.2.2.2.2.2.2.2.2.2.2.2.2.2.1
theorem k0_off112_inb : ∀ (v1 : BitVec 32) (k0_hw1 : k0_chk1 v1), ∀ a, (k0_off112 v1) a + S1x1.size a ≤ S64x352.size a := fun v1 k0_hw1 => k0_hw1.2.2.2.1.2.2.2.2.2.2.2.2.2.2.2.2.2.2.1
theorem k0_off113_inb : ∀ (v1 : BitVec 32) (k0_hw1 : k0_chk1 v1), ∀ a, (k0_off113 v1) a + S1x1.size a ≤ S64x352.size a := fun v1 k0_hw1 => k0_hw1.2.2.2.1.2.2.2.2.2.2.2.2.2.2.2.2.2.2.2.1
theorem k0_off114_inb : ∀ (v1 : BitVec 32) (k0_hw1 : k0_chk1 v1), ∀ a, (k0_off114 v1) a + S1x1.size a ≤ S64x352.size a := fun v1 k0_hw1 => k0_hw1.2.2.2.1.2.2.2.2.2.2.2.2.2.2.2.2.2.2.2.2.1
theorem k0_off115_inb : ∀ (v1 : BitVec 32) (k0_hw1 : k0_chk1 v1), ∀ a, (k0_off115 v1) a + S1x1.size a ≤ S64x352.size a := fun v1 k0_hw1 => k0_hw1.2.2.2.1.2.2.2.2.2.2.2.2.2.2.2.2.2.2.2.2.2.1
theorem k0_off116_inb : ∀ (v1 : BitVec 32) (k0_hw1 : k0_chk1 v1), ∀ a, (k0_off116 v1) a + S1x1.size a ≤ S64x352.size a := fun v1 k0_hw1 => k0_hw1.2.2.2.1.2.2.2.2.2.2.2.2.2.2.2.2.2.2.2.2.2.2.1
theorem k0_off117_inb : ∀ (v1 : BitVec 32) (k0_hw1 : k0_chk1 v1), ∀ a, (k0_off117 v1) a + S1x1.size a ≤ S64x352.size a := fun v1 k0_hw1 => k0_hw1.2.2.2.1.2.2.2.2.2.2.2.2.2.2.2.2.2.2.2.2.2.2.2.1
theorem k0_off118_inb : ∀ (v1 : BitVec 32) (k0_hw1 : k0_chk1 v1), ∀ a, (k0_off118 v1) a + S1x1.size a ≤ S64x352.size a := fun v1 k0_hw1 => k0_hw1.2.2.2.1.2.2.2.2.2.2.2.2.2.2.2.2.2.2.2.2.2.2.2.2.1
theorem k0_off119_inb : ∀ (v1 : BitVec 32) (k0_hw1 : k0_chk1 v1), ∀ a, (k0_off119 v1) a + S1x1.size a ≤ S64x352.size a := fun v1 k0_hw1 => k0_hw1.2.2.2.1.2.2.2.2.2.2.2.2.2.2.2.2.2.2.2.2.2.2.2.2.2.1
theorem k0_off120_inb : ∀ (v1 : BitVec 32) (k0_hw1 : k0_chk1 v1), ∀ a, (k0_off120 v1) a + S1x1.size a ≤ S64x352.size a := fun v1 k0_hw1 => k0_hw1.2.2.2.1.2.2.2.2.2.2.2.2.2.2.2.2.2.2.2.2.2.2.2.2.2.2.1
theorem k0_off121_inb : ∀ (v1 : BitVec 32) (k0_hw1 : k0_chk1 v1), ∀ a, (k0_off121 v1) a + S1x1.size a ≤ S64x352.size a := fun v1 k0_hw1 => k0_hw1.2.2.2.1.2.2.2.2.2.2.2.2.2.2.2.2.2.2.2.2.2.2.2.2.2.2.2.1
theorem k0_off122_inb : ∀ (v1 : BitVec 32) (k0_hw1 : k0_chk1 v1), ∀ a, (k0_off122 v1) a + S1x1.size a ≤ S64x352.size a := fun v1 k0_hw1 => k0_hw1.2.2.2.1.2.2.2.2.2.2.2.2.2.2.2.2.2.2.2.2.2.2.2.2.2.2.2.2.1
theorem k0_off123_inb : ∀ (v1 : BitVec 32) (k0_hw1 : k0_chk1 v1), ∀ a, (k0_off123 v1) a + S1x1.size a ≤ S64x352.size a := fun v1 k0_hw1 => k0_hw1.2.2.2.1.2.2.2.2.2.2.2.2.2.2.2.2.2.2.2.2.2.2.2.2.2.2.2.2.2.1
theorem k0_off124_inb : ∀ (v1 : BitVec 32) (k0_hw1 : k0_chk1 v1), ∀ a, (k0_off124 v1) a + S1x1.size a ≤ S64x352.size a := fun v1 k0_hw1 => k0_hw1.2.2.2.1.2.2.2.2.2.2.2.2.2.2.2.2.2.2.2.2.2.2.2.2.2.2.2.2.2.2.1
theorem k0_off125_inb : ∀ (v1 : BitVec 32) (k0_hw1 : k0_chk1 v1), ∀ a, (k0_off125 v1) a + S1x1.size a ≤ S64x352.size a := fun v1 k0_hw1 => k0_hw1.2.2.2.1.2.2.2.2.2.2.2.2.2.2.2.2.2.2.2.2.2.2.2.2.2.2.2.2.2.2.2.1
theorem k0_off126_inb : ∀ (v1 : BitVec 32) (k0_hw1 : k0_chk1 v1), ∀ a, (k0_off126 v1) a + S1x1.size a ≤ S64x352.size a := fun v1 k0_hw1 => k0_hw1.2.2.2.1.2.2.2.2.2.2.2.2.2.2.2.2.2.2.2.2.2.2.2.2.2.2.2.2.2.2.2.2.1
theorem k0_off127_inb : ∀ (v1 : BitVec 32) (k0_hw1 : k0_chk1 v1), ∀ a, (k0_off127 v1) a + S1x1.size a ≤ S64x352.size a := fun v1 k0_hw1 => k0_hw1.2.2.2.1.2.2.2.2.2.2.2.2.2.2.2.2.2.2.2.2.2.2.2.2.2.2.2.2.2.2.2.2.2.1
theorem k0_off128_inb : ∀ (v1 : BitVec 32) (k0_hw1 : k0_chk1 v1), ∀ a, (k0_off128 v1) a + S1x1.size a ≤ S64x352.size a := fun v1 k0_hw1 => k0_hw1.2.2.2.1.2.2.2.2.2.2.2.2.2.2.2.2.2.2.2.2.2.2.2.2.2.2.2.2.2.2.2.2.2.2.1
theorem k0_off129_inb : ∀ (v1 : BitVec 32) (k0_hw1 : k0_chk1 v1), ∀ a, (k0_off129 v1) a + S1x1.size a ≤ S64x352.size a := fun v1 k0_hw1 => k0_hw1.2.2.2.1.2.2.2.2.2.2.2.2.2.2.2.2.2.2.2.2.2.2.2.2.2.2.2.2.2.2.2.2.2.2.2
theorem k0_off130_inb : ∀ (v1 : BitVec 32) (k0_hw1 : k0_chk1 v1), ∀ a, (k0_off130 v1) a + S1x1.size a ≤ S64x352.size a := fun v1 k0_hw1 => k0_hw1.2.2.2.2.1.1
theorem k0_off131_inb : ∀ (v1 : BitVec 32) (k0_hw1 : k0_chk1 v1), ∀ a, (k0_off131 v1) a + S1x1.size a ≤ S64x352.size a := fun v1 k0_hw1 => k0_hw1.2.2.2.2.1.2.1
theorem k0_off132_inb : ∀ (v1 : BitVec 32) (k0_hw1 : k0_chk1 v1), ∀ a, (k0_off132 v1) a + S1x1.size a ≤ S64x352.size a := fun v1 k0_hw1 => k0_hw1.2.2.2.2.1.2.2.1
theorem k0_off133_inb : ∀ (v1 : BitVec 32) (k0_hw1 : k0_chk1 v1), ∀ a, (k0_off133 v1) a + S1x1.size a ≤ S64x352.size a := fun v1 k0_hw1 => k0_hw1.2.2.2.2.1.2.2.2.1
theorem k0_off134_inb : ∀ (v1 : BitVec 32) (k0_hw1 : k0_chk1 v1), ∀ a, (k0_off134 v1) a + S1x1.size a ≤ S64x352.size a := fun v1 k0_hw1 => k0_hw1.2.2.2.2.1.2.2.2.2.1
theorem k0_off135_inb : ∀ (v1 : BitVec 32) (k0_hw1 : k0_chk1 v1), ∀ a, (k0_off135 v1) a + S1x1.size a ≤ S64x352.size a := fun v1 k0_hw1 => k0_hw1.2.2.2.2.1.2.2.2.2.2.1
theorem k0_off136_inb : ∀ (v1 : BitVec 32) (k0_hw1 : k0_chk1 v1), ∀ a, (k0_off136 v1) a + S1x1.size a ≤ S64x352.size a := fun v1 k0_hw1 => k0_hw1.2.2.2.2.1.2.2.2.2.2.2.1
theorem k0_off137_inb : ∀ (v1 : BitVec 32) (k0_hw1 : k0_chk1 v1), ∀ a, (k0_off137 v1) a + S1x1.size a ≤ S64x352.size a := fun v1 k0_hw1 => k0_hw1.2.2.2.2.1.2.2.2.2.2.2.2.1
theorem k0_off138_inb : ∀ (v1 : BitVec 32) (k0_hw1 : k0_chk1 v1), ∀ a, (k0_off138 v1) a + S1x1.size a ≤ S64x352.size a := fun v1 k0_hw1 => k0_hw1.2.2.2.2.1.2.2.2.2.2.2.2.2.1
theorem k0_off139_inb : ∀ (v1 : BitVec 32) (k0_hw1 : k0_chk1 v1), ∀ a, (k0_off139 v1) a + S1x1.size a ≤ S64x352.size a := fun v1 k0_hw1 => k0_hw1.2.2.2.2.1.2.2.2.2.2.2.2.2.2.1
theorem k0_off140_inb : ∀ (v1 : BitVec 32) (k0_hw1 : k0_chk1 v1), ∀ a, (k0_off140 v1) a + S1x1.size a ≤ S64x352.size a := fun v1 k0_hw1 => k0_hw1.2.2.2.2.1.2.2.2.2.2.2.2.2.2.2.1
theorem k0_off141_inb : ∀ (v1 : BitVec 32) (k0_hw1 : k0_chk1 v1), ∀ a, (k0_off141 v1) a + S1x1.size a ≤ S64x352.size a := fun v1 k0_hw1 => k0_hw1.2.2.2.2.1.2.2.2.2.2.2.2.2.2.2.2.1
theorem k0_off142_inb : ∀ (v1 : BitVec 32) (k0_hw1 : k0_chk1 v1), ∀ a, (k0_off142 v1) a + S1x1.size a ≤ S64x352.size a := fun v1 k0_hw1 => k0_hw1.2.2.2.2.1.2.2.2.2.2.2.2.2.2.2.2.2.1
theorem k0_off143_inb : ∀ (v1 : BitVec 32) (k0_hw1 : k0_chk1 v1), ∀ a, (k0_off143 v1) a + S1x1.size a ≤ S64x352.size a := fun v1 k0_hw1 => k0_hw1.2.2.2.2.1.2.2.2.2.2.2.2.2.2.2.2.2.2.1
theorem k0_off144_inb : ∀ (v1 : BitVec 32) (k0_hw1 : k0_chk1 v1), ∀ a, (k0_off144 v1) a + S1x1.size a ≤ S64x352.size a := fun v1 k0_hw1 => k0_hw1.2.2.2.2.1.2.2.2.2.2.2.2.2.2.2.2.2.2.2.1
theorem k0_off145_inb : ∀ (v1 : BitVec 32) (k0_hw1 : k0_chk1 v1), ∀ a, (k0_off145 v1) a + S1x1.size a ≤ S64x352.size a := fun v1 k0_hw1 => k0_hw1.2.2.2.2.1.2.2.2.2.2.2.2.2.2.2.2.2.2.2.2.1
theorem k0_off146_inb : ∀ (v1 : BitVec 32) (k0_hw1 : k0_chk1 v1), ∀ a, (k0_off146 v1) a + S1x1.size a ≤ S64x352.size a := fun v1 k0_hw1 => k0_hw1.2.2.2.2.1.2.2.2.2.2.2.2.2.2.2.2.2.2.2.2.2.1
theorem k0_off147_inb : ∀ (v1 : BitVec 32) (k0_hw1 : k0_chk1 v1), ∀ a, (k0_off147 v1) a + S1x1.size a ≤ S64x352.size a := fun v1 k0_hw1 => k0_hw1.2.2.2.2.1.2.2.2.2.2.2.2.2.2.2.2.2.2.2.2.2.2.1
theorem k0_off148_inb : ∀ (v1 : BitVec 32) (k0_hw1 : k0_chk1 v1), ∀ a, (k0_off148 v1) a + S1x1.size a ≤ S64x352.size a := fun v1 k0_hw1 => k0_hw1.2.2.2.2.1.2.2.2.2.2.2.2.2.2.2.2.2.2.2.2.2.2.2.1
theorem k0_off149_inb : ∀ (v1 : BitVec 32) (k0_hw1 : k0_chk1 v1), ∀ a, (k0_off149 v1) a + S1x1.size a ≤ S64x352.size a := fun v1 k0_hw1 => k0_hw1.2.2.2.2.1.2.2.2.2.2.2.2.2.2.2.2.2.2.2.2.2.2.2.2.1
theorem k0_off150_inb : ∀ (v1 : BitVec 32) (k0_hw1 : k0_chk1 v1), ∀ a, (k0_off150 v1) a + S1x1.size a ≤ S64x352.size a := fun v1 k0_hw1 => k0_hw1.2.2.2.2.1.2.2.2.2.2.2.2.2.2.2.2.2.2.2.2.2.2.2.2.2.1
theorem k0_off151_inb : ∀ (v1 : BitVec 32) (k0_hw1 : k0_chk1 v1), ∀ a, (k0_off151 v1) a + S1x1.size a ≤ S64x352.size a := fun v1 k0_hw1 => k0_hw1.2.2.2.2.1.2.2.2.2.2.2.2.2.2.2.2.2.2.2.2.2.2.2.2.2.2.1
theorem k0_off152_inb : ∀ (v1 : BitVec 32) (k0_hw1 : k0_chk1 v1), ∀ a, (k0_off152 v1) a + S1x1.size a ≤ S64x352.size a := fun v1 k0_hw1 => k0_hw1.2.2.2.2.1.2.2.2.2.2.2.2.2.2.2.2.2.2.2.2.2.2.2.2.2.2.2.1
theorem k0_off153_inb : ∀ (v1 : BitVec 32) (k0_hw1 : k0_chk1 v1), ∀ a, (k0_off153 v1) a + S1x1.size a ≤ S64x352.size a := fun v1 k0_hw1 => k0_hw1.2.2.2.2.1.2.2.2.2.2.2.2.2.2.2.2.2.2.2.2.2.2.2.2.2.2.2.2.1
theorem k0_off154_inb : ∀ (v1 : BitVec 32) (k0_hw1 : k0_chk1 v1), ∀ a, (k0_off154 v1) a + S1x1.size a ≤ S64x352.size a := fun v1 k0_hw1 => k0_hw1.2.2.2.2.1.2.2.2.2.2.2.2.2.2.2.2.2.2.2.2.2.2.2.2.2.2.2.2.2.1
theorem k0_off155_inb : ∀ (v1 : BitVec 32) (k0_hw1 : k0_chk1 v1), ∀ a, (k0_off155 v1) a + S1x1.size a ≤ S64x352.size a := fun v1 k0_hw1 => k0_hw1.2.2.2.2.1.2.2.2.2.2.2.2.2.2.2.2.2.2.2.2.2.2.2.2.2.2.2.2.2.2.1
theorem k0_off156_inb : ∀ (v1 : BitVec 32) (k0_hw1 : k0_chk1 v1), ∀ a, (k0_off156 v1) a + S1x1.size a ≤ S64x352.size a := fun v1 k0_hw1 => k0_hw1.2.2.2.2.1.2.2.2.2.2.2.2.2.2.2.2.2.2.2.2.2.2.2.2.2.2.2.2.2.2.2.1
theorem k0_off157_inb : ∀ (v1 : BitVec 32) (k0_hw1 : k0_chk1 v1), ∀ a, (k0_off157 v1) a + S1x1.size a ≤ S64x352.size a := fun v1 k0_hw1 => k0_hw1.2.2.2.2.1.2.2.2.2.2.2.2.2.2.2.2.2.2.2.2.2.2.2.2.2.2.2.2.2.2.2.2.1
theorem k0_off158_inb : ∀ (v1 : BitVec 32) (k0_hw1 : k0_chk1 v1), ∀ a, (k0_off158 v1) a + S1x1.size a ≤ S64x352.size a := fun v1 k0_hw1 => k0_hw1.2.2.2.2.1.2.2.2.2.2.2.2.2.2.2.2.2.2.2.2.2.2.2.2.2.2.2.2.2.2.2.2.2.1
theorem k0_off159_inb : ∀ (v1 : BitVec 32) (k0_hw1 : k0_chk1 v1), ∀ a, (k0_off159 v1) a + S1x1.size a ≤ S64x352.size a := fun v1 k0_hw1 => k0_hw1.2.2.2.2.1.2.2.2.2.2.2.2.2.2.2.2.2.2.2.2.2.2.2.2.2.2.2.2.2.2.2.2.2.2.1
theorem k0_off160_inb : ∀ (v1 : BitVec 32) (k0_hw1 : k0_chk1 v1), ∀ a, (k0_off160 v1) a + S1x1.size a ≤ S64x352.size a := fun v1 k0_hw1 => k0_hw1.2.2.2.2.1.2.2.2.2.2.2.2.2.2.2.2.2.2.2.2.2.2.2.2.2.2.2.2.2.2.2.2.2.2.2.1
theorem k0_off161_inb : ∀ (v1 : BitVec 32) (k0_hw1 : k0_chk1 v1), ∀ a, (k0_off161 v1) a + S1x1.size a ≤ S64x352.size a := fun v1 k0_hw1 => k0_hw1.2.2.2.2.1.2.2.2.2.2.2.2.2.2.2.2.2.2.2.2.2.2.2.2.2.2.2.2.2.2.2.2.2.2.2.2
theorem k0_off162_inb : ∀ (v1 : BitVec 32) (k0_hw1 : k0_chk1 v1), ∀ a, (k0_off162 v1) a + S1x1.size a ≤ S64x352.size a := fun v1 k0_hw1 => k0_hw1.2.2.2.2.2.1.1
theorem k0_off163_inb : ∀ (v1 : BitVec 32) (k0_hw1 : k0_chk1 v1), ∀ a, (k0_off163 v1) a + S1x1.size a ≤ S64x352.size a := fun v1 k0_hw1 => k0_hw1.2.2.2.2.2.1.2.1
theorem k0_off164_inb : ∀ (v1 : BitVec 32) (k0_hw1 : k0_chk1 v1), ∀ a, (k0_off164 v1) a + S1x1.size a ≤ S64x352.size a := fun v1 k0_hw1 => k0_hw1.2.2.2.2.2.1.2.2.1
theorem k0_off165_inb : ∀ (v1 : BitVec 32) (k0_hw1 : k0_chk1 v1), ∀ a, (k0_off165 v1) a + S1x1.size a ≤ S64x352.size a := fun v1 k0_hw1 => k0_hw1.2.2.2.2.2.1.2.2.2.1
theorem k0_off166_inb : ∀ (v1 : BitVec 32) (k0_hw1 : k0_chk1 v1), ∀ a, (k0_off166 v1) a + S1x1.size a ≤ S64x352.size a := fun v1 k0_hw1 => k0_hw1.2.2.2.2.2.1.2.2.2.2.1
theorem k0_off167_inb : ∀ (v1 : BitVec 32) (k0_hw1 : k0_chk1 v1), ∀ a, (k0_off167 v1) a + S1x1.size a ≤ S64x352.size a := fun v1 k0_hw1 => k0_hw1.2.2.2.2.2.1.2.2.2.2.2.1
theorem k0_off168_inb : ∀ (v1 : BitVec 32) (k0_hw1 : k0_chk1 v1), ∀ a, (k0_off168 v1) a + S1x1.size a ≤ S64x352.size a := fun v1 k0_hw1 => k0_hw1.2.2.2.2.2.1.2.2.2.2.2.2.1
theorem k0_off169_inb : ∀ (v1 : BitVec 32) (k0_hw1 : k0_chk1 v1), ∀ a, (k0_off169 v1) a + S1x1.size a ≤ S64x352.size a := fun v1 k0_hw1 => k0_hw1.2.2.2.2.2.1.2.2.2.2.2.2.2.1
theorem k0_off170_inb : ∀ (v1 : BitVec 32) (k0_hw1 : k0_chk1 v1), ∀ a, (k0_off170 v1) a + S1x1.size a ≤ S64x352.size a := fun v1 k0_hw1 => k0_hw1.2.2.2.2.2.1.2.2.2.2.2.2.2.2.1
theorem k0_off171_inb : ∀ (v1 : BitVec 32) (k0_hw1 : k0_chk1 v1), ∀ a, (k0_off171 v1) a + S1x1.size a ≤ S64x352.size a := fun v1 k0_hw1 => k0_hw1.2.2.2.2.2.1.2.2.2.2.2.2.2.2.2.1
theorem k0_off172_inb : ∀ (v1 : BitVec 32) (k0_hw1 : k0_chk1 v1), ∀ a, (k0_off172 v1) a + S1x1.size a ≤ S64x352.size a := fun v1 k0_hw1 => k0_hw1.2.2.2.2.2.1.2.2.2.2.2.2.2.2.2.2.1
theorem k0_off173_inb : ∀ (v1 : BitVec 32) (k0_hw1 : k0_chk1 v1), ∀ a, (k0_off173 v1) a + S1x1.size a ≤ S64x352.size a := fun v1 k0_hw1 => k0_hw1.2.2.2.2.2.1.2.2.2.2.2.2.2.2.2.2.2.1
theorem k0_off174_inb : ∀ (v1 : BitVec 32) (k0_hw1 : k0_chk1 v1), ∀ a, (k0_off174 v1) a + S1x1.size a ≤ S64x352.size a := fun v1 k0_hw1 => k0_hw1.2.2.2.2.2.1.2.2.2.2.2.2.2.2.2.2.2.2.1
theorem k0_off175_inb : ∀ (v1 : BitVec 32) (k0_hw1 : k0_chk1 v1), ∀ a, (k0_off175 v1) a + S1x1.size a ≤ S64x352.size a := fun v1 k0_hw1 => k0_hw1.2.2.2.2.2.1.2.2.2.2.2.2.2.2.2.2.2.2.2.1
theorem k0_off176_inb : ∀ (v1 : BitVec 32) (k0_hw1 : k0_chk1 v1), ∀ a, (k0_off176 v1) a + S1x1.size a ≤ S64x352.size a := fun v1 k0_hw1 => k0_hw1.2.2.2.2.2.1.2.2.2.2.2.2.2.2.2.2.2.2.2.2.1
theorem k0_off177_inb : ∀ (v1 : BitVec 32) (k0_hw1 : k0_chk1 v1), ∀ a, (k0_off177 v1) a + S1x1.size a ≤ S64x352.size a := fun v1 k0_hw1 => k0_hw1.2.2.2.2.2.1.2.2.2.2.2.2.2.2.2.2.2.2.2.2.2.1
theorem k0_off178_inb : ∀ (v1 : BitVec 32) (k0_hw1 : k0_chk1 v1), ∀ a, (k0_off178 v1) a + S1x1.size a ≤ S64x352.size a := fun v1 k0_hw1 => k0_hw1.2.2.2.2.2.1.2.2.2.2.2.2.2.2.2.2.2.2.2.2.2.2.1
theorem k0_off179_inb : ∀ (v1 : BitVec 32) (k0_hw1 : k0_chk1 v1), ∀ a, (k0_off179 v1) a + S1x1.size a ≤ S64x352.size a := fun v1 k0_hw1 => k0_hw1.2.2.2.2.2.1.2.2.2.2.2.2.2.2.2.2.2.2.2.2.2.2.2.1
theorem k0_off180_inb : ∀ (v1 : BitVec 32) (k0_hw1 : k0_chk1 v1), ∀ a, (k0_off180 v1) a + S1x1.size a ≤ S64x352.size a := fun v1 k0_hw1 => k0_hw1.2.2.2.2.2.1.2.2.2.2.2.2.2.2.2.2.2.2.2.2.2.2.2.2.1
theorem k0_off181_inb : ∀ (v1 : BitVec 32) (k0_hw1 : k0_chk1 v1), ∀ a, (k0_off181 v1) a + S1x1.size a ≤ S64x352.size a := fun v1 k0_hw1 => k0_hw1.2.2.2.2.2.1.2.2.2.2.2.2.2.2.2.2.2.2.2.2.2.2.2.2.2.1
theorem k0_off182_inb : ∀ (v1 : BitVec 32) (k0_hw1 : k0_chk1 v1), ∀ a, (k0_off182 v1) a + S1x1.size a ≤ S64x352.size a := fun v1 k0_hw1 => k0_hw1.2.2.2.2.2.1.2.2.2.2.2.2.2.2.2.2.2.2.2.2.2.2.2.2.2.2.1
theorem k0_off183_inb : ∀ (v1 : BitVec 32) (k0_hw1 : k0_chk1 v1), ∀ a, (k0_off183 v1) a + S1x1.size a ≤ S64x352.size a := fun v1 k0_hw1 => k0_hw1.2.2.2.2.2.1.2.2.2.2.2.2.2.2.2.2.2.2.2.2.2.2.2.2.2.2.2.1
theorem k0_off184_inb : ∀ (v1 : BitVec 32) (k0_hw1 : k0_chk1 v1), ∀ a, (k0_off184 v1) a + S1x1.size a ≤ S64x352.size a := fun v1 k0_hw1 => k0_hw1.2.2.2.2.2.1.2.2.2.2.2.2.2.2.2.2.2.2.2.2.2.2.2.2.2.2.2.2.1
theorem k0_off185_inb : ∀ (v1 : BitVec 32) (k0_hw1 : k0_chk1 v1), ∀ a, (k0_off185 v1) a + S1x1.size a ≤ S64x352.size a := fun v1 k0_hw1 => k0_hw1.2.2.2.2.2.1.2.2.2.2.2.2.2.2.2.2.2.2.2.2.2.2.2.2.2.2.2.2.2.1
theorem k0_off186_inb : ∀ (v1 : BitVec 32) (k0_hw1 : k0_chk1 v1), ∀ a, (k0_off186 v1) a + S1x1.size a ≤ S64x352.size a := fun v1 k0_hw1 => k0_hw1.2.2.2.2.2.1.2.2.2.2.2.2.2.2.2.2.2.2.2.2.2.2.2.2.2.2.2.2.2.2.1
theorem k0_off187_inb : ∀ (v1 : BitVec 32) (k0_hw1 : k0_chk1 v1), ∀ a, (k0_off187 v1) a + S1x1.size a ≤ S64x352.size a := fun v1 k0_hw1 => k0_hw1.2.2.2.2.2.1.2.2.2.2.2.2.2.2.2.2.2.2.2.2.2.2.2.2.2.2.2.2.2.2.2.1
theorem k0_off188_inb : ∀ (v1 : BitVec 32) (k0_hw1 : k0_chk1 v1), ∀ a, (k0_off188 v1) a + S1x1.size a ≤ S64x352.size a := fun v1 k0_hw1 => k0_hw1.2.2.2.2.2.1.2.2.2.2.2.2.2.2.2.2.2.2.2.2.2.2.2.2.2.2.2.2.2.2.2.2.1
theorem k0_off189_inb : ∀ (v1 : BitVec 32) (k0_hw1 : k0_chk1 v1), ∀ a, (k0_off189 v1) a + S1x1.size a ≤ S64x352.size a := fun v1 k0_hw1 => k0_hw1.2.2.2.2.2.1.2.2.2.2.2.2.2.2.2.2.2.2.2.2.2.2.2.2.2.2.2.2.2.2.2.2.2.1
theorem k0_off190_inb : ∀ (v1 : BitVec 32) (k0_hw1 : k0_chk1 v1), ∀ a, (k0_off190 v1) a + S1x1.size a ≤ S64x352.size a := fun v1 k0_hw1 => k0_hw1.2.2.2.2.2.1.2.2.2.2.2.2.2.2.2.2.2.2.2.2.2.2.2.2.2.2.2.2.2.2.2.2.2.2.1
theorem k0_off191_inb : ∀ (v1 : BitVec 32) (k0_hw1 : k0_chk1 v1), ∀ a, (k0_off191 v1) a + S1x1.size a ≤ S64x352.size a := fun v1 k0_hw1 => k0_hw1.2.2.2.2.2.1.2.2.2.2.2.2.2.2.2.2.2.2.2.2.2.2.2.2.2.2.2.2.2.2.2.2.2.2.2.1
theorem k0_off192_inb : ∀ (v1 : BitVec 32) (k0_hw1 : k0_chk1 v1), ∀ a, (k0_off192 v1) a + S1x1.size a ≤ S64x352.size a := fun v1 k0_hw1 => k0_hw1.2.2.2.2.2.1.2.2.2.2.2.2.2.2.2.2.2.2.2.2.2.2.2.2.2.2.2.2.2.2.2.2.2.2.2.2.1
theorem k0_off193_inb : ∀ (v1 : BitVec 32) (k0_hw1 : k0_chk1 v1), ∀ a, (k0_off193 v1) a + S1x1.size a ≤ S64x352.size a := fun v1 k0_hw1 => k0_hw1.2.2.2.2.2.1.2.2.2.2.2.2.2.2.2.2.2.2.2.2.2.2.2.2.2.2.2.2.2.2.2.2.2.2.2.2.2
theorem k0_off194_inb : ∀ (v1 : BitVec 32) (k0_hw1 : k0_chk1 v1), ∀ a, (k0_off194 v1) a + S1x1.size a ≤ S64x352.size a := fun v1 k0_hw1 => k0_hw1.2.2.2.2.2.2.1.1
theorem k0_off195_inb : ∀ (v1 : BitVec 32) (k0_hw1 : k0_chk1 v1), ∀ a, (k0_off195 v1) a + S1x1.size a ≤ S64x352.size a := fun v1 k0_hw1 => k0_hw1.2.2.2.2.2.2.1.2.1
theorem k0_off196_inb : ∀ (v1 : BitVec 32) (k0_hw1 : k0_chk1 v1), ∀ a, (k0_off196 v1) a + S1x1.size a ≤ S64x352.size a := fun v1 k0_hw1 => k0_hw1.2.2.2.2.2.2.1.2.2.1
theorem k0_off197_inb : ∀ (v1 : BitVec 32) (k0_hw1 : k0_chk1 v1), ∀ a, (k0_off197 v1) a + S1x1.size a ≤ S64x352.size a := fun v1 k0_hw1 => k0_hw1.2.2.2.2.2.2.1.2.2.2.1
theorem k0_off198_inb : ∀ (v1 : BitVec 32) (k0_hw1 : k0_chk1 v1), ∀ a, (k0_off198 v1) a + S1x1.size a ≤ S64x352.size a := fun v1 k0_hw1 => k0_hw1.2.2.2.2.2.2.1.2.2.2.2.1
theorem k0_off199_inb : ∀ (v1 : BitVec 32) (k0_hw1 : k0_chk1 v1), ∀ a, (k0_off199 v1) a + S1x1.size a ≤ S64x352.size a := fun v1 k0_hw1 => k0_hw1.2.2.2.2.2.2.1.2.2.2.2.2.1
theorem k0_off200_inb : ∀ (v1 : BitVec 32) (k0_hw1 : k0_chk1 v1), ∀ a, (k0_off200 v1) a + S1x1.size a ≤ S64x352.size a := fun v1 k0_hw1 => k0_hw1.2.2.2.2.2.2.1.2.2.2.2.2.2.1
theorem k0_off201_inb : ∀ (v1 : BitVec 32) (k0_hw1 : k0_chk1 v1), ∀ a, (k0_off201 v1) a + S1x1.size a ≤ S64x352.size a := fun v1 k0_hw1 => k0_hw1.2.2.2.2.2.2.1.2.2.2.2.2.2.2.1
theorem k0_off202_inb : ∀ (v1 : BitVec 32) (k0_hw1 : k0_chk1 v1), ∀ a, (k0_off202 v1) a + S1x1.size a ≤ S64x352.size a := fun v1 k0_hw1 => k0_hw1.2.2.2.2.2.2.1.2.2.2.2.2.2.2.2.1
theorem k0_off203_inb : ∀ (v1 : BitVec 32) (k0_hw1 : k0_chk1 v1), ∀ a, (k0_off203 v1) a + S1x1.size a ≤ S64x352.size a := fun v1 k0_hw1 => k0_hw1.2.2.2.2.2.2.1.2.2.2.2.2.2.2.2.2.1
theorem k0_off204_inb : ∀ (v1 : BitVec 32) (k0_hw1 : k0_chk1 v1), ∀ a, (k0_off204 v1) a + S1x1.size a ≤ S64x352.size a := fun v1 k0_hw1 => k0_hw1.2.2.2.2.2.2.1.2.2.2.2.2.2.2.2.2.2.1
theorem k0_off205_inb : ∀ (v1 : BitVec 32) (k0_hw1 : k0_chk1 v1), ∀ a, (k0_off205 v1) a + S1x1.size a ≤ S64x352.size a := fun v1 k0_hw1 => k0_hw1.2.2.2.2.2.2.1.2.2.2.2.2.2.2.2.2.2.2.1
theorem k0_off206_inb : ∀ (v1 : BitVec 32) (k0_hw1 : k0_chk1 v1), ∀ a, (k0_off206 v1) a + S1x1.size a ≤ S64x352.size a := fun v1 k0_hw1 => k0_hw1.2.2.2.2.2.2.1.2.2.2.2.2.2.2.2.2.2.2.2.1
theorem k0_off207_inb : ∀ (v1 : BitVec 32) (k0_hw1 : k0_chk1 v1), ∀ a, (k0_off207 v1) a + S1x1.size a ≤ S64x352.size a := fun v1 k0_hw1 => k0_hw1.2.2.2.2.2.2.1.2.2.2.2.2.2.2.2.2.2.2.2.2.1
theorem k0_off208_inb : ∀ (v1 : BitVec 32) (k0_hw1 : k0_chk1 v1), ∀ a, (k0_off208 v1) a + S1x1.size a ≤ S64x352.size a := fun v1 k0_hw1 => k0_hw1.2.2.2.2.2.2.1.2.2.2.2.2.2.2.2.2.2.2.2.2.2.1
theorem k0_off209_inb : ∀ (v1 : BitVec 32) (k0_hw1 : k0_chk1 v1), ∀ a, (k0_off209 v1) a + S1x1.size a ≤ S64x352.size a := fun v1 k0_hw1 => k0_hw1.2.2.2.2.2.2.1.2.2.2.2.2.2.2.2.2.2.2.2.2.2.2.1
theorem k0_off210_inb : ∀ (v1 : BitVec 32) (k0_hw1 : k0_chk1 v1), ∀ a, (k0_off210 v1) a + S1x1.size a ≤ S64x352.size a := fun v1 k0_hw1 => k0_hw1.2.2.2.2.2.2.1.2.2.2.2.2.2.2.2.2.2.2.2.2.2.2.2.1
theorem k0_off211_inb : ∀ (v1 : BitVec 32) (k0_hw1 : k0_chk1 v1), ∀ a, (k0_off211 v1) a + S1x1.size a ≤ S64x352.size a := fun v1 k0_hw1 => k0_hw1.2.2.2.2.2.2.1.2.2.2.2.2.2.2.2.2.2.2.2.2.2.2.2.2.1
theorem k0_off212_inb : ∀ (v1 : BitVec 32) (k0_hw1 : k0_chk1 v1), ∀ a, (k0_off212 v1) a + S1x1.size a ≤ S64x352.size a := fun v1 k0_hw1 => k0_hw1.2.2.2.2.2.2.1.2.2.2.2.2.2.2.2.2.2.2.2.2.2.2.2.2.2.1
theorem k0_off213_inb : ∀ (v1 : BitVec 32) (k0_hw1 : k0_chk1 v1), ∀ a, (k0_off213 v1) a + S1x1.size a ≤ S64x352.size a := fun v1 k0_hw1 => k0_hw1.2.2.2.2.2.2.1.2.2.2.2.2.2.2.2.2.2.2.2.2.2.2.2.2.2.2.1
theorem k0_off214_inb : ∀ (v1 : BitVec 32) (k0_hw1 : k0_chk1 v1), ∀ a, (k0_off214 v1) a + S1x1.size a ≤ S64x352.size a := fun v1 k0_hw1 => k0_hw1.2.2.2.2.2.2.1.2.2.2.2.2.2.2.2.2.2.2.2.2.2.2.2.2.2.2.2.1
theorem k0_off215_inb : ∀ (v1 : BitVec 32) (k0_hw1 : k0_chk1 v1), ∀ a, (k0_off215 v1) a + S1x1.size a ≤ S64x352.size a := fun v1 k0_hw1 => k0_hw1.2.2.2.2.2.2.1.2.2.2.2.2.2.2.2.2.2.2.2.2.2.2.2.2.2.2.2.2.1
theorem k0_off216_inb : ∀ (v1 : BitVec 32) (k0_hw1 : k0_chk1 v1), ∀ a, (k0_off216 v1) a + S1x1.size a ≤ S64x352.size a := fun v1 k0_hw1 => k0_hw1.2.2.2.2.2.2.1.2.2.2.2.2.2.2.2.2.2.2.2.2.2.2.2.2.2.2.2.2.2.1
theorem k0_off217_inb : ∀ (v1 : BitVec 32) (k0_hw1 : k0_chk1 v1), ∀ a, (k0_off217 v1) a + S1x1.size a ≤ S64x352.size a := fun v1 k0_hw1 => k0_hw1.2.2.2.2.2.2.1.2.2.2.2.2.2.2.2.2.2.2.2.2.2.2.2.2.2.2.2.2.2.2.1
theorem k0_off218_inb : ∀ (v1 : BitVec 32) (k0_hw1 : k0_chk1 v1), ∀ a, (k0_off218 v1) a + S1x1.size a ≤ S64x352.size a := fun v1 k0_hw1 => k0_hw1.2.2.2.2.2.2.1.2.2.2.2.2.2.2.2.2.2.2.2.2.2.2.2.2.2.2.2.2.2.2.2.1
theorem k0_off219_inb : ∀ (v1 : BitVec 32) (k0_hw1 : k0_chk1 v1), ∀ a, (k0_off219 v1) a + S1x1.size a ≤ S64x352.size a := fun v1 k0_hw1 => k0_hw1.2.2.2.2.2.2.1.2.2.2.2.2.2.2.2.2.2.2.2.2.2.2.2.2.2.2.2.2.2.2.2.2.1
theorem k0_off220_inb : ∀ (v1 : BitVec 32) (k0_hw1 : k0_chk1 v1), ∀ a, (k0_off220 v1) a + S1x1.size a ≤ S64x352.size a := fun v1 k0_hw1 => k0_hw1.2.2.2.2.2.2.1.2.2.2.2.2.2.2.2.2.2.2.2.2.2.2.2.2.2.2.2.2.2.2.2.2.2.1
theorem k0_off221_inb : ∀ (v1 : BitVec 32) (k0_hw1 : k0_chk1 v1), ∀ a, (k0_off221 v1) a + S1x1.size a ≤ S64x352.size a := fun v1 k0_hw1 => k0_hw1.2.2.2.2.2.2.1.2.2.2.2.2.2.2.2.2.2.2.2.2.2.2.2.2.2.2.2.2.2.2.2.2.2.2.1
theorem k0_off222_inb : ∀ (v1 : BitVec 32) (k0_hw1 : k0_chk1 v1), ∀ a, (k0_off222 v1) a + S1x1.size a ≤ S64x352.size a := fun v1 k0_hw1 => k0_hw1.2.2.2.2.2.2.1.2.2.2.2.2.2.2.2.2.2.2.2.2.2.2.2.2.2.2.2.2.2.2.2.2.2.2.2.1
theorem k0_off223_inb : ∀ (v1 : BitVec 32) (k0_hw1 : k0_chk1 v1), ∀ a, (k0_off223 v1) a + S1x1.size a ≤ S64x352.size a := fun v1 k0_hw1 => k0_hw1.2.2.2.2.2.2.1.2.2.2.2.2.2.2.2.2.2.2.2.2.2.2.2.2.2.2.2.2.2.2.2.2.2.2.2.2.1
theorem k0_off224_inb : ∀ (v1 : BitVec 32) (k0_hw1 : k0_chk1 v1), ∀ a, (k0_off224 v1) a + S1x1.size a ≤ S64x352.size a := fun v1 k0_hw1 => k0_hw1.2.2.2.2.2.2.1.2.2.2.2.2.2.2.2.2.2.2.2.2.2.2.2.2.2.2.2.2.2.2.2.2.2.2.2.2.2.1
theorem k0_off225_inb : ∀ (v1 : BitVec 32) (k0_hw1 : k0_chk1 v1), ∀ a, (k0_off225 v1) a + S1x1.size a ≤ S64x352.size a := fun v1 k0_hw1 => k0_hw1.2.2.2.2.2.2.1.2.2.2.2.2.2.2.2.2.2.2.2.2.2.2.2.2.2.2.2.2.2.2.2.2.2.2.2.2.2.2
theorem k0_off226_inb : ∀ (v1 : BitVec 32) (k0_hw1 : k0_chk1 v1), ∀ a, (k0_off226 v1) a + S1x1.size a ≤ S64x352.size a := fun v1 k0_hw1 => k0_hw1.2.2.2.2.2.2.2.1.1
theorem k0_off227_inb : ∀ (v1 : BitVec 32) (k0_hw1 : k0_chk1 v1), ∀ a, (k0_off227 v1) a + S1x1.size a ≤ S64x352.size a := fun v1 k0_hw1 => k0_hw1.2.2.2.2.2.2.2.1.2.1
theorem k0_off228_inb : ∀ (v1 : BitVec 32) (k0_hw1 : k0_chk1 v1), ∀ a, (k0_off228 v1) a + S1x1.size a ≤ S64x352.size a := fun v1 k0_hw1 => k0_hw1.2.2.2.2.2.2.2.1.2.2.1
theorem k0_off229_inb : ∀ (v1 : BitVec 32) (k0_hw1 : k0_chk1 v1), ∀ a, (k0_off229 v1) a + S1x1.size a ≤ S64x352.size a := fun v1 k0_hw1 => k0_hw1.2.2.2.2.2.2.2.1.2.2.2.1
theorem k0_off230_inb : ∀ (v1 : BitVec 32) (k0_hw1 : k0_chk1 v1), ∀ a, (k0_off230 v1) a + S1x1.size a ≤ S64x352.size a := fun v1 k0_hw1 => k0_hw1.2.2.2.2.2.2.2.1.2.2.2.2.1
theorem k0_off231_inb : ∀ (v1 : BitVec 32) (k0_hw1 : k0_chk1 v1), ∀ a, (k0_off231 v1) a + S1x1.size a ≤ S64x352.size a := fun v1 k0_hw1 => k0_hw1.2.2.2.2.2.2.2.1.2.2.2.2.2.1
theorem k0_off232_inb : ∀ (v1 : BitVec 32) (k0_hw1 : k0_chk1 v1), ∀ a, (k0_off232 v1) a + S1x1.size a ≤ S64x352.size a := fun v1 k0_hw1 => k0_hw1.2.2.2.2.2.2.2.1.2.2.2.2.2.2.1
theorem k0_off233_inb : ∀ (v1 : BitVec 32) (k0_hw1 : k0_chk1 v1), ∀ a, (k0_off233 v1) a + S1x1.size a ≤ S64x352.size a := fun v1 k0_hw1 => k0_hw1.2.2.2.2.2.2.2.1.2.2.2.2.2.2.2.1
theorem k0_off234_inb : ∀ (v1 : BitVec 32) (k0_hw1 : k0_chk1 v1), ∀ a, (k0_off234 v1) a + S1x1.size a ≤ S64x352.size a := fun v1 k0_hw1 => k0_hw1.2.2.2.2.2.2.2.1.2.2.2.2.2.2.2.2.1
theorem k0_off235_inb : ∀ (v1 : BitVec 32) (k0_hw1 : k0_chk1 v1), ∀ a, (k0_off235 v1) a + S1x1.size a ≤ S64x352.size a := fun v1 k0_hw1 => k0_hw1.2.2.2.2.2.2.2.1.2.2.2.2.2.2.2.2.2.1
theorem k0_off236_inb : ∀ (v1 : BitVec 32) (k0_hw1 : k0_chk1 v1), ∀ a, (k0_off236 v1) a + S1x1.size a ≤ S64x352.size a := fun v1 k0_hw1 => k0_hw1.2.2.2.2.2.2.2.1.2.2.2.2.2.2.2.2.2.2.1
theorem k0_off237_inb : ∀ (v1 : BitVec 32) (k0_hw1 : k0_chk1 v1), ∀ a, (k0_off237 v1) a + S1x1.size a ≤ S64x352.size a := fun v1 k0_hw1 => k0_hw1.2.2.2.2.2.2.2.1.2.2.2.2.2.2.2.2.2.2.2.1
theorem k0_off238_inb : ∀ (v1 : BitVec 32) (k0_hw1 : k0_chk1 v1), ∀ a, (k0_off238 v1) a + S1x1.size a ≤ S64x352.size a := fun v1 k0_hw1 => k0_hw1.2.2.2.2.2.2.2.1.2.2.2.2.2.2.2.2.2.2.2.2.1
theorem k0_off239_inb : ∀ (v1 : BitVec 32) (k0_hw1 : k0_chk1 v1), ∀ a, (k0_off239 v1) a + S1x1.size a ≤ S64x352.size a := fun v1 k0_hw1 => k0_hw1.2.2.2.2.2.2.2.1.2.2.2.2.2.2.2.2.2.2.2.2.2.1
theorem k0_off240_inb : ∀ (v1 : BitVec 32) (k0_hw1 : k0_chk1 v1), ∀ a, (k0_off240 v1) a + S1x1.size a ≤ S64x352.size a := fun v1 k0_hw1 => k0_hw1.2.2.2.2.2.2.2.1.2.2.2.2.2.2.2.2.2.2.2.2.2.2.1
theorem k0_off241_inb : ∀ (v1 : BitVec 32) (k0_hw1 : k0_chk1 v1), ∀ a, (k0_off241 v1) a + S1x1.size a ≤ S64x352.size a := fun v1 k0_hw1 => k0_hw1.2.2.2.2.2.2.2.1.2.2.2.2.2.2.2.2.2.2.2.2.2.2.2.1
theorem k0_off242_inb : ∀ (v1 : BitVec 32) (k0_hw1 : k0_chk1 v1), ∀ a, (k0_off242 v1) a + S1x1.size a ≤ S64x352.size a := fun v1 k0_hw1 => k0_hw1.2.2.2.2.2.2.2.1.2.2.2.2.2.2.2.2.2.2.2.2.2.2.2.2.1
theorem k0_off243_inb : ∀ (v1 : BitVec 32) (k0_hw1 : k0_chk1 v1), ∀ a, (k0_off243 v1) a + S1x1.size a ≤ S64x352.size a := fun v1 k0_hw1 => k0_hw1.2.2.2.2.2.2.2.1.2.2.2.2.2.2.2.2.2.2.2.2.2.2.2.2.2.1
theorem k0_off244_inb : ∀ (v1 : BitVec 32) (k0_hw1 : k0_chk1 v1), ∀ a, (k0_off244 v1) a + S1x1.size a ≤ S64x352.size a := fun v1 k0_hw1 => k0_hw1.2.2.2.2.2.2.2.1.2.2.2.2.2.2.2.2.2.2.2.2.2.2.2.2.2.2.1
theorem k0_off245_inb : ∀ (v1 : BitVec 32) (k0_hw1 : k0_chk1 v1), ∀ a, (k0_off245 v1) a + S1x1.size a ≤ S64x352.size a := fun v1 k0_hw1 => k0_hw1.2.2.2.2.2.2.2.1.2.2.2.2.2.2.2.2.2.2.2.2.2.2.2.2.2.2.2.1
theorem k0_off246_inb : ∀ (v1 : BitVec 32) (k0_hw1 : k0_chk1 v1), ∀ a, (k0_off246 v1) a + S1x1.size a ≤ S64x352.size a := fun v1 k0_hw1 => k0_hw1.2.2.2.2.2.2.2.1.2.2.2.2.2.2.2.2.2.2.2.2.2.2.2.2.2.2.2.2.1
theorem k0_off247_inb : ∀ (v1 : BitVec 32) (k0_hw1 : k0_chk1 v1), ∀ a, (k0_off247 v1) a + S1x1.size a ≤ S64x352.size a := fun v1 k0_hw1 => k0_hw1.2.2.2.2.2.2.2.1.2.2.2.2.2.2.2.2.2.2.2.2.2.2.2.2.2.2.2.2.2.1
theorem k0_off248_inb : ∀ (v1 : BitVec 32) (k0_hw1 : k0_chk1 v1), ∀ a, (k0_off248 v1) a + S1x1.size a ≤ S64x352.size a := fun v1 k0_hw1 => k0_hw1.2.2.2.2.2.2.2.1.2.2.2.2.2.2.2.2.2.2.2.2.2.2.2.2.2.2.2.2.2.2.1
theorem k0_off249_inb : ∀ (v1 : BitVec 32) (k0_hw1 : k0_chk1 v1), ∀ a, (k0_off249 v1) a + S1x1.size a ≤ S64x352.size a := fun v1 k0_hw1 => k0_hw1.2.2.2.2.2.2.2.1.2.2.2.2.2.2.2.2.2.2.2.2.2.2.2.2.2.2.2.2.2.2.2.1
theorem k0_off250_inb : ∀ (v1 : BitVec 32) (k0_hw1 : k0_chk1 v1), ∀ a, (k0_off250 v1) a + S1x1.size a ≤ S64x352.size a := fun v1 k0_hw1 => k0_hw1.2.2.2.2.2.2.2.1.2.2.2.2.2.2.2.2.2.2.2.2.2.2.2.2.2.2.2.2.2.2.2.2.1
theorem k0_off251_inb : ∀ (v1 : BitVec 32) (k0_hw1 : k0_chk1 v1), ∀ a, (k0_off251 v1) a + S1x1.size a ≤ S64x352.size a := fun v1 k0_hw1 => k0_hw1.2.2.2.2.2.2.2.1.2.2.2.2.2.2.2.2.2.2.2.2.2.2.2.2.2.2.2.2.2.2.2.2.2.1
theorem k0_off252_inb : ∀ (v1 : BitVec 32) (k0_hw1 : k0_chk1 v1), ∀ a, (k0_off252 v1) a + S1x1.size a ≤ S64x352.size a := fun v1 k0_hw1 => k0_hw1.2.2.2.2.2.2.2.1.2.2.2.2.2.2.2.2.2.2.2.2.2.2.2.2.2.2.2.2.2.2.2.2.2.2.1
theorem k0_off253_inb : ∀ (v1 : BitVec 32) (k0_hw1 : k0_chk1 v1), ∀ a, (k0_off253 v1) a + S1x1.size a ≤ S64x352.size a := fun v1 k0_hw1 => k0_hw1.2.2.2.2.2.2.2.1.2.2.2.2.2.2.2.2.2.2.2.2.2.2.2.2.2.2.2.2.2.2.2.2.2.2.2.1
theorem k0_off254_inb : ∀ (v1 : BitVec 32) (k0_hw1 : k0_chk1 v1), ∀ a, (k0_off254 v1) a + S1x1.size a ≤ S64x352.size a := fun v1 k0_hw1 => k0_hw1.2.2.2.2.2.2.2.1.2.2.2.2.2.2.2.2.2.2.2.2.2.2.2.2.2.2.2.2.2.2.2.2.2.2.2.2.1
theorem k0_off255_inb : ∀ (v1 : BitVec 32) (k0_hw1 : k0_chk1 v1), ∀ a, (k0_off255 v1) a + S1x1.size a ≤ S64x352.size a := fun v1 k0_hw1 => k0_hw1.2.2.2.2.2.2.2.1.2.2.2.2.2.2.2.2.2.2.2.2.2.2.2.2.2.2.2.2.2.2.2.2.2.2.2.2.2.1
theorem k0_off256_inb : ∀ (v1 : BitVec 32) (k0_hw1 : k0_chk1 v1), ∀ a, (k0_off256 v1) a + S1x1.size a ≤ S64x352.size a := fun v1 k0_hw1 => k0_hw1.2.2.2.2.2.2.2.1.2.2.2.2.2.2.2.2.2.2.2.2.2.2.2.2.2.2.2.2.2.2.2.2.2.2.2.2.2.2.1
theorem k0_off257_inb : ∀ (v1 : BitVec 32) (k0_hw1 : k0_chk1 v1), ∀ a, (k0_off257 v1) a + S1x1.size a ≤ S64x352.size a := fun v1 k0_hw1 => k0_hw1.2.2.2.2.2.2.2.1.2.2.2.2.2.2.2.2.2.2.2.2.2.2.2.2.2.2.2.2.2.2.2.2.2.2.2.2.2.2.2
theorem k0_off258_inb : ∀ (v1 : BitVec 32) (k0_hw1 : k0_chk1 v1), ∀ a, (k0_off258 v1) a + S1x1.size a ≤ S64x352.size a := fun v1 k0_hw1 => k0_hw1.2.2.2.2.2.2.2.2.1.1
theorem k0_off259_inb : ∀ (v1 : BitVec 32) (k0_hw1 : k0_chk1 v1), ∀ a, (k0_off259 v1) a + S1x1.size a ≤ S64x352.size a := fun v1 k0_hw1 => k0_hw1.2.2.2.2.2.2.2.2.1.2.1
theorem k0_off260_inb : ∀ (v1 : BitVec 32) (k0_hw1 : k0_chk1 v1), ∀ a, (k0_off260 v1) a + S1x1.size a ≤ S64x352.size a := fun v1 k0_hw1 => k0_hw1.2.2.2.2.2.2.2.2.1.2.2.1
theorem k0_off261_inb : ∀ (v1 : BitVec 32) (k0_hw1 : k0_chk1 v1), ∀ a, (k0_off261 v1) a + S1x1.size a ≤ S64x352.size a := fun v1 k0_hw1 => k0_hw1.2.2.2.2.2.2.2.2.1.2.2.2.1
theorem k0_off262_inb : ∀ (v1 : BitVec 32) (k0_hw1 : k0_chk1 v1), ∀ a, (k0_off262 v1) a + S1x1.size a ≤ S64x352.size a := fun v1 k0_hw1 => k0_hw1.2.2.2.2.2.2.2.2.1.2.2.2.2.1
theorem k0_off263_inb : ∀ (v1 : BitVec 32) (k0_hw1 : k0_chk1 v1), ∀ a, (k0_off263 v1) a + S1x1.size a ≤ S64x352.size a := fun v1 k0_hw1 => k0_hw1.2.2.2.2.2.2.2.2.1.2.2.2.2.2.1
theorem k0_off264_inb : ∀ (v1 : BitVec 32) (k0_hw1 : k0_chk1 v1), ∀ a, (k0_off264 v1) a + S1x1.size a ≤ S64x352.size a := fun v1 k0_hw1 => k0_hw1.2.2.2.2.2.2.2.2.1.2.2.2.2.2.2.1
theorem k0_off265_inb : ∀ (v1 : BitVec 32) (k0_hw1 : k0_chk1 v1), ∀ a, (k0_off265 v1) a + S1x1.size a ≤ S64x352.size a := fun v1 k0_hw1 => k0_hw1.2.2.2.2.2.2.2.2.1.2.2.2.2.2.2.2.1
theorem k0_off266_inb : ∀ (v1 : BitVec 32) (k0_hw1 : k0_chk1 v1), ∀ a, (k0_off266 v1) a + S1x1.size a ≤ S64x352.size a := fun v1 k0_hw1 => k0_hw1.2.2.2.2.2.2.2.2.1.2.2.2.2.2.2.2.2.1
theorem k0_off267_inb : ∀ (v1 : BitVec 32) (k0_hw1 : k0_chk1 v1), ∀ a, (k0_off267 v1) a + S1x1.size a ≤ S64x352.size a := fun v1 k0_hw1 => k0_hw1.2.2.2.2.2.2.2.2.1.2.2.2.2.2.2.2.2.2.1
theorem k0_off268_inb : ∀ (v1 : BitVec 32) (k0_hw1 : k0_chk1 v1), ∀ a, (k0_off268 v1) a + S1x1.size a ≤ S64x352.size a := fun v1 k0_hw1 => k0_hw1.2.2.2.2.2.2.2.2.1.2.2.2.2.2.2.2.2.2.2.1
theorem k0_off269_inb : ∀ (v1 : BitVec 32) (k0_hw1 : k0_chk1 v1), ∀ a, (k0_off269 v1) a + S1x1.size a ≤ S64x352.size a := fun v1 k0_hw1 => k0_hw1.2.2.2.2.2.2.2.2.1.2.2.2.2.2.2.2.2.2.2.2.1
theorem k0_off270_inb : ∀ (v1 : BitVec 32) (k0_hw1 : k0_chk1 v1), ∀ a, (k0_off270 v1) a + S1x1.size a ≤ S64x352.size a := fun v1 k0_hw1 => k0_hw1.2.2.2.2.2.2.2.2.1.2.2.2.2.2.2.2.2.2.2.2.2.1
theorem k0_off271_inb : ∀ (v1 : BitVec 32) (k0_hw1 : k0_chk1 v1), ∀ a, (k0_off271 v1) a + S1x1.size a ≤ S64x352.size a := fun v1 k0_hw1 => k0_hw1.2.2.2.2.2.2.2.2.1.2.2.2.2.2.2.2.2.2.2.2.2.2.1
theorem k0_off272_inb : ∀ (v1 : BitVec 32) (k0_hw1 : k0_chk1 v1), ∀ a, (k0_off272 v1) a + S1x1.size a ≤ S64x352.size a := fun v1 k0_hw1 => k0_hw1.2.2.2.2.2.2.2.2.1.2.2.2.2.2.2.2.2.2.2.2.2.2.2.1
theorem k0_off273_inb : ∀ (v1 : BitVec 32) (k0_hw1 : k0_chk1 v1), ∀ a, (k0_off273 v1) a + S1x1.size a ≤ S64x352.size a := fun v1 k0_hw1 => k0_hw1.2.2.2.2.2.2.2.2.1.2.2.2.2.2.2.2.2.2.2.2.2.2.2.2.1
theorem k0_off274_inb : ∀ (v1 : BitVec 32) (k0_hw1 : k0_chk1 v1), ∀ a, (k0_off274 v1) a + S1x1.size a ≤ S64x352.size a := fun v1 k0_hw1 => k0_hw1.2.2.2.2.2.2.2.2.1.2.2.2.2.2.2.2.2.2.2.2.2.2.2.2.2.1
theorem k0_off275_inb : ∀ (v1 : BitVec 32) (k0_hw1 : k0_chk1 v1), ∀ a, (k0_off275 v1) a + S1x1.size a ≤ S64x352.size a := fun v1 k0_hw1 => k0_hw1.2.2.2.2.2.2.2.2.1.2.2.2.2.2.2.2.2.2.2.2.2.2.2.2.2.2.1
theorem k0_off276_inb : ∀ (v1 : BitVec 32) (k0_hw1 : k0_chk1 v1), ∀ a, (k0_off276 v1) a + S1x1.size a ≤ S64x352.size a := fun v1 k0_hw1 => k0_hw1.2.2.2.2.2.2.2.2.1.2.2.2.2.2.2.2.2.2.2.2.2.2.2.2.2.2.2.1
theorem k0_off277_inb : ∀ (v1 : BitVec 32) (k0_hw1 : k0_chk1 v1), ∀ a, (k0_off277 v1) a + S1x1.size a ≤ S64x352.size a := fun v1 k0_hw1 => k0_hw1.2.2.2.2.2.2.2.2.1.2.2.2.2.2.2.2.2.2.2.2.2.2.2.2.2.2.2.2.1
theorem k0_off278_inb : ∀ (v1 : BitVec 32) (k0_hw1 : k0_chk1 v1), ∀ a, (k0_off278 v1) a + S1x1.size a ≤ S64x352.size a := fun v1 k0_hw1 => k0_hw1.2.2.2.2.2.2.2.2.1.2.2.2.2.2.2.2.2.2.2.2.2.2.2.2.2.2.2.2.2.1
theorem k0_off279_inb : ∀ (v1 : BitVec 32) (k0_hw1 : k0_chk1 v1), ∀ a, (k0_off279 v1) a + S1x1.size a ≤ S64x352.size a := fun v1 k0_hw1 => k0_hw1.2.2.2.2.2.2.2.2.1.2.2.2.2.2.2.2.2.2.2.2.2.2.2.2.2.2.2.2.2.2.1
theorem k0_off280_inb : ∀ (v1 : BitVec 32) (k0_hw1 : k0_chk1 v1), ∀ a, (k0_off280 v1) a + S1x1.size a ≤ S64x352.size a := fun v1 k0_hw1 => k0_hw1.2.2.2.2.2.2.2.2.1.2.2.2.2.2.2.2.2.2.2.2.2.2.2.2.2.2.2.2.2.2.2.1
theorem k0_off281_inb : ∀ (v1 : BitVec 32) (k0_hw1 : k0_chk1 v1), ∀ a, (k0_off281 v1) a + S1x1.size a ≤ S64x352.size a := fun v1 k0_hw1 => k0_hw1.2.2.2.2.2.2.2.2.1.2.2.2.2.2.2.2.2.2.2.2.2.2.2.2.2.2.2.2.2.2.2.2.1
theorem k0_off282_inb : ∀ (v1 : BitVec 32) (k0_hw1 : k0_chk1 v1), ∀ a, (k0_off282 v1) a + S1x1.size a ≤ S64x352.size a := fun v1 k0_hw1 => k0_hw1.2.2.2.2.2.2.2.2.1.2.2.2.2.2.2.2.2.2.2.2.2.2.2.2.2.2.2.2.2.2.2.2.2.1
theorem k0_off283_inb : ∀ (v1 : BitVec 32) (k0_hw1 : k0_chk1 v1), ∀ a, (k0_off283 v1) a + S1x1.size a ≤ S64x352.size a := fun v1 k0_hw1 => k0_hw1.2.2.2.2.2.2.2.2.1.2.2.2.2.2.2.2.2.2.2.2.2.2.2.2.2.2.2.2.2.2.2.2.2.2.1
theorem k0_off284_inb : ∀ (v1 : BitVec 32) (k0_hw1 : k0_chk1 v1), ∀ a, (k0_off284 v1) a + S1x1.size a ≤ S64x352.size a := fun v1 k0_hw1 => k0_hw1.2.2.2.2.2.2.2.2.1.2.2.2.2.2.2.2.2.2.2.2.2.2.2.2.2.2.2.2.2.2.2.2.2.2.2.1
theorem k0_off285_inb : ∀ (v1 : BitVec 32) (k0_hw1 : k0_chk1 v1), ∀ a, (k0_off285 v1) a + S1x1.size a ≤ S64x352.size a := fun v1 k0_hw1 => k0_hw1.2.2.2.2.2.2.2.2.1.2.2.2.2.2.2.2.2.2.2.2.2.2.2.2.2.2.2.2.2.2.2.2.2.2.2.2.1
theorem k0_off286_inb : ∀ (v1 : BitVec 32) (k0_hw1 : k0_chk1 v1), ∀ a, (k0_off286 v1) a + S1x1.size a ≤ S64x352.size a := fun v1 k0_hw1 => k0_hw1.2.2.2.2.2.2.2.2.1.2.2.2.2.2.2.2.2.2.2.2.2.2.2.2.2.2.2.2.2.2.2.2.2.2.2.2.2.1
theorem k0_off287_inb : ∀ (v1 : BitVec 32) (k0_hw1 : k0_chk1 v1), ∀ a, (k0_off287 v1) a + S1x1.size a ≤ S64x352.size a := fun v1 k0_hw1 => k0_hw1.2.2.2.2.2.2.2.2.1.2.2.2.2.2.2.2.2.2.2.2.2.2.2.2.2.2.2.2.2.2.2.2.2.2.2.2.2.2.1
theorem k0_off288_inb : ∀ (v1 : BitVec 32) (k0_hw1 : k0_chk1 v1), ∀ a, (k0_off288 v1) a + S1x1.size a ≤ S64x352.size a := fun v1 k0_hw1 => k0_hw1.2.2.2.2.2.2.2.2.1.2.2.2.2.2.2.2.2.2.2.2.2.2.2.2.2.2.2.2.2.2.2.2.2.2.2.2.2.2.2.1
theorem k0_off289_inb : ∀ (v1 : BitVec 32) (k0_hw1 : k0_chk1 v1), ∀ a, (k0_off289 v1) a + S1x1.size a ≤ S64x352.size a := fun v1 k0_hw1 => k0_hw1.2.2.2.2.2.2.2.2.1.2.2.2.2.2.2.2.2.2.2.2.2.2.2.2.2.2.2.2.2.2.2.2.2.2.2.2.2.2.2.2
theorem k0_off290_inb : ∀ (v1 : BitVec 32) (k0_hw1 : k0_chk1 v1), ∀ a, (k0_off290 v1) a + S1x1.size a ≤ S64x352.size a := fun v1 k0_hw1 => k0_hw1.2.2.2.2.2.2.2.2.2.1.1
theorem k0_off291_inb : ∀ (v1 : BitVec 32) (k0_hw1 : k0_chk1 v1), ∀ a, (k0_off291 v1) a + S1x1.size a ≤ S64x352.size a := fun v1 k0_hw1 => k0_hw1.2.2.2.2.2.2.2.2.2.1.2.1
theorem k0_off292_inb : ∀ (v1 : BitVec 32) (k0_hw1 : k0_chk1 v1), ∀ a, (k0_off292 v1) a + S1x1.size a ≤ S64x352.size a := fun v1 k0_hw1 => k0_hw1.2.2.2.2.2.2.2.2.2.1.2.2.1
theorem k0_off293_inb : ∀ (v1 : BitVec 32) (k0_hw1 : k0_chk1 v1), ∀ a, (k0_off293 v1) a + S1x1.size a ≤ S64x352.size a := fun v1 k0_hw1 => k0_hw1.2.2.2.2.2.2.2.2.2.1.2.2.2.1
theorem k0_off294_inb : ∀ (v1 : BitVec 32) (k0_hw1 : k0_chk1 v1), ∀ a, (k0_off294 v1) a + S1x1.size a ≤ S64x352.size a := fun v1 k0_hw1 => k0_hw1.2.2.2.2.2.2.2.2.2.1.2.2.2.2.1
theorem k0_off295_inb : ∀ (v1 : BitVec 32) (k0_hw1 : k0_chk1 v1), ∀ a, (k0_off295 v1) a + S1x1.size a ≤ S64x352.size a := fun v1 k0_hw1 => k0_hw1.2.2.2.2.2.2.2.2.2.1.2.2.2.2.2.1
theorem k0_off296_inb : ∀ (v1 : BitVec 32) (k0_hw1 : k0_chk1 v1), ∀ a, (k0_off296 v1) a + S1x1.size a ≤ S64x352.size a := fun v1 k0_hw1 => k0_hw1.2.2.2.2.2.2.2.2.2.1.2.2.2.2.2.2.1
theorem k0_off297_inb : ∀ (v1 : BitVec 32) (k0_hw1 : k0_chk1 v1), ∀ a, (k0_off297 v1) a + S1x1.size a ≤ S64x352.size a := fun v1 k0_hw1 => k0_hw1.2.2.2.2.2.2.2.2.2.1.2.2.2.2.2.2.2.1
theorem k0_off298_inb : ∀ (v1 : BitVec 32) (k0_hw1 : k0_chk1 v1), ∀ a, (k0_off298 v1) a + S1x1.size a ≤ S64x352.size a := fun v1 k0_hw1 => k0_hw1.2.2.2.2.2.2.2.2.2.1.2.2.2.2.2.2.2.2.1
theorem k0_off299_inb : ∀ (v1 : BitVec 32) (k0_hw1 : k0_chk1 v1), ∀ a, (k0_off299 v1) a + S1x1.size a ≤ S64x352.size a := fun v1 k0_hw1 => k0_hw1.2.2.2.2.2.2.2.2.2.1.2.2.2.2.2.2.2.2.2.1
theorem k0_off300_inb : ∀ (v1 : BitVec 32) (k0_hw1 : k0_chk1 v1), ∀ a, (k0_off300 v1) a + S1x1.size a ≤ S64x352.size a := fun v1 k0_hw1 => k0_hw1.2.2.2.2.2.2.2.2.2.1.2.2.2.2.2.2.2.2.2.2.1
theorem k0_off301_inb : ∀ (v1 : BitVec 32) (k0_hw1 : k0_chk1 v1), ∀ a, (k0_off301 v1) a + S1x1.size a ≤ S64x352.size a := fun v1 k0_hw1 => k0_hw1.2.2.2.2.2.2.2.2.2.1.2.2.2.2.2.2.2.2.2.2.2.1
theorem k0_off302_inb : ∀ (v1 : BitVec 32) (k0_hw1 : k0_chk1 v1), ∀ a, (k0_off302 v1) a + S1x1.size a ≤ S64x352.size a := fun v1 k0_hw1 => k0_hw1.2.2.2.2.2.2.2.2.2.1.2.2.2.2.2.2.2.2.2.2.2.2.1
theorem k0_off303_inb : ∀ (v1 : BitVec 32) (k0_hw1 : k0_chk1 v1), ∀ a, (k0_off303 v1) a + S1x1.size a ≤ S64x352.size a := fun v1 k0_hw1 => k0_hw1.2.2.2.2.2.2.2.2.2.1.2.2.2.2.2.2.2.2.2.2.2.2.2.1
theorem k0_off304_inb : ∀ (v1 : BitVec 32) (k0_hw1 : k0_chk1 v1), ∀ a, (k0_off304 v1) a + S1x1.size a ≤ S64x352.size a := fun v1 k0_hw1 => k0_hw1.2.2.2.2.2.2.2.2.2.1.2.2.2.2.2.2.2.2.2.2.2.2.2.2.1
theorem k0_off305_inb : ∀ (v1 : BitVec 32) (k0_hw1 : k0_chk1 v1), ∀ a, (k0_off305 v1) a + S1x1.size a ≤ S64x352.size a := fun v1 k0_hw1 => k0_hw1.2.2.2.2.2.2.2.2.2.1.2.2.2.2.2.2.2.2.2.2.2.2.2.2.2.1
theorem k0_off306_inb : ∀ (v1 : BitVec 32) (k0_hw1 : k0_chk1 v1), ∀ a, (k0_off306 v1) a + S1x1.size a ≤ S64x352.size a := fun v1 k0_hw1 => k0_hw1.2.2.2.2.2.2.2.2.2.1.2.2.2.2.2.2.2.2.2.2.2.2.2.2.2.2.1
theorem k0_off307_inb : ∀ (v1 : BitVec 32) (k0_hw1 : k0_chk1 v1), ∀ a, (k0_off307 v1) a + S1x1.size a ≤ S64x352.size a := fun v1 k0_hw1 => k0_hw1.2.2.2.2.2.2.2.2.2.1.2.2.2.2.2.2.2.2.2.2.2.2.2.2.2.2.2.1
theorem k0_off308_inb : ∀ (v1 : BitVec 32) (k0_hw1 : k0_chk1 v1), ∀ a, (k0_off308 v1) a + S1x1.size a ≤ S64x352.size a := fun v1 k0_hw1 => k0_hw1.2.2.2.2.2.2.2.2.2.1.2.2.2.2.2.2.2.2.2.2.2.2.2.2.2.2.2.2.1
theorem k0_off309_inb : ∀ (v1 : BitVec 32) (k0_hw1 : k0_chk1 v1), ∀ a, (k0_off309 v1) a + S1x1.size a ≤ S64x352.size a := fun v1 k0_hw1 => k0_hw1.2.2.2.2.2.2.2.2.2.1.2.2.2.2.2.2.2.2.2.2.2.2.2.2.2.2.2.2.2.1
theorem k0_off310_inb : ∀ (v1 : BitVec 32) (k0_hw1 : k0_chk1 v1), ∀ a, (k0_off310 v1) a + S1x1.size a ≤ S64x352.size a := fun v1 k0_hw1 => k0_hw1.2.2.2.2.2.2.2.2.2.1.2.2.2.2.2.2.2.2.2.2.2.2.2.2.2.2.2.2.2.2.1
theorem k0_off311_inb : ∀ (v1 : BitVec 32) (k0_hw1 : k0_chk1 v1), ∀ a, (k0_off311 v1) a + S1x1.size a ≤ S64x352.size a := fun v1 k0_hw1 => k0_hw1.2.2.2.2.2.2.2.2.2.1.2.2.2.2.2.2.2.2.2.2.2.2.2.2.2.2.2.2.2.2.2.1
theorem k0_off312_inb : ∀ (v1 : BitVec 32) (k0_hw1 : k0_chk1 v1), ∀ a, (k0_off312 v1) a + S1x1.size a ≤ S64x352.size a := fun v1 k0_hw1 => k0_hw1.2.2.2.2.2.2.2.2.2.1.2.2.2.2.2.2.2.2.2.2.2.2.2.2.2.2.2.2.2.2.2.2.1
theorem k0_off313_inb : ∀ (v1 : BitVec 32) (k0_hw1 : k0_chk1 v1), ∀ a, (k0_off313 v1) a + S1x1.size a ≤ S64x352.size a := fun v1 k0_hw1 => k0_hw1.2.2.2.2.2.2.2.2.2.1.2.2.2.2.2.2.2.2.2.2.2.2.2.2.2.2.2.2.2.2.2.2.2.1
theorem k0_off314_inb : ∀ (v1 : BitVec 32) (k0_hw1 : k0_chk1 v1), ∀ a, (k0_off314 v1) a + S1x1.size a ≤ S64x352.size a := fun v1 k0_hw1 => k0_hw1.2.2.2.2.2.2.2.2.2.1.2.2.2.2.2.2.2.2.2.2.2.2.2.2.2.2.2.2.2.2.2.2.2.2.1
theorem k0_off315_inb : ∀ (v1 : BitVec 32) (k0_hw1 : k0_chk1 v1), ∀ a, (k0_off315 v1) a + S1x1.size a ≤ S64x352.size a := fun v1 k0_hw1 => k0_hw1.2.2.2.2.2.2.2.2.2.1.2.2.2.2.2.2.2.2.2.2.2.2.2.2.2.2.2.2.2.2.2.2.2.2.2.1
theorem k0_off316_inb : ∀ (v1 : BitVec 32) (k0_hw1 : k0_chk1 v1), ∀ a, (k0_off316 v1) a + S1x1.size a ≤ S64x352.size a := fun v1 k0_hw1 => k0_hw1.2.2.2.2.2.2.2.2.2.1.2.2.2.2.2.2.2.2.2.2.2.2.2.2.2.2.2.2.2.2.2.2.2.2.2.2.1
theorem k0_off317_inb : ∀ (v1 : BitVec 32) (k0_hw1 : k0_chk1 v1), ∀ a, (k0_off317 v1) a + S1x1.size a ≤ S64x352.size a := fun v1 k0_hw1 => k0_hw1.2.2.2.2.2.2.2.2.2.1.2.2.2.2.2.2.2.2.2.2.2.2.2.2.2.2.2.2.2.2.2.2.2.2.2.2.2.1
theorem k0_off318_inb : ∀ (v1 : BitVec 32) (k0_hw1 : k0_chk1 v1), ∀ a, (k0_off318 v1) a + S1x1.size a ≤ S64x352.size a := fun v1 k0_hw1 => k0_hw1.2.2.2.2.2.2.2.2.2.1.2.2.2.2.2.2.2.2.2.2.2.2.2.2.2.2.2.2.2.2.2.2.2.2.2.2.2.2.1
theorem k0_off319_inb : ∀ (v1 : BitVec 32) (k0_hw1 : k0_chk1 v1), ∀ a, (k0_off319 v1) a + S1x1.size a ≤ S64x352.size a := fun v1 k0_hw1 => k0_hw1.2.2.2.2.2.2.2.2.2.1.2.2.2.2.2.2.2.2.2.2.2.2.2.2.2.2.2.2.2.2.2.2.2.2.2.2.2.2.2.1
theorem k0_off320_inb : ∀ (v1 : BitVec 32) (k0_hw1 : k0_chk1 v1), ∀ a, (k0_off320 v1) a + S1x1.size a ≤ S64x352.size a := fun v1 k0_hw1 => k0_hw1.2.2.2.2.2.2.2.2.2.1.2.2.2.2.2.2.2.2.2.2.2.2.2.2.2.2.2.2.2.2.2.2.2.2.2.2.2.2.2.2.1
theorem k0_off321_inb : ∀ (v1 : BitVec 32) (k0_hw1 : k0_chk1 v1), ∀ a, (k0_off321 v1) a + S1x1.size a ≤ S64x352.size a := fun v1 k0_hw1 => k0_hw1.2.2.2.2.2.2.2.2.2.1.2.2.2.2.2.2.2.2.2.2.2.2.2.2.2.2.2.2.2.2.2.2.2.2.2.2.2.2.2.2.2
theorem k0_off322_inb : ∀ (v1 : BitVec 32) (k0_hw1 : k0_chk1 v1), ∀ a, (k0_off322 v1) a + S1x1.size a ≤ S64x352.size a := fun v1 k0_hw1 => k0_hw1.2.2.2.2.2.2.2.2.2.2.1.1
theorem k0_off323_inb : ∀ (v1 : BitVec 32) (k0_hw1 : k0_chk1 v1), ∀ a, (k0_off323 v1) a + S1x1.size a ≤ S64x352.size a := fun v1 k0_hw1 => k0_hw1.2.2.2.2.2.2.2.2.2.2.1.2.1
theorem k0_off324_inb : ∀ (v1 : BitVec 32) (k0_hw1 : k0_chk1 v1), ∀ a, (k0_off324 v1) a + S1x1.size a ≤ S64x352.size a := fun v1 k0_hw1 => k0_hw1.2.2.2.2.2.2.2.2.2.2.1.2.2.1
theorem k0_off325_inb : ∀ (v1 : BitVec 32) (k0_hw1 : k0_chk1 v1), ∀ a, (k0_off325 v1) a + S1x1.size a ≤ S64x352.size a := fun v1 k0_hw1 => k0_hw1.2.2.2.2.2.2.2.2.2.2.1.2.2.2.1
theorem k0_off326_inb : ∀ (v1 : BitVec 32) (k0_hw1 : k0_chk1 v1), ∀ a, (k0_off326 v1) a + S1x1.size a ≤ S64x352.size a := fun v1 k0_hw1 => k0_hw1.2.2.2.2.2.2.2.2.2.2.1.2.2.2.2.1
theorem k0_off327_inb : ∀ (v1 : BitVec 32) (k0_hw1 : k0_chk1 v1), ∀ a, (k0_off327 v1) a + S1x1.size a ≤ S64x352.size a := fun v1 k0_hw1 => k0_hw1.2.2.2.2.2.2.2.2.2.2.1.2.2.2.2.2.1
theorem k0_off328_inb : ∀ (v1 : BitVec 32) (k0_hw1 : k0_chk1 v1), ∀ a, (k0_off328 v1) a + S1x1.size a ≤ S64x352.size a := fun v1 k0_hw1 => k0_hw1.2.2.2.2.2.2.2.2.2.2.1.2.2.2.2.2.2.1
theorem k0_off329_inb : ∀ (v1 : BitVec 32) (k0_hw1 : k0_chk1 v1), ∀ a, (k0_off329 v1) a + S1x1.size a ≤ S64x352.size a := fun v1 k0_hw1 => k0_hw1.2.2.2.2.2.2.2.2.2.2.1.2.2.2.2.2.2.2.1
theorem k0_off330_inb : ∀ (v1 : BitVec 32) (k0_hw1 : k0_chk1 v1), ∀ a, (k0_off330 v1) a + S1x1.size a ≤ S64x352.size a := fun v1 k0_hw1 => k0_hw1.2.2.2.2.2.2.2.2.2.2.1.2.2.2.2.2.2.2.2.1
theorem k0_off331_inb : ∀ (v1 : BitVec 32) (k0_hw1 : k0_chk1 v1), ∀ a, (k0_off331 v1) a + S1x1.size a ≤ S64x352.size a := fun v1 k0_hw1 => k0_hw1.2.2.2.2.2.2.2.2.2.2.1.2.2.2.2.2.2.2.2.2.1
theorem k0_off332_inb : ∀ (v1 : BitVec 32) (k0_hw1 : k0_chk1 v1), ∀ a, (k0_off332 v1) a + S1x1.size a ≤ S64x352.size a := fun v1 k0_hw1 => k0_hw1.2.2.2.2.2.2.2.2.2.2.1.2.2.2.2.2.2.2.2.2.2.1
theorem k0_off333_inb : ∀ (v1 : BitVec 32) (k0_hw1 : k0_chk1 v1), ∀ a, (k0_off333 v1) a + S1x1.size a ≤ S64x352.size a := fun v1 k0_hw1 => k0_hw1.2.2.2.2.2.2.2.2.2.2.1.2.2.2.2.2.2.2.2.2.2.2.1
theorem k0_off334_inb : ∀ (v1 : BitVec 32) (k0_hw1 : k0_chk1 v1), ∀ a, (k0_off334 v1) a + S1x1.size a ≤ S64x352.size a := fun v1 k0_hw1 => k0_hw1.2.2.2.2.2.2.2.2.2.2.1.2.2.2.2.2.2.2.2.2.2.2.2.1
theorem k0_off335_inb : ∀ (v1 : BitVec 32) (k0_hw1 : k0_chk1 v1), ∀ a, (k0_off335 v1) a + S1x1.size a ≤ S64x352.size a := fun v1 k0_hw1 => k0_hw1.2.2.2.2.2.2.2.2.2.2.1.2.2.2.2.2.2.2.2.2.2.2.2.2.1
theorem k0_off336_inb : ∀ (v1 : BitVec 32) (k0_hw1 : k0_chk1 v1), ∀ a, (k0_off336 v1) a + S1x1.size a ≤ S64x352.size a := fun v1 k0_hw1 => k0_hw1.2.2.2.2.2.2.2.2.2.2.1.2.2.2.2.2.2.2.2.2.2.2.2.2.2.1
theorem k0_off337_inb : ∀ (v1 : BitVec 32) (k0_hw1 : k0_chk1 v1), ∀ a, (k0_off337 v1) a + S1x1.size a ≤ S64x352.size a := fun v1 k0_hw1 => k0_hw1.2.2.2.2.2.2.2.2.2.2.1.2.2.2.2.2.2.2.2.2.2.2.2.2.2.2.1
theorem k0_off338_inb : ∀ (v1 : BitVec 32) (k0_hw1 : k0_chk1 v1), ∀ a, (k0_off338 v1) a + S1x1.size a ≤ S64x352.size a := fun v1 k0_hw1 => k0_hw1.2.2.2.2.2.2.2.2.2.2.1.2.2.2.2.2.2.2.2.2.2.2.2.2.2.2.2.1
theorem k0_off339_inb : ∀ (v1 : BitVec 32) (k0_hw1 : k0_chk1 v1), ∀ a, (k0_off339 v1) a + S1x1.size a ≤ S64x352.size a := fun v1 k0_hw1 => k0_hw1.2.2.2.2.2.2.2.2.2.2.1.2.2.2.2.2.2.2.2.2.2.2.2.2.2.2.2.2.1
theorem k0_off340_inb : ∀ (v1 : BitVec 32) (k0_hw1 : k0_chk1 v1), ∀ a, (k0_off340 v1) a + S1x1.size a ≤ S64x352.size a := fun v1 k0_hw1 => k0_hw1.2.2.2.2.2.2.2.2.2.2.1.2.2.2.2.2.2.2.2.2.2.2.2.2.2.2.2.2.2.1
theorem k0_off341_inb : ∀ (v1 : BitVec 32) (k0_hw1 : k0_chk1 v1), ∀ a, (k0_off341 v1) a + S1x1.size a ≤ S64x352.size a := fun v1 k0_hw1 => k0_hw1.2.2.2.2.2.2.2.2.2.2.1.2.2.2.2.2.2.2.2.2.2.2.2.2.2.2.2.2.2.2.1
theorem k0_off342_inb : ∀ (v1 : BitVec 32) (k0_hw1 : k0_chk1 v1), ∀ a, (k0_off342 v1) a + S1x1.size a ≤ S64x352.size a := fun v1 k0_hw1 => k0_hw1.2.2.2.2.2.2.2.2.2.2.1.2.2.2.2.2.2.2.2.2.2.2.2.2.2.2.2.2.2.2.2.1
theorem k0_off343_inb : ∀ (v1 : BitVec 32) (k0_hw1 : k0_chk1 v1), ∀ a, (k0_off343 v1) a + S1x1.size a ≤ S64x352.size a := fun v1 k0_hw1 => k0_hw1.2.2.2.2.2.2.2.2.2.2.1.2.2.2.2.2.2.2.2.2.2.2.2.2.2.2.2.2.2.2.2.2.1
theorem k0_off344_inb : ∀ (v1 : BitVec 32) (k0_hw1 : k0_chk1 v1), ∀ a, (k0_off344 v1) a + S1x1.size a ≤ S64x352.size a := fun v1 k0_hw1 => k0_hw1.2.2.2.2.2.2.2.2.2.2.1.2.2.2.2.2.2.2.2.2.2.2.2.2.2.2.2.2.2.2.2.2.2.1
theorem k0_off345_inb : ∀ (v1 : BitVec 32) (k0_hw1 : k0_chk1 v1), ∀ a, (k0_off345 v1) a + S1x1.size a ≤ S64x352.size a := fun v1 k0_hw1 => k0_hw1.2.2.2.2.2.2.2.2.2.2.1.2.2.2.2.2.2.2.2.2.2.2.2.2.2.2.2.2.2.2.2.2.2.2.1
theorem k0_off346_inb : ∀ (v1 : BitVec 32) (k0_hw1 : k0_chk1 v1), ∀ a, (k0_off346 v1) a + S1x1.size a ≤ S64x352.size a := fun v1 k0_hw1 => k0_hw1.2.2.2.2.2.2.2.2.2.2.1.2.2.2.2.2.2.2.2.2.2.2.2.2.2.2.2.2.2.2.2.2.2.2.2.1
theorem k0_off347_inb : ∀ (v1 : BitVec 32) (k0_hw1 : k0_chk1 v1), ∀ a, (k0_off347 v1) a + S1x1.size a ≤ S64x352.size a := fun v1 k0_hw1 => k0_hw1.2.2.2.2.2.2.2.2.2.2.1.2.2.2.2.2.2.2.2.2.2.2.2.2.2.2.2.2.2.2.2.2.2.2.2.2.1
theorem k0_off348_inb : ∀ (v1 : BitVec 32) (k0_hw1 : k0_chk1 v1), ∀ a, (k0_off348 v1) a + S1x1.size a ≤ S64x352.size a := fun v1 k0_hw1 => k0_hw1.2.2.2.2.2.2.2.2.2.2.1.2.2.2.2.2.2.2.2.2.2.2.2.2.2.2.2.2.2.2.2.2.2.2.2.2.2.1
theorem k0_off349_inb : ∀ (v1 : BitVec 32) (k0_hw1 : k0_chk1 v1), ∀ a, (k0_off349 v1) a + S1x1.size a ≤ S64x352.size a := fun v1 k0_hw1 => k0_hw1.2.2.2.2.2.2.2.2.2.2.1.2.2.2.2.2.2.2.2.2.2.2.2.2.2.2.2.2.2.2.2.2.2.2.2.2.2.2.1
theorem k0_off350_inb : ∀ (v1 : BitVec 32) (k0_hw1 : k0_chk1 v1), ∀ a, (k0_off350 v1) a + S1x1.size a ≤ S64x352.size a := fun v1 k0_hw1 => k0_hw1.2.2.2.2.2.2.2.2.2.2.1.2.2.2.2.2.2.2.2.2.2.2.2.2.2.2.2.2.2.2.2.2.2.2.2.2.2.2.2.1
theorem k0_off351_inb : ∀ (v1 : BitVec 32) (k0_hw1 : k0_chk1 v1), ∀ a, (k0_off351 v1) a + S1x1.size a ≤ S64x352.size a := fun v1 k0_hw1 => k0_hw1.2.2.2.2.2.2.2.2.2.2.1.2.2.2.2.2.2.2.2.2.2.2.2.2.2.2.2.2.2.2.2.2.2.2.2.2.2.2.2.2.1
theorem k0_off352_inb : ∀ (v1 : BitVec 32) (k0_hw1 : k0_chk1 v1), ∀ a, (k0_off352 v1) a + S1x1.size a ≤ S64x352.size a := fun v1 k0_hw1 => k0_hw1.2.2.2.2.2.2.2.2.2.2.1.2.2.2.2.2.2.2.2.2.2.2.2.2.2.2.2.2.2.2.2.2.2.2.2.2.2.2.2.2.2.1
theorem k0_off353_inb : ∀ (v1 : BitVec 32) (k0_hw1 : k0_chk1 v1), ∀ a, (k0_off353 v1) a + S1x1.size a ≤ S64x352.size a := fun v1 k0_hw1 => k0_hw1.2.2.2.2.2.2.2.2.2.2.1.2.2.2.2.2.2.2.2.2.2.2.2.2.2.2.2.2.2.2.2.2.2.2.2.2.2.2.2.2.2.2
theorem k0_off354_inb : ∀ (v1 : BitVec 32) (k0_hw1 : k0_chk1 v1), ∀ a, (k0_off354 v1) a + S1x1.size a ≤ S64x176.size a := fun v1 k0_hw1 => k0_hw1.2.2.2.2.2.2.2.2.2.2.2.1.1
theorem k0_off355_inb : ∀ (v1 : BitVec 32) (k0_hw1 : k0_chk1 v1), ∀ a, (k0_off355 v1) a + S1x1.size a ≤ S64x176.size a := fun v1 k0_hw1 => k0_hw1.2.2.2.2.2.2.2.2.2.2.2.1.2.1
theorem k0_off356_inb : ∀ (v1 : BitVec 32) (k0_hw1 : k0_chk1 v1), ∀ a, (k0_off356 v1) a + S1x1.size a ≤ S64x176.size a := fun v1 k0_hw1 => k0_hw1.2.2.2.2.2.2.2.2.2.2.2.1.2.2.1
theorem k0_off357_inb : ∀ (v1 : BitVec 32) (k0_hw1 : k0_chk1 v1), ∀ a, (k0_off357 v1) a + S1x1.size a ≤ S64x176.size a := fun v1 k0_hw1 => k0_hw1.2.2.2.2.2.2.2.2.2.2.2.1.2.2.2.1
theorem k0_off358_inb : ∀ (v1 : BitVec 32) (k0_hw1 : k0_chk1 v1), ∀ a, (k0_off358 v1) a + S1x1.size a ≤ S64x176.size a := fun v1 k0_hw1 => k0_hw1.2.2.2.2.2.2.2.2.2.2.2.1.2.2.2.2.1
theorem k0_off359_inb : ∀ (v1 : BitVec 32) (k0_hw1 : k0_chk1 v1), ∀ a, (k0_off359 v1) a + S1x1.size a ≤ S64x176.size a := fun v1 k0_hw1 => k0_hw1.2.2.2.2.2.2.2.2.2.2.2.1.2.2.2.2.2.1
theorem k0_off360_inb : ∀ (v1 : BitVec 32) (k0_hw1 : k0_chk1 v1), ∀ a, (k0_off360 v1) a + S1x1.size a ≤ S64x176.size a := fun v1 k0_hw1 => k0_hw1.2.2.2.2.2.2.2.2.2.2.2.1.2.2.2.2.2.2.1
theorem k0_off361_inb : ∀ (v1 : BitVec 32) (k0_hw1 : k0_chk1 v1), ∀ a, (k0_off361 v1) a + S1x1.size a ≤ S64x176.size a := fun v1 k0_hw1 => k0_hw1.2.2.2.2.2.2.2.2.2.2.2.1.2.2.2.2.2.2.2.1
theorem k0_off362_inb : ∀ (v1 : BitVec 32) (k0_hw1 : k0_chk1 v1), ∀ a, (k0_off362 v1) a + S1x1.size a ≤ S64x176.size a := fun v1 k0_hw1 => k0_hw1.2.2.2.2.2.2.2.2.2.2.2.1.2.2.2.2.2.2.2.2.1
theorem k0_off363_inb : ∀ (v1 : BitVec 32) (k0_hw1 : k0_chk1 v1), ∀ a, (k0_off363 v1) a + S1x1.size a ≤ S64x176.size a := fun v1 k0_hw1 => k0_hw1.2.2.2.2.2.2.2.2.2.2.2.1.2.2.2.2.2.2.2.2.2.1
theorem k0_off364_inb : ∀ (v1 : BitVec 32) (k0_hw1 : k0_chk1 v1), ∀ a, (k0_off364 v1) a + S1x1.size a ≤ S64x176.size a := fun v1 k0_hw1 => k0_hw1.2.2.2.2.2.2.2.2.2.2.2.1.2.2.2.2.2.2.2.2.2.2.1
theorem k0_off365_inb : ∀ (v1 : BitVec 32) (k0_hw1 : k0_chk1 v1), ∀ a, (k0_off365 v1) a + S1x1.size a ≤ S64x176.size a := fun v1 k0_hw1 => k0_hw1.2.2.2.2.2.2.2.2.2.2.2.1.2.2.2.2.2.2.2.2.2.2.2.1
theorem k0_off366_inb : ∀ (v1 : BitVec 32) (k0_hw1 : k0_chk1 v1), ∀ a, (k0_off366 v1) a + S1x1.size a ≤ S64x176.size a := fun v1 k0_hw1 => k0_hw1.2.2.2.2.2.2.2.2.2.2.2.1.2.2.2.2.2.2.2.2.2.2.2.2.1
theorem k0_off367_inb : ∀ (v1 : BitVec 32) (k0_hw1 : k0_chk1 v1), ∀ a, (k0_off367 v1) a + S1x1.size a ≤ S64x176.size a := fun v1 k0_hw1 => k0_hw1.2.2.2.2.2.2.2.2.2.2.2.1.2.2.2.2.2.2.2.2.2.2.2.2.2.1
theorem k0_off368_inb : ∀ (v1 : BitVec 32) (k0_hw1 : k0_chk1 v1), ∀ a, (k0_off368 v1) a + S1x1.size a ≤ S64x176.size a := fun v1 k0_hw1 => k0_hw1.2.2.2.2.2.2.2.2.2.2.2.1.2.2.2.2.2.2.2.2.2.2.2.2.2.2.1
theorem k0_off369_inb : ∀ (v1 : BitVec 32) (k0_hw1 : k0_chk1 v1), ∀ a, (k0_off369 v1) a + S1x1.size a ≤ S64x176.size a := fun v1 k0_hw1 => k0_hw1.2.2.2.2.2.2.2.2.2.2.2.1.2.2.2.2.2.2.2.2.2.2.2.2.2.2.2.1
theorem k0_off370_inb : ∀ (v1 : BitVec 32) (k0_hw1 : k0_chk1 v1), ∀ a, (k0_off370 v1) a + S1x1.size a ≤ S64x176.size a := fun v1 k0_hw1 => k0_hw1.2.2.2.2.2.2.2.2.2.2.2.1.2.2.2.2.2.2.2.2.2.2.2.2.2.2.2.2.1
theorem k0_off371_inb : ∀ (v1 : BitVec 32) (k0_hw1 : k0_chk1 v1), ∀ a, (k0_off371 v1) a + S1x1.size a ≤ S64x176.size a := fun v1 k0_hw1 => k0_hw1.2.2.2.2.2.2.2.2.2.2.2.1.2.2.2.2.2.2.2.2.2.2.2.2.2.2.2.2.2.1
theorem k0_off372_inb : ∀ (v1 : BitVec 32) (k0_hw1 : k0_chk1 v1), ∀ a, (k0_off372 v1) a + S1x1.size a ≤ S64x176.size a := fun v1 k0_hw1 => k0_hw1.2.2.2.2.2.2.2.2.2.2.2.1.2.2.2.2.2.2.2.2.2.2.2.2.2.2.2.2.2.2.1
theorem k0_off373_inb : ∀ (v1 : BitVec 32) (k0_hw1 : k0_chk1 v1), ∀ a, (k0_off373 v1) a + S1x1.size a ≤ S64x176.size a := fun v1 k0_hw1 => k0_hw1.2.2.2.2.2.2.2.2.2.2.2.1.2.2.2.2.2.2.2.2.2.2.2.2.2.2.2.2.2.2.2.1
theorem k0_off374_inb : ∀ (v1 : BitVec 32) (k0_hw1 : k0_chk1 v1), ∀ a, (k0_off374 v1) a + S1x1.size a ≤ S64x176.size a := fun v1 k0_hw1 => k0_hw1.2.2.2.2.2.2.2.2.2.2.2.1.2.2.2.2.2.2.2.2.2.2.2.2.2.2.2.2.2.2.2.2.1
theorem k0_off375_inb : ∀ (v1 : BitVec 32) (k0_hw1 : k0_chk1 v1), ∀ a, (k0_off375 v1) a + S1x1.size a ≤ S64x176.size a := fun v1 k0_hw1 => k0_hw1.2.2.2.2.2.2.2.2.2.2.2.1.2.2.2.2.2.2.2.2.2.2.2.2.2.2.2.2.2.2.2.2.2.1
theorem k0_off376_inb : ∀ (v1 : BitVec 32) (k0_hw1 : k0_chk1 v1), ∀ a, (k0_off376 v1) a + S1x1.size a ≤ S64x176.size a := fun v1 k0_hw1 => k0_hw1.2.2.2.2.2.2.2.2.2.2.2.1.2.2.2.2.2.2.2.2.2.2.2.2.2.2.2.2.2.2.2.2.2.2.1
theorem k0_off377_inb : ∀ (v1 : BitVec 32) (k0_hw1 : k0_chk1 v1), ∀ a, (k0_off377 v1) a + S1x1.size a ≤ S64x176.size a := fun v1 k0_hw1 => k0_hw1.2.2.2.2.2.2.2.2.2.2.2.1.2.2.2.2.2.2.2.2.2.2.2.2.2.2.2.2.2.2.2.2.2.2.2.1
theorem k0_off378_inb : ∀ (v1 : BitVec 32) (k0_hw1 : k0_chk1 v1), ∀ a, (k0_off378 v1) a + S1x1.size a ≤ S64x176.size a := fun v1 k0_hw1 => k0_hw1.2.2.2.2.2.2.2.2.2.2.2.1.2.2.2.2.2.2.2.2.2.2.2.2.2.2.2.2.2.2.2.2.2.2.2.2.1
theorem k0_off379_inb : ∀ (v1 : BitVec 32) (k0_hw1 : k0_chk1 v1), ∀ a, (k0_off379 v1) a + S1x1.size a ≤ S64x176.size a := fun v1 k0_hw1 => k0_hw1.2.2.2.2.2.2.2.2.2.2.2.1.2.2.2.2.2.2.2.2.2.2.2.2.2.2.2.2.2.2.2.2.2.2.2.2.2.1
theorem k0_off380_inb : ∀ (v1 : BitVec 32) (k0_hw1 : k0_chk1 v1), ∀ a, (k0_off380 v1) a + S1x1.size a ≤ S64x176.size a := fun v1 k0_hw1 => k0_hw1.2.2.2.2.2.2.2.2.2.2.2.1.2.2.2.2.2.2.2.2.2.2.2.2.2.2.2.2.2.2.2.2.2.2.2.2.2.2.1
theorem k0_off381_inb : ∀ (v1 : BitVec 32) (k0_hw1 : k0_chk1 v1), ∀ a, (k0_off381 v1) a + S1x1.size a ≤ S64x176.size a := fun v1 k0_hw1 => k0_hw1.2.2.2.2.2.2.2.2.2.2.2.1.2.2.2.2.2.2.2.2.2.2.2.2.2.2.2.2.2.2.2.2.2.2.2.2.2.2.2.1
theorem k0_off382_inb : ∀ (v1 : BitVec 32) (k0_hw1 : k0_chk1 v1), ∀ a, (k0_off382 v1) a + S1x1.size a ≤ S64x176.size a := fun v1 k0_hw1 => k0_hw1.2.2.2.2.2.2.2.2.2.2.2.1.2.2.2.2.2.2.2.2.2.2.2.2.2.2.2.2.2.2.2.2.2.2.2.2.2.2.2.2.1
theorem k0_off383_inb : ∀ (v1 : BitVec 32) (k0_hw1 : k0_chk1 v1), ∀ a, (k0_off383 v1) a + S1x1.size a ≤ S64x176.size a := fun v1 k0_hw1 => k0_hw1.2.2.2.2.2.2.2.2.2.2.2.1.2.2.2.2.2.2.2.2.2.2.2.2.2.2.2.2.2.2.2.2.2.2.2.2.2.2.2.2.2.1
theorem k0_off384_inb : ∀ (v1 : BitVec 32) (k0_hw1 : k0_chk1 v1), ∀ a, (k0_off384 v1) a + S1x1.size a ≤ S64x176.size a := fun v1 k0_hw1 => k0_hw1.2.2.2.2.2.2.2.2.2.2.2.1.2.2.2.2.2.2.2.2.2.2.2.2.2.2.2.2.2.2.2.2.2.2.2.2.2.2.2.2.2.2.1
theorem k0_off385_inb : ∀ (v1 : BitVec 32) (k0_hw1 : k0_chk1 v1), ∀ a, (k0_off385 v1) a + S1x1.size a ≤ S64x176.size a := fun v1 k0_hw1 => k0_hw1.2.2.2.2.2.2.2.2.2.2.2.1.2.2.2.2.2.2.2.2.2.2.2.2.2.2.2.2.2.2.2.2.2.2.2.2.2.2.2.2.2.2.2
theorem k0_off386_inb : ∀ (v1 : BitVec 32) (k0_hw1 : k0_chk1 v1), ∀ a, (k0_off386 v1) a + S1x1.size a ≤ S64x176.size a := fun v1 k0_hw1 => k0_hw1.2.2.2.2.2.2.2.2.2.2.2.2.1.1
theorem k0_off387_inb : ∀ (v1 : BitVec 32) (k0_hw1 : k0_chk1 v1), ∀ a, (k0_off387 v1) a + S1x1.size a ≤ S64x176.size a := fun v1 k0_hw1 => k0_hw1.2.2.2.2.2.2.2.2.2.2.2.2.1.2.1
theorem k0_off388_inb : ∀ (v1 : BitVec 32) (k0_hw1 : k0_chk1 v1), ∀ a, (k0_off388 v1) a + S1x1.size a ≤ S64x176.size a := fun v1 k0_hw1 => k0_hw1.2.2.2.2.2.2.2.2.2.2.2.2.1.2.2.1
theorem k0_off389_inb : ∀ (v1 : BitVec 32) (k0_hw1 : k0_chk1 v1), ∀ a, (k0_off389 v1) a + S1x1.size a ≤ S64x176.size a := fun v1 k0_hw1 => k0_hw1.2.2.2.2.2.2.2.2.2.2.2.2.1.2.2.2.1
theorem k0_off390_inb : ∀ (v1 : BitVec 32) (k0_hw1 : k0_chk1 v1), ∀ a, (k0_off390 v1) a + S1x1.size a ≤ S64x176.size a := fun v1 k0_hw1 => k0_hw1.2.2.2.2.2.2.2.2.2.2.2.2.1.2.2.2.2.1
theorem k0_off391_inb : ∀ (v1 : BitVec 32) (k0_hw1 : k0_chk1 v1), ∀ a, (k0_off391 v1) a + S1x1.size a ≤ S64x176.size a := fun v1 k0_hw1 => k0_hw1.2.2.2.2.2.2.2.2.2.2.2.2.1.2.2.2.2.2.1
theorem k0_off392_inb : ∀ (v1 : BitVec 32) (k0_hw1 : k0_chk1 v1), ∀ a, (k0_off392 v1) a + S1x1.size a ≤ S64x176.size a := fun v1 k0_hw1 => k0_hw1.2.2.2.2.2.2.2.2.2.2.2.2.1.2.2.2.2.2.2.1
theorem k0_off393_inb : ∀ (v1 : BitVec 32) (k0_hw1 : k0_chk1 v1), ∀ a, (k0_off393 v1) a + S1x1.size a ≤ S64x176.size a := fun v1 k0_hw1 => k0_hw1.2.2.2.2.2.2.2.2.2.2.2.2.1.2.2.2.2.2.2.2.1
theorem k0_off394_inb : ∀ (v1 : BitVec 32) (k0_hw1 : k0_chk1 v1), ∀ a, (k0_off394 v1) a + S1x1.size a ≤ S64x176.size a := fun v1 k0_hw1 => k0_hw1.2.2.2.2.2.2.2.2.2.2.2.2.1.2.2.2.2.2.2.2.2.1
theorem k0_off395_inb : ∀ (v1 : BitVec 32) (k0_hw1 : k0_chk1 v1), ∀ a, (k0_off395 v1) a + S1x1.size a ≤ S64x176.size a := fun v1 k0_hw1 => k0_hw1.2.2.2.2.2.2.2.2.2.2.2.2.1.2.2.2.2.2.2.2.2.2.1
theorem k0_off396_inb : ∀ (v1 : BitVec 32) (k0_hw1 : k0_chk1 v1), ∀ a, (k0_off396 v1) a + S1x1.size a ≤ S64x176.size a := fun v1 k0_hw1 => k0_hw1.2.2.2.2.2.2.2.2.2.2.2.2.1.2.2.2.2.2.2.2.2.2.2.1
theorem k0_off397_inb : ∀ (v1 : BitVec 32) (k0_hw1 : k0_chk1 v1), ∀ a, (k0_off397 v1) a + S1x1.size a ≤ S64x176.size a := fun v1 k0_hw1 => k0_hw1.2.2.2.2.2.2.2.2.2.2.2.2.1.2.2.2.2.2.2.2.2.2.2.2.1
theorem k0_off398_inb : ∀ (v1 : BitVec 32) (k0_hw1 : k0_chk1 v1), ∀ a, (k0_off398 v1) a + S1x1.size a ≤ S64x176.size a := fun v1 k0_hw1 => k0_hw1.2.2.2.2.2.2.2.2.2.2.2.2.1.2.2.2.2.2.2.2.2.2.2.2.2.1
theorem k0_off399_inb : ∀ (v1 : BitVec 32) (k0_hw1 : k0_chk1 v1), ∀ a, (k0_off399 v1) a + S1x1.size a ≤ S64x176.size a := fun v1 k0_hw1 => k0_hw1.2.2.2.2.2.2.2.2.2.2.2.2.1.2.2.2.2.2.2.2.2.2.2.2.2.2.1
theorem k0_off400_inb : ∀ (v1 : BitVec 32) (k0_hw1 : k0_chk1 v1), ∀ a, (k0_off400 v1) a + S1x1.size a ≤ S64x176.size a := fun v1 k0_hw1 => k0_hw1.2.2.2.2.2.2.2.2.2.2.2.2.1.2.2.2.2.2.2.2.2.2.2.2.2.2.2.1
theorem k0_off401_inb : ∀ (v1 : BitVec 32) (k0_hw1 : k0_chk1 v1), ∀ a, (k0_off401 v1) a + S1x1.size a ≤ S64x176.size a := fun v1 k0_hw1 => k0_hw1.2.2.2.2.2.2.2.2.2.2.2.2.1.2.2.2.2.2.2.2.2.2.2.2.2.2.2.2.1
theorem k0_off402_inb : ∀ (v1 : BitVec 32) (k0_hw1 : k0_chk1 v1), ∀ a, (k0_off402 v1) a + S1x1.size a ≤ S64x176.size a := fun v1 k0_hw1 => k0_hw1.2.2.2.2.2.2.2.2.2.2.2.2.1.2.2.2.2.2.2.2.2.2.2.2.2.2.2.2.2.1
theorem k0_off403_inb : ∀ (v1 : BitVec 32) (k0_hw1 : k0_chk1 v1), ∀ a, (k0_off403 v1) a + S1x1.size a ≤ S64x176.size a := fun v1 k0_hw1 => k0_hw1.2.2.2.2.2.2.2.2.2.2.2.2.1.2.2.2.2.2.2.2.2.2.2.2.2.2.2.2.2.2.1
theorem k0_off404_inb : ∀ (v1 : BitVec 32) (k0_hw1 : k0_chk1 v1), ∀ a, (k0_off404 v1) a + S1x1.size a ≤ S64x176.size a := fun v1 k0_hw1 => k0_hw1.2.2.2.2.2.2.2.2.2.2.2.2.1.2.2.2.2.2.2.2.2.2.2.2.2.2.2.2.2.2.2.1
theorem k0_off405_inb : ∀ (v1 : BitVec 32) (k0_hw1 : k0_chk1 v1), ∀ a, (k0_off405 v1) a + S1x1.size a ≤ S64x176.size a := fun v1 k0_hw1 => k0_hw1.2.2.2.2.2.2.2.2.2.2.2.2.1.2.2.2.2.2.2.2.2.2.2.2.2.2.2.2.2.2.2.2.1
theorem k0_off406_inb : ∀ (v1 : BitVec 32) (k0_hw1 : k0_chk1 v1), ∀ a, (k0_off406 v1) a + S1x1.size a ≤ S64x176.size a := fun v1 k0_hw1 => k0_hw1.2.2.2.2.2.2.2.2.2.2.2.2.1.2.2.2.2.2.2.2.2.2.2.2.2.2.2.2.2.2.2.2.2.1
theorem k0_off407_inb : ∀ (v1 : BitVec 32) (k0_hw1 : k0_chk1 v1), ∀ a, (k0_off407 v1) a + S1x1.size a ≤ S64x176.size a := fun v1 k0_hw1 => k0_hw1.2.2.2.2.2.2.2.2.2.2.2.2.1.2.2.2.2.2.2.2.2.2.2.2.2.2.2.2.2.2.2.2.2.2.1
theorem k0_off408_inb : ∀ (v1 : BitVec 32) (k0_hw1 : k0_chk1 v1), ∀ a, (k0_off408 v1) a + S1x1.size a ≤ S64x176.size a := fun v1 k0_hw1 => k0_hw1.2.2.2.2.2.2.2.2.2.2.2.2.1.2.2.2.2.2.2.2.2.2.2.2.2.2.2.2.2.2.2.2.2.2.2.1
theorem k0_off409_inb : ∀ (v1 : BitVec 32) (k0_hw1 : k0_chk1 v1), ∀ a, (k0_off409 v1) a + S1x1.size a ≤ S64x176.size a := fun v1 k0_hw1 => k0_hw1.2.2.2.2.2.2.2.2.2.2.2.2.1.2.2.2.2.2.2.2.2.2.2.2.2.2.2.2.2.2.2.2.2.2.2.2.1
theorem k0_off410_inb : ∀ (v1 : BitVec 32) (k0_hw1 : k0_chk1 v1), ∀ a, (k0_off410 v1) a + S1x1.size a ≤ S64x176.size a := fun v1 k0_hw1 => k0_hw1.2.2.2.2.2.2.2.2.2.2.2.2.1.2.2.2.2.2.2.2.2.2.2.2.2.2.2.2.2.2.2.2.2.2.2.2.2.1
theorem k0_off411_inb : ∀ (v1 : BitVec 32) (k0_hw1 : k0_chk1 v1), ∀ a, (k0_off411 v1) a + S1x1.size a ≤ S64x176.size a := fun v1 k0_hw1 => k0_hw1.2.2.2.2.2.2.2.2.2.2.2.2.1.2.2.2.2.2.2.2.2.2.2.2.2.2.2.2.2.2.2.2.2.2.2.2.2.2.1
theorem k0_off412_inb : ∀ (v1 : BitVec 32) (k0_hw1 : k0_chk1 v1), ∀ a, (k0_off412 v1) a + S1x1.size a ≤ S64x176.size a := fun v1 k0_hw1 => k0_hw1.2.2.2.2.2.2.2.2.2.2.2.2.1.2.2.2.2.2.2.2.2.2.2.2.2.2.2.2.2.2.2.2.2.2.2.2.2.2.2.1
theorem k0_off413_inb : ∀ (v1 : BitVec 32) (k0_hw1 : k0_chk1 v1), ∀ a, (k0_off413 v1) a + S1x1.size a ≤ S64x176.size a := fun v1 k0_hw1 => k0_hw1.2.2.2.2.2.2.2.2.2.2.2.2.1.2.2.2.2.2.2.2.2.2.2.2.2.2.2.2.2.2.2.2.2.2.2.2.2.2.2.2.1
theorem k0_off414_inb : ∀ (v1 : BitVec 32) (k0_hw1 : k0_chk1 v1), ∀ a, (k0_off414 v1) a + S1x1.size a ≤ S64x176.size a := fun v1 k0_hw1 => k0_hw1.2.2.2.2.2.2.2.2.2.2.2.2.1.2.2.2.2.2.2.2.2.2.2.2.2.2.2.2.2.2.2.2.2.2.2.2.2.2.2.2.2.1
theorem k0_off415_inb : ∀ (v1 : BitVec 32) (k0_hw1 : k0_chk1 v1), ∀ a, (k0_off415 v1) a + S1x1.size a ≤ S64x176.size a := fun v1 k0_hw1 => k0_hw1.2.2.2.2.2.2.2.2.2.2.2.2.1.2.2.2.2.2.2.2.2.2.2.2.2.2.2.2.2.2.2.2.2.2.2.2.2.2.2.2.2.2.1
theorem k0_off416_inb : ∀ (v1 : BitVec 32) (k0_hw1 : k0_chk1 v1), ∀ a, (k0_off416 v1) a + S1x1.size a ≤ S64x176.size a := fun v1 k0_hw1 => k0_hw1.2.2.2.2.2.2.2.2.2.2.2.2.1.2.2.2.2.2.2.2.2.2.2.2.2.2.2.2.2.2.2.2.2.2.2.2.2.2.2.2.2.2.2.1
theorem k0_off417_inb : ∀ (v1 : BitVec 32) (k0_hw1 : k0_chk1 v1), ∀ a, (k0_off417 v1) a + S1x1.size a ≤ S64x176.size a := fun v1 k0_hw1 => k0_hw1.2.2.2.2.2.2.2.2.2.2.2.2.1.2.2.2.2.2.2.2.2.2.2.2.2.2.2.2.2.2.2.2.2.2.2.2.2.2.2.2.2.2.2.2
theorem k0_off418_inb : ∀ (v1 : BitVec 32) (k0_hw1 : k0_chk1 v1), ∀ a, (k0_off418 v1) a + S1x1.size a ≤ S64x176.size a := fun v1 k0_hw1 => k0_hw1.2.2.2.2.2.2.2.2.2.2.2.2.2.1.1
theorem k0_off419_inb : ∀ (v1 : BitVec 32) (k0_hw1 : k0_chk1 v1), ∀ a, (k0_off419 v1) a + S1x1.size a ≤ S64x176.size a := fun v1 k0_hw1 => k0_hw1.2.2.2.2.2.2.2.2.2.2.2.2.2.1.2.1
theorem k0_off420_inb : ∀ (v1 : BitVec 32) (k0_hw1 : k0_chk1 v1), ∀ a, (k0_off420 v1) a + S1x1.size a ≤ S64x176.size a := fun v1 k0_hw1 => k0_hw1.2.2.2.2.2.2.2.2.2.2.2.2.2.1.2.2.1
theorem k0_off421_inb : ∀ (v1 : BitVec 32) (k0_hw1 : k0_chk1 v1), ∀ a, (k0_off421 v1) a + S1x1.size a ≤ S64x176.size a := fun v1 k0_hw1 => k0_hw1.2.2.2.2.2.2.2.2.2.2.2.2.2.1.2.2.2.1
theorem k0_off422_inb : ∀ (v1 : BitVec 32) (k0_hw1 : k0_chk1 v1), ∀ a, (k0_off422 v1) a + S1x1.size a ≤ S64x176.size a := fun v1 k0_hw1 => k0_hw1.2.2.2.2.2.2.2.2.2.2.2.2.2.1.2.2.2.2.1
theorem k0_off423_inb : ∀ (v1 : BitVec 32) (k0_hw1 : k0_chk1 v1), ∀ a, (k0_off423 v1) a + S1x1.size a ≤ S64x176.size a := fun v1 k0_hw1 => k0_hw1.2.2.2.2.2.2.2.2.2.2.2.2.2.1.2.2.2.2.2.1
theorem k0_off424_inb : ∀ (v1 : BitVec 32) (k0_hw1 : k0_chk1 v1), ∀ a, (k0_off424 v1) a + S1x1.size a ≤ S64x176.size a := fun v1 k0_hw1 => k0_hw1.2.2.2.2.2.2.2.2.2.2.2.2.2.1.2.2.2.2.2.2.1
theorem k0_off425_inb : ∀ (v1 : BitVec 32) (k0_hw1 : k0_chk1 v1), ∀ a, (k0_off425 v1) a + S1x1.size a ≤ S64x176.size a := fun v1 k0_hw1 => k0_hw1.2.2.2.2.2.2.2.2.2.2.2.2.2.1.2.2.2.2.2.2.2.1
theorem k0_off426_inb : ∀ (v1 : BitVec 32) (k0_hw1 : k0_chk1 v1), ∀ a, (k0_off426 v1) a + S1x1.size a ≤ S64x176.size a := fun v1 k0_hw1 => k0_hw1.2.2.2.2.2.2.2.2.2.2.2.2.2.1.2.2.2.2.2.2.2.2.1
theorem k0_off427_inb : ∀ (v1 : BitVec 32) (k0_hw1 : k0_chk1 v1), ∀ a, (k0_off427 v1) a + S1x1.size a ≤ S64x176.size a := fun v1 k0_hw1 => k0_hw1.2.2.2.2.2.2.2.2.2.2.2.2.2.1.2.2.2.2.2.2.2.2.2.1
theorem k0_off428_inb : ∀ (v1 : BitVec 32) (k0_hw1 : k0_chk1 v1), ∀ a, (k0_off428 v1) a + S1x1.size a ≤ S64x176.size a := fun v1 k0_hw1 => k0_hw1.2.2.2.2.2.2.2.2.2.2.2.2.2.1.2.2.2.2.2.2.2.2.2.2.1
theorem k0_off429_inb : ∀ (v1 : BitVec 32) (k0_hw1 : k0_chk1 v1), ∀ a, (k0_off429 v1) a + S1x1.size a ≤ S64x176.size a := fun v1 k0_hw1 => k0_hw1.2.2.2.2.2.2.2.2.2.2.2.2.2.1.2.2.2.2.2.2.2.2.2.2.2.1
theorem k0_off430_inb : ∀ (v1 : BitVec 32) (k0_hw1 : k0_chk1 v1), ∀ a, (k0_off430 v1) a + S1x1.size a ≤ S64x176.size a := fun v1 k0_hw1 => k0_hw1.2.2.2.2.2.2.2.2.2.2.2.2.2.1.2.2.2.2.2.2.2.2.2.2.2.2.1
theorem k0_off431_inb : ∀ (v1 : BitVec 32) (k0_hw1 : k0_chk1 v1), ∀ a, (k0_off431 v1) a + S1x1.size a ≤ S64x176.size a := fun v1 k0_hw1 => k0_hw1.2.2.2.2.2.2.2.2.2.2.2.2.2.1.2.2.2.2.2.2.2.2.2.2.2.2.2.1
theorem k0_off432_inb : ∀ (v1 : BitVec 32) (k0_hw1 : k0_chk1 v1), ∀ a, (k0_off432 v1) a + S1x1.size a ≤ S64x176.size a := fun v1 k0_hw1 => k0_hw1.2.2.2.2.2.2.2.2.2.2.2.2.2.1.2.2.2.2.2.2.2.2.2.2.2.2.2.2.1
theorem k0_off433_inb : ∀ (v1 : BitVec 32) (k0_hw1 : k0_chk1 v1), ∀ a, (k0_off433 v1) a + S1x1.size a ≤ S64x176.size a := fun v1 k0_hw1 => k0_hw1.2.2.2.2.2.2.2.2.2.2.2.2.2.1.2.2.2.2.2.2.2.2.2.2.2.2.2.2.2.1
theorem k0_off434_inb : ∀ (v1 : BitVec 32) (k0_hw1 : k0_chk1 v1), ∀ a, (k0_off434 v1) a + S1x1.size a ≤ S64x176.size a := fun v1 k0_hw1 => k0_hw1.2.2.2.2.2.2.2.2.2.2.2.2.2.1.2.2.2.2.2.2.2.2.2.2.2.2.2.2.2.2.1
theorem k0_off435_inb : ∀ (v1 : BitVec 32) (k0_hw1 : k0_chk1 v1), ∀ a, (k0_off435 v1) a + S1x1.size a ≤ S64x176.size a := fun v1 k0_hw1 => k0_hw1.2.2.2.2.2.2.2.2.2.2.2.2.2.1.2.2.2.2.2.2.2.2.2.2.2.2.2.2.2.2.2.1
theorem k0_off436_inb : ∀ (v1 : BitVec 32) (k0_hw1 : k0_chk1 v1), ∀ a, (k0_off436 v1) a + S1x1.size a ≤ S64x176.size a := fun v1 k0_hw1 => k0_hw1.2.2.2.2.2.2.2.2.2.2.2.2.2.1.2.2.2.2.2.2.2.2.2.2.2.2.2.2.2.2.2.2.1
theorem k0_off437_inb : ∀ (v1 : BitVec 32) (k0_hw1 : k0_chk1 v1), ∀ a, (k0_off437 v1) a + S1x1.size a ≤ S64x176.size a := fun v1 k0_hw1 => k0_hw1.2.2.2.2.2.2.2.2.2.2.2.2.2.1.2.2.2.2.2.2.2.2.2.2.2.2.2.2.2.2.2.2.2.1
theorem k0_off438_inb : ∀ (v1 : BitVec 32) (k0_hw1 : k0_chk1 v1), ∀ a, (k0_off438 v1) a + S1x1.size a ≤ S64x176.size a := fun v1 k0_hw1 => k0_hw1.2.2.2.2.2.2.2.2.2.2.2.2.2.1.2.2.2.2.2.2.2.2.2.2.2.2.2.2.2.2.2.2.2.2.1
theorem k0_off439_inb : ∀ (v1 : BitVec 32) (k0_hw1 : k0_chk1 v1), ∀ a, (k0_off439 v1) a + S1x1.size a ≤ S64x176.size a := fun v1 k0_hw1 => k0_hw1.2.2.2.2.2.2.2.2.2.2.2.2.2.1.2.2.2.2.2.2.2.2.2.2.2.2.2.2.2.2.2.2.2.2.2.1
theorem k0_off440_inb : ∀ (v1 : BitVec 32) (k0_hw1 : k0_chk1 v1), ∀ a, (k0_off440 v1) a + S1x1.size a ≤ S64x176.size a := fun v1 k0_hw1 => k0_hw1.2.2.2.2.2.2.2.2.2.2.2.2.2.1.2.2.2.2.2.2.2.2.2.2.2.2.2.2.2.2.2.2.2.2.2.2.1
theorem k0_off441_inb : ∀ (v1 : BitVec 32) (k0_hw1 : k0_chk1 v1), ∀ a, (k0_off441 v1) a + S1x1.size a ≤ S64x176.size a := fun v1 k0_hw1 => k0_hw1.2.2.2.2.2.2.2.2.2.2.2.2.2.1.2.2.2.2.2.2.2.2.2.2.2.2.2.2.2.2.2.2.2.2.2.2.2.1
theorem k0_off442_inb : ∀ (v1 : BitVec 32) (k0_hw1 : k0_chk1 v1), ∀ a, (k0_off442 v1) a + S1x1.size a ≤ S64x176.size a := fun v1 k0_hw1 => k0_hw1.2.2.2.2.2.2.2.2.2.2.2.2.2.1.2.2.2.2.2.2.2.2.2.2.2.2.2.2.2.2.2.2.2.2.2.2.2.2.1
theorem k0_off443_inb : ∀ (v1 : BitVec 32) (k0_hw1 : k0_chk1 v1), ∀ a, (k0_off443 v1) a + S1x1.size a ≤ S64x176.size a := fun v1 k0_hw1 => k0_hw1.2.2.2.2.2.2.2.2.2.2.2.2.2.1.2.2.2.2.2.2.2.2.2.2.2.2.2.2.2.2.2.2.2.2.2.2.2.2.2.1
theorem k0_off444_inb : ∀ (v1 : BitVec 32) (k0_hw1 : k0_chk1 v1), ∀ a, (k0_off444 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.1
theorem k0_off445_inb : ∀ (v1 : BitVec 32) (k0_hw1 : k0_chk1 v1), ∀ a, (k0_off445 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.2.1
theorem k0_off446_inb : ∀ (v1 : BitVec 32) (k0_hw1 : k0_chk1 v1), ∀ a, (k0_off446 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.2.2.1
theorem k0_off447_inb : ∀ (v1 : BitVec 32) (k0_hw1 : k0_chk1 v1), ∀ a, (k0_off447 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.2.2.2.1
theorem k0_off448_inb : ∀ (v1 : BitVec 32) (k0_hw1 : k0_chk1 v1), ∀ a, (k0_off448 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.2.2.2.2.1
theorem k0_off449_inb : ∀ (v1 : BitVec 32) (k0_hw1 : k0_chk1 v1), ∀ a, (k0_off449 v1) a + S1x1.size a ≤ S64x176.size a := fun v1 k0_hw1 => k0_hw1.2.2.2.2.2.2.2.2.2.2.2.2.2.1.2.2.2.2.2.2.2.2.2.2.2.2.2.2.2.2.2.2.2.2.2.2.2.2.2.2.2.2.2.2.2
theorem k0_off450_inb : ∀ (v1 : BitVec 32) (k0_hw1 : k0_chk1 v1), ∀ a, (k0_off450 v1) a + S1x1.size a ≤ S64x176.size a := fun v1 k0_hw1 => k0_hw1.2.2.2.2.2.2.2.2.2.2.2.2.2.2.1.1
theorem k0_off451_inb : ∀ (v1 : BitVec 32) (k0_hw1 : k0_chk1 v1), ∀ a, (k0_off451 v1) a + S1x1.size a ≤ S64x176.size a := fun v1 k0_hw1 => k0_hw1.2.2.2.2.2.2.2.2.2.2.2.2.2.2.1.2.1
theorem k0_off452_inb : ∀ (v1 : BitVec 32) (k0_hw1 : k0_chk1 v1), ∀ a, (k0_off452 v1) a + S1x1.size a ≤ S64x176.size a := fun v1 k0_hw1 => k0_hw1.2.2.2.2.2.2.2.2.2.2.2.2.2.2.1.2.2.1
theorem k0_off453_inb : ∀ (v1 : BitVec 32) (k0_hw1 : k0_chk1 v1), ∀ a, (k0_off453 v1) a + S1x1.size a ≤ S64x176.size a := fun v1 k0_hw1 => k0_hw1.2.2.2.2.2.2.2.2.2.2.2.2.2.2.1.2.2.2.1
theorem k0_off454_inb : ∀ (v1 : BitVec 32) (k0_hw1 : k0_chk1 v1), ∀ a, (k0_off454 v1) a + S1x1.size a ≤ S64x176.size a := fun v1 k0_hw1 => k0_hw1.2.2.2.2.2.2.2.2.2.2.2.2.2.2.1.2.2.2.2.1
theorem k0_off455_inb : ∀ (v1 : BitVec 32) (k0_hw1 : k0_chk1 v1), ∀ a, (k0_off455 v1) a + S1x1.size a ≤ S64x176.size a := fun v1 k0_hw1 => k0_hw1.2.2.2.2.2.2.2.2.2.2.2.2.2.2.1.2.2.2.2.2.1
theorem k0_off456_inb : ∀ (v1 : BitVec 32) (k0_hw1 : k0_chk1 v1), ∀ a, (k0_off456 v1) a + S1x1.size a ≤ S64x176.size a := fun v1 k0_hw1 => k0_hw1.2.2.2.2.2.2.2.2.2.2.2.2.2.2.1.2.2.2.2.2.2.1
theorem k0_off457_inb : ∀ (v1 : BitVec 32) (k0_hw1 : k0_chk1 v1), ∀ a, (k0_off457 v1) a + S1x1.size a ≤ S64x176.size a := fun v1 k0_hw1 => k0_hw1.2.2.2.2.2.2.2.2.2.2.2.2.2.2.1.2.2.2.2.2.2.2.1
theorem k0_off458_inb : ∀ (v1 : BitVec 32) (k0_hw1 : k0_chk1 v1), ∀ a, (k0_off458 v1) a + S1x1.size a ≤ S64x176.size a := fun v1 k0_hw1 => k0_hw1.2.2.2.2.2.2.2.2.2.2.2.2.2.2.1.2.2.2.2.2.2.2.2.1
theorem k0_off459_inb : ∀ (v1 : BitVec 32) (k0_hw1 : k0_chk1 v1), ∀ a, (k0_off459 v1) a + S1x1.size a ≤ S64x176.size a := fun v1 k0_hw1 => k0_hw1.2.2.2.2.2.2.2.2.2.2.2.2.2.2.1.2.2.2.2.2.2.2.2.2.1
theorem k0_off460_inb : ∀ (v1 : BitVec 32) (k0_hw1 : k0_chk1 v1), ∀ a, (k0_off460 v1) a + S1x1.size a ≤ S64x176.size a := fun v1 k0_hw1 => k0_hw1.2.2.2.2.2.2.2.2.2.2.2.2.2.2.1.2.2.2.2.2.2.2.2.2.2.1
theorem k0_off461_inb : ∀ (v1 : BitVec 32) (k0_hw1 : k0_chk1 v1), ∀ a, (k0_off461 v1) a + S1x1.size a ≤ S64x176.size a := fun v1 k0_hw1 => k0_hw1.2.2.2.2.2.2.2.2.2.2.2.2.2.2.1.2.2.2.2.2.2.2.2.2.2.2.1
theorem k0_off462_inb : ∀ (v1 : BitVec 32) (k0_hw1 : k0_chk1 v1), ∀ a, (k0_off462 v1) a + S1x1.size a ≤ S64x176.size a := fun v1 k0_hw1 => k0_hw1.2.2.2.2.2.2.2.2.2.2.2.2.2.2.1.2.2.2.2.2.2.2.2.2.2.2.2.1
theorem k0_off463_inb : ∀ (v1 : BitVec 32) (k0_hw1 : k0_chk1 v1), ∀ a, (k0_off463 v1) a + S1x1.size a ≤ S64x176.size a := fun v1 k0_hw1 => k0_hw1.2.2.2.2.2.2.2.2.2.2.2.2.2.2.1.2.2.2.2.2.2.2.2.2.2.2.2.2.1
theorem k0_off464_inb : ∀ (v1 : BitVec 32) (k0_hw1 : k0_chk1 v1), ∀ a, (k0_off464 v1) a + S1x1.size a ≤ S64x176.size a := fun v1 k0_hw1 => k0_hw1.2.2.2.2.2.2.2.2.2.2.2.2.2.2.1.2.2.2.2.2.2.2.2.2.2.2.2.2.2.1
theorem k0_off465_inb : ∀ (v1 : BitVec 32) (k0_hw1 : k0_chk1 v1), ∀ a, (k0_off465 v1) a + S1x1.size a ≤ S64x176.size a := fun v1 k0_hw1 => k0_hw1.2.2.2.2.2.2.2.2.2.2.2.2.2.2.1.2.2.2.2.2.2.2.2.2.2.2.2.2.2.2.1
theorem k0_off466_inb : ∀ (v1 : BitVec 32) (k0_hw1 : k0_chk1 v1), ∀ a, (k0_off466 v1) a + S1x1.size a ≤ S64x176.size a := fun v1 k0_hw1 => k0_hw1.2.2.2.2.2.2.2.2.2.2.2.2.2.2.1.2.2.2.2.2.2.2.2.2.2.2.2.2.2.2.2.1
theorem k0_off467_inb : ∀ (v1 : BitVec 32) (k0_hw1 : k0_chk1 v1), ∀ a, (k0_off467 v1) a + S1x1.size a ≤ S64x176.size a := fun v1 k0_hw1 => k0_hw1.2.2.2.2.2.2.2.2.2.2.2.2.2.2.1.2.2.2.2.2.2.2.2.2.2.2.2.2.2.2.2.2.1
theorem k0_off468_inb : ∀ (v1 : BitVec 32) (k0_hw1 : k0_chk1 v1), ∀ a, (k0_off468 v1) a + S1x1.size a ≤ S64x176.size a := fun v1 k0_hw1 => k0_hw1.2.2.2.2.2.2.2.2.2.2.2.2.2.2.1.2.2.2.2.2.2.2.2.2.2.2.2.2.2.2.2.2.2.1
theorem k0_off469_inb : ∀ (v1 : BitVec 32) (k0_hw1 : k0_chk1 v1), ∀ a, (k0_off469 v1) a + S1x1.size a ≤ S64x176.size a := fun v1 k0_hw1 => k0_hw1.2.2.2.2.2.2.2.2.2.2.2.2.2.2.1.2.2.2.2.2.2.2.2.2.2.2.2.2.2.2.2.2.2.2.1
theorem k0_off470_inb : ∀ (v1 : BitVec 32) (k0_hw1 : k0_chk1 v1), ∀ a, (k0_off470 v1) a + S1x1.size a ≤ S64x176.size a := fun v1 k0_hw1 => k0_hw1.2.2.2.2.2.2.2.2.2.2.2.2.2.2.1.2.2.2.2.2.2.2.2.2.2.2.2.2.2.2.2.2.2.2.2.1
theorem k0_off471_inb : ∀ (v1 : BitVec 32) (k0_hw1 : k0_chk1 v1), ∀ a, (k0_off471 v1) a + S1x1.size a ≤ S64x176.size a := fun v1 k0_hw1 => k0_hw1.2.2.2.2.2.2.2.2.2.2.2.2.2.2.1.2.2.2.2.2.2.2.2.2.2.2.2.2.2.2.2.2.2.2.2.2.1
theorem k0_off472_inb : ∀ (v1 : BitVec 32) (k0_hw1 : k0_chk1 v1), ∀ a, (k0_off472 v1) a + S1x1.size a ≤ S64x176.size a := fun v1 k0_hw1 => k0_hw1.2.2.2.2.2.2.2.2.2.2.2.2.2.2.1.2.2.2.2.2.2.2.2.2.2.2.2.2.2.2.2.2.2.2.2.2.2.1
theorem k0_off473_inb : ∀ (v1 : BitVec 32) (k0_hw1 : k0_chk1 v1), ∀ a, (k0_off473 v1) a + S1x1.size a ≤ S64x176.size a := fun v1 k0_hw1 => k0_hw1.2.2.2.2.2.2.2.2.2.2.2.2.2.2.1.2.2.2.2.2.2.2.2.2.2.2.2.2.2.2.2.2.2.2.2.2.2.2.1
theorem k0_off474_inb : ∀ (v1 : BitVec 32) (k0_hw1 : k0_chk1 v1), ∀ a, (k0_off474 v1) a + S1x1.size a ≤ S64x176.size a := fun v1 k0_hw1 => k0_hw1.2.2.2.2.2.2.2.2.2.2.2.2.2.2.1.2.2.2.2.2.2.2.2.2.2.2.2.2.2.2.2.2.2.2.2.2.2.2.2.1
theorem k0_off475_inb : ∀ (v1 : BitVec 32) (k0_hw1 : k0_chk1 v1), ∀ a, (k0_off475 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.1
theorem k0_off476_inb : ∀ (v1 : BitVec 32) (k0_hw1 : k0_chk1 v1), ∀ a, (k0_off476 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.1
theorem k0_off477_inb : ∀ (v1 : BitVec 32) (k0_hw1 : k0_chk1 v1), ∀ a, (k0_off477 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.2.1
theorem k0_off478_inb : ∀ (v1 : BitVec 32) (k0_hw1 : k0_chk1 v1), ∀ a, (k0_off478 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.2.2.1
theorem k0_off479_inb : ∀ (v1 : BitVec 32) (k0_hw1 : k0_chk1 v1), ∀ a, (k0_off479 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.2.2.2.1
theorem k0_off480_inb : ∀ (v1 : BitVec 32) (k0_hw1 : k0_chk1 v1), ∀ a, (k0_off480 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.2.2.2.2.1
theorem k0_off481_inb : ∀ (v1 : BitVec 32) (k0_hw1 : k0_chk1 v1), ∀ a, (k0_off481 v1) a + S1x1.size a ≤ S64x176.size a := fun v1 k0_hw1 => k0_hw1.2.2.2.2.2.2.2.2.2.2.2.2.2.2.1.2.2.2.2.2.2.2.2.2.2.2.2.2.2.2.2.2.2.2.2.2.2.2.2.2.2.2.2.2.2.2
theorem k0_off482_inb : ∀ (v1 : BitVec 32) (k0_hw1 : k0_chk1 v1), ∀ a, (k0_off482 v1) a + S1x1.size a ≤ S64x176.size a := fun v1 k0_hw1 => k0_hw1.2.2.2.2.2.2.2.2.2.2.2.2.2.2.2.1.1
theorem k0_off483_inb : ∀ (v1 : BitVec 32) (k0_hw1 : k0_chk1 v1), ∀ a, (k0_off483 v1) a + S1x1.size a ≤ S64x176.size a := fun v1 k0_hw1 => k0_hw1.2.2.2.2.2.2.2.2.2.2.2.2.2.2.2.1.2.1
theorem k0_off484_inb : ∀ (v1 : BitVec 32) (k0_hw1 : k0_chk1 v1), ∀ a, (k0_off484 v1) a + S1x1.size a ≤ S64x176.size a := fun v1 k0_hw1 => k0_hw1.2.2.2.2.2.2.2.2.2.2.2.2.2.2.2.1.2.2.1
theorem k0_off485_inb : ∀ (v1 : BitVec 32) (k0_hw1 : k0_chk1 v1), ∀ a, (k0_off485 v1) a + S1x1.size a ≤ S64x176.size a := fun v1 k0_hw1 => k0_hw1.2.2.2.2.2.2.2.2.2.2.2.2.2.2.2.1.2.2.2.1
theorem k0_off486_inb : ∀ (v1 : BitVec 32) (k0_hw1 : k0_chk1 v1), ∀ a, (k0_off486 v1) a + S1x1.size a ≤ S64x176.size a := fun v1 k0_hw1 => k0_hw1.2.2.2.2.2.2.2.2.2.2.2.2.2.2.2.1.2.2.2.2.1
theorem k0_off487_inb : ∀ (v1 : BitVec 32) (k0_hw1 : k0_chk1 v1), ∀ a, (k0_off487 v1) a + S1x1.size a ≤ S64x176.size a := fun v1 k0_hw1 => k0_hw1.2.2.2.2.2.2.2.2.2.2.2.2.2.2.2.1.2.2.2.2.2.1
theorem k0_off488_inb : ∀ (v1 : BitVec 32) (k0_hw1 : k0_chk1 v1), ∀ a, (k0_off488 v1) a + S1x1.size a ≤ S64x176.size a := fun v1 k0_hw1 => k0_hw1.2.2.2.2.2.2.2.2.2.2.2.2.2.2.2.1.2.2.2.2.2.2.1
theorem k0_off489_inb : ∀ (v1 : BitVec 32) (k0_hw1 : k0_chk1 v1), ∀ a, (k0_off489 v1) a + S1x1.size a ≤ S64x176.size a := fun v1 k0_hw1 => k0_hw1.2.2.2.2.2.2.2.2.2.2.2.2.2.2.2.1.2.2.2.2.2.2.2.1
theorem k0_off490_inb : ∀ (v1 : BitVec 32) (k0_hw1 : k0_chk1 v1), ∀ a, (k0_off490 v1) a + S1x1.size a ≤ S64x176.size a := fun v1 k0_hw1 => k0_hw1.2.2.2.2.2.2.2.2.2.2.2.2.2.2.2.1.2.2.2.2.2.2.2.2.1
theorem k0_off491_inb : ∀ (v1 : BitVec 32) (k0_hw1 : k0_chk1 v1), ∀ a, (k0_off491 v1) a + S1x1.size a ≤ S64x176.size a := fun v1 k0_hw1 => k0_hw1.2.2.2.2.2.2.2.2.2.2.2.2.2.2.2.1.2.2.2.2.2.2.2.2.2.1
theorem k0_off492_inb : ∀ (v1 : BitVec 32) (k0_hw1 : k0_chk1 v1), ∀ a, (k0_off492 v1) a + S1x1.size a ≤ S64x176.size a := fun v1 k0_hw1 => k0_hw1.2.2.2.2.2.2.2.2.2.2.2.2.2.2.2.1.2.2.2.2.2.2.2.2.2.2.1
theorem k0_off493_inb : ∀ (v1 : BitVec 32) (k0_hw1 : k0_chk1 v1), ∀ a, (k0_off493 v1) a + S1x1.size a ≤ S64x176.size a := fun v1 k0_hw1 => k0_hw1.2.2.2.2.2.2.2.2.2.2.2.2.2.2.2.1.2.2.2.2.2.2.2.2.2.2.2.1
theorem k0_off494_inb : ∀ (v1 : BitVec 32) (k0_hw1 : k0_chk1 v1), ∀ a, (k0_off494 v1) a + S1x1.size a ≤ S64x176.size a := fun v1 k0_hw1 => k0_hw1.2.2.2.2.2.2.2.2.2.2.2.2.2.2.2.1.2.2.2.2.2.2.2.2.2.2.2.2.1
theorem k0_off495_inb : ∀ (v1 : BitVec 32) (k0_hw1 : k0_chk1 v1), ∀ a, (k0_off495 v1) a + S1x1.size a ≤ S64x176.size a := fun v1 k0_hw1 => k0_hw1.2.2.2.2.2.2.2.2.2.2.2.2.2.2.2.1.2.2.2.2.2.2.2.2.2.2.2.2.2.1
theorem k0_off496_inb : ∀ (v1 : BitVec 32) (k0_hw1 : k0_chk1 v1), ∀ a, (k0_off496 v1) a + S1x1.size a ≤ S64x176.size a := fun v1 k0_hw1 => k0_hw1.2.2.2.2.2.2.2.2.2.2.2.2.2.2.2.1.2.2.2.2.2.2.2.2.2.2.2.2.2.2.1
theorem k0_off497_inb : ∀ (v1 : BitVec 32) (k0_hw1 : k0_chk1 v1), ∀ a, (k0_off497 v1) a + S1x1.size a ≤ S64x176.size a := fun v1 k0_hw1 => k0_hw1.2.2.2.2.2.2.2.2.2.2.2.2.2.2.2.1.2.2.2.2.2.2.2.2.2.2.2.2.2.2.2.1
theorem k0_off498_inb : ∀ (v1 : BitVec 32) (k0_hw1 : k0_chk1 v1), ∀ a, (k0_off498 v1) a + S1x1.size a ≤ S64x176.size a := fun v1 k0_hw1 => k0_hw1.2.2.2.2.2.2.2.2.2.2.2.2.2.2.2.1.2.2.2.2.2.2.2.2.2.2.2.2.2.2.2.2.1
theorem k0_off499_inb : ∀ (v1 : BitVec 32) (k0_hw1 : k0_chk1 v1), ∀ a, (k0_off499 v1) a + S1x1.size a ≤ S64x176.size a := fun v1 k0_hw1 => k0_hw1.2.2.2.2.2.2.2.2.2.2.2.2.2.2.2.1.2.2.2.2.2.2.2.2.2.2.2.2.2.2.2.2.2.1
theorem k0_off500_inb : ∀ (v1 : BitVec 32) (k0_hw1 : k0_chk1 v1), ∀ a, (k0_off500 v1) a + S1x1.size a ≤ S64x176.size a := fun v1 k0_hw1 => k0_hw1.2.2.2.2.2.2.2.2.2.2.2.2.2.2.2.1.2.2.2.2.2.2.2.2.2.2.2.2.2.2.2.2.2.2.1
theorem k0_off501_inb : ∀ (v1 : BitVec 32) (k0_hw1 : k0_chk1 v1), ∀ a, (k0_off501 v1) a + S1x1.size a ≤ S64x176.size a := fun v1 k0_hw1 => k0_hw1.2.2.2.2.2.2.2.2.2.2.2.2.2.2.2.1.2.2.2.2.2.2.2.2.2.2.2.2.2.2.2.2.2.2.2.1
theorem k0_off502_inb : ∀ (v1 : BitVec 32) (k0_hw1 : k0_chk1 v1), ∀ a, (k0_off502 v1) a + S1x1.size a ≤ S64x176.size a := fun v1 k0_hw1 => k0_hw1.2.2.2.2.2.2.2.2.2.2.2.2.2.2.2.1.2.2.2.2.2.2.2.2.2.2.2.2.2.2.2.2.2.2.2.2.1
theorem k0_off503_inb : ∀ (v1 : BitVec 32) (k0_hw1 : k0_chk1 v1), ∀ a, (k0_off503 v1) a + S1x1.size a ≤ S64x176.size a := fun v1 k0_hw1 => k0_hw1.2.2.2.2.2.2.2.2.2.2.2.2.2.2.2.1.2.2.2.2.2.2.2.2.2.2.2.2.2.2.2.2.2.2.2.2.2.1
theorem k0_off504_inb : ∀ (v1 : BitVec 32) (k0_hw1 : k0_chk1 v1), ∀ a, (k0_off504 v1) a + S1x1.size a ≤ S64x176.size a := fun v1 k0_hw1 => k0_hw1.2.2.2.2.2.2.2.2.2.2.2.2.2.2.2.1.2.2.2.2.2.2.2.2.2.2.2.2.2.2.2.2.2.2.2.2.2.2.1
theorem k0_off505_inb : ∀ (v1 : BitVec 32) (k0_hw1 : k0_chk1 v1), ∀ a, (k0_off505 v1) a + S1x1.size a ≤ S64x176.size a := fun v1 k0_hw1 => k0_hw1.2.2.2.2.2.2.2.2.2.2.2.2.2.2.2.1.2.2.2.2.2.2.2.2.2.2.2.2.2.2.2.2.2.2.2.2.2.2.2.1
theorem k0_off506_inb : ∀ (v1 : BitVec 32) (k0_hw1 : k0_chk1 v1), ∀ a, (k0_off506 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.1
theorem k0_off507_inb : ∀ (v1 : BitVec 32) (k0_hw1 : k0_chk1 v1), ∀ a, (k0_off507 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.1
theorem k0_off508_inb : ∀ (v1 : BitVec 32) (k0_hw1 : k0_chk1 v1), ∀ a, (k0_off508 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.1
theorem k0_off509_inb : ∀ (v1 : BitVec 32) (k0_hw1 : k0_chk1 v1), ∀ a, (k0_off509 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.2.1
theorem k0_off510_inb : ∀ (v1 : BitVec 32) (k0_hw1 : k0_chk1 v1), ∀ a, (k0_off510 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.2.2.1
theorem k0_off511_inb : ∀ (v1 : BitVec 32) (k0_hw1 : k0_chk1 v1), ∀ a, (k0_off511 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.2.2.2.1
theorem k0_off512_inb : ∀ (v1 : BitVec 32) (k0_hw1 : k0_chk1 v1), ∀ a, (k0_off512 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.2.2.2.2.1
theorem k0_off513_inb : ∀ (v1 : BitVec 32) (k0_hw1 : k0_chk1 v1), ∀ a, (k0_off513 v1) a + S1x1.size a ≤ S64x176.size a := fun v1 k0_hw1 => k0_hw1.2.2.2.2.2.2.2.2.2.2.2.2.2.2.2.1.2.2.2.2.2.2.2.2.2.2.2.2.2.2.2.2.2.2.2.2.2.2.2.2.2.2.2.2.2.2.2
theorem k0_off514_inb : ∀ (v1 : BitVec 32) (k0_hw1 : k0_chk1 v1), ∀ a, (k0_off514 v1) a + S1x1.size a ≤ S64x176.size a := fun v1 k0_hw1 => k0_hw1.2.2.2.2.2.2.2.2.2.2.2.2.2.2.2.2.1
theorem k0_off515_inb : ∀ (v1 : BitVec 32) (k0_hw1 : k0_chk1 v1), ∀ a, (k0_off515 v1) a + S1x1.size a ≤ S64x176.size a := fun v1 k0_hw1 => k0_hw1.2.2.2.2.2.2.2.2.2.2.2.2.2.2.2.2.2.1
theorem k0_off516_inb : ∀ (v1 : BitVec 32) (k0_hw1 : k0_chk1 v1), ∀ a, (k0_off516 v1) a + S1x1.size a ≤ S64x176.size a := fun v1 k0_hw1 => k0_hw1.2.2.2.2.2.2.2.2.2.2.2.2.2.2.2.2.2.2.1
theorem k0_off517_inb : ∀ (v1 : BitVec 32) (k0_hw1 : k0_chk1 v1), ∀ a, (k0_off517 v1) a + S1x1.size a ≤ S64x176.size a := fun v1 k0_hw1 => k0_hw1.2.2.2.2.2.2.2.2.2.2.2.2.2.2.2.2.2.2.2.1
theorem k0_off518_inb : ∀ (v1 : BitVec 32) (k0_hw1 : k0_chk1 v1), ∀ a, (k0_off518 v1) a + S1x1.size a ≤ S64x176.size a := fun v1 k0_hw1 => k0_hw1.2.2.2.2.2.2.2.2.2.2.2.2.2.2.2.2.2.2.2.2.1
theorem k0_off519_inb : ∀ (v1 : BitVec 32) (k0_hw1 : k0_chk1 v1), ∀ a, (k0_off519 v1) a + S1x1.size a ≤ S64x176.size a := fun v1 k0_hw1 => k0_hw1.2.2.2.2.2.2.2.2.2.2.2.2.2.2.2.2.2.2.2.2.2.1
theorem k0_off520_inb : ∀ (v1 : BitVec 32) (k0_hw1 : k0_chk1 v1), ∀ a, (k0_off520 v1) a + S1x1.size a ≤ S64x176.size a := fun v1 k0_hw1 => k0_hw1.2.2.2.2.2.2.2.2.2.2.2.2.2.2.2.2.2.2.2.2.2.2.1
theorem k0_off521_inb : ∀ (v1 : BitVec 32) (k0_hw1 : k0_chk1 v1), ∀ a, (k0_off521 v1) a + S1x1.size a ≤ S64x176.size a := fun v1 k0_hw1 => k0_hw1.2.2.2.2.2.2.2.2.2.2.2.2.2.2.2.2.2.2.2.2.2.2.2.1
theorem k0_off522_inb : ∀ (v1 : BitVec 32) (k0_hw1 : k0_chk1 v1), ∀ a, (k0_off522 v1) a + S1x1.size a ≤ S64x176.size a := fun v1 k0_hw1 => k0_hw1.2.2.2.2.2.2.2.2.2.2.2.2.2.2.2.2.2.2.2.2.2.2.2.2.1
theorem k0_off523_inb : ∀ (v1 : BitVec 32) (k0_hw1 : k0_chk1 v1), ∀ a, (k0_off523 v1) a + S1x1.size a ≤ S64x176.size a := fun v1 k0_hw1 => k0_hw1.2.2.2.2.2.2.2.2.2.2.2.2.2.2.2.2.2.2.2.2.2.2.2.2.2.1
theorem k0_off524_inb : ∀ (v1 : BitVec 32) (k0_hw1 : k0_chk1 v1), ∀ a, (k0_off524 v1) a + S1x1.size a ≤ S64x176.size a := fun v1 k0_hw1 => k0_hw1.2.2.2.2.2.2.2.2.2.2.2.2.2.2.2.2.2.2.2.2.2.2.2.2.2.2.1
theorem k0_off525_inb : ∀ (v1 : BitVec 32) (k0_hw1 : k0_chk1 v1), ∀ a, (k0_off525 v1) a + S1x1.size a ≤ S64x176.size a := fun v1 k0_hw1 => k0_hw1.2.2.2.2.2.2.2.2.2.2.2.2.2.2.2.2.2.2.2.2.2.2.2.2.2.2.2.1
theorem k0_off526_inb : ∀ (v1 : BitVec 32) (k0_hw1 : k0_chk1 v1), ∀ a, (k0_off526 v1) a + S1x1.size a ≤ S64x176.size a := fun v1 k0_hw1 => k0_hw1.2.2.2.2.2.2.2.2.2.2.2.2.2.2.2.2.2.2.2.2.2.2.2.2.2.2.2.2.1
theorem k0_off527_inb : ∀ (v1 : BitVec 32) (k0_hw1 : k0_chk1 v1), ∀ a, (k0_off527 v1) a + S1x1.size a ≤ S64x176.size a := fun v1 k0_hw1 => k0_hw1.2.2.2.2.2.2.2.2.2.2.2.2.2.2.2.2.2.2.2.2.2.2.2.2.2.2.2.2.2.1
theorem k0_off528_inb : ∀ (v1 : BitVec 32) (k0_hw1 : k0_chk1 v1), ∀ a, (k0_off528 v1) a + S1x1.size a ≤ S64x176.size a := fun v1 k0_hw1 => k0_hw1.2.2.2.2.2.2.2.2.2.2.2.2.2.2.2.2.2.2.2.2.2.2.2.2.2.2.2.2.2.2.1
theorem k0_off529_inb : ∀ (v1 : BitVec 32) (k0_hw1 : k0_chk1 v1), ∀ a, (k0_off529 v1) a + S1x1.size a ≤ S64x176.size a := fun v1 k0_hw1 => k0_hw1.2.2.2.2.2.2.2.2.2.2.2.2.2.2.2.2.2.2.2.2.2.2.2.2.2.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![c0_i32.toNat, v1.toNat]

def cc0_transform_5 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  ![c0_i32.toNat, v2.toNat]

def cc0_transform_6 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64x176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1408 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1408x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x11 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S11264x2048 : Shape := ⟨2, ![11264, 2048]⟩
abbrev S11264x16 : Shape := ⟨2, ![11264, 16]⟩
abbrev S2048x180224 : Shape := ⟨2, ![2048, 180224]⟩
abbrev S16x1408 : Shape := ⟨2, ![16, 1408]⟩
abbrev S90112x2048 : Shape := ⟨2, ![90112, 2048]⟩
abbrev S704x16 : Shape := ⟨2, ![704, 16]⟩
abbrev S88x11 : Shape := ⟨2, ![88, 11]⟩
abbrev S88x1 : Shape := ⟨2, ![88, 1]⟩
abbrev S88 : Shape := ⟨1, ![88]⟩
abbrev S16x704 : Shape := ⟨2, ![16, 704]⟩
abbrev S88x128x2048 : Shape := ⟨3, ![88, 128, 2048]⟩
abbrev S11264x16x128 : Shape := ⟨3, ![11264, 16, 128]⟩
abbrev S2048x90112 : Shape := ⟨2, ![2048, 90112]⟩
abbrev S_ : Shape := ⟨0, ![]⟩
abbrev S88x2 : Shape := ⟨2, ![88, 2]⟩
abbrev S88x2048x1408 : Shape := ⟨3, ![88, 2048, 1408]⟩
abbrev S88x16x11 : Shape := ⟨3, ![88, 16, 11]⟩
abbrev S88x16x128x11 : Shape := ⟨4, ![88, 16, 128, 11]⟩
abbrev S88x2048x11 : Shape := ⟨3, ![88, 2048, 11]⟩
abbrev S88x2048x11x128 : Shape := ⟨4, ![88, 2048, 11, 128]⟩
abbrev S88x1408x2048 : Shape := ⟨3, ![88, 1408, 2048]⟩
abbrev S88x11x16 : Shape := ⟨3, ![88, 11, 16]⟩
abbrev S88x11x128x16 : Shape := ⟨4, ![88, 11, 128, 16]⟩
abbrev S88x1408x16 : Shape := ⟨3, ![88, 1408, 16]⟩
abbrev S88x1408x16x128 : Shape := ⟨4, ![88, 1408, 16, 128]⟩
abbrev S88x128x1408 : Shape := ⟨3, ![88, 128, 1408]⟩
abbrev S88x128x11 : Shape := ⟨3, ![88, 128, 11]⟩
abbrev S88x128x11x128 : Shape := ⟨4, ![88, 128, 11, 128]⟩
abbrev S88x128x11x1 : Shape := ⟨4, ![88, 128, 11, 1]⟩
abbrev S11264x1408 : Shape := ⟨2, ![11264, 1408]⟩
abbrev S11264x11 : Shape := ⟨2, ![11264, 11]⟩

abbrev nBuf : Space → Nat
  | .hbm => 120
  | .vmem => 11
  | .smem => 0
  | _ => 0

abbrev bufTy : (tb : Table) → Fin (tcTables nBuf tb) → BufTy
  | .hbm, ⟨0, _⟩ => ⟨S11264x2048, .fp8e4m3⟩
  | .hbm, ⟨1, _⟩ => ⟨S11264x16, .f32⟩
  | .hbm, ⟨2, _⟩ => ⟨S2048x180224, .fp8e4m3⟩
  | .hbm, ⟨3, _⟩ => ⟨S16x1408, .f32⟩
  | .hbm, ⟨4, _⟩ => ⟨S90112x2048, .fp8e4m3⟩
  | .hbm, ⟨5, _⟩ => ⟨S704x16, .f32⟩
  | .hbm, ⟨6, _⟩ => ⟨S88x11, .i32⟩
  | .hbm, ⟨7, _⟩ => ⟨S88x1, .i32⟩
  | .hbm, ⟨8, _⟩ => ⟨S88, .i32⟩
  | .hbm, ⟨9, _⟩ => ⟨S16x704, .f32⟩
  | .hbm, ⟨10, _⟩ => ⟨S16x704, .f32⟩
  | .hbm, ⟨11, _⟩ => ⟨S88x128x2048, .fp8e4m3⟩
  | .hbm, ⟨12, _⟩ => ⟨S11264x16, .bf16⟩
  | .hbm, ⟨13, _⟩ => ⟨S11264x16x128, .bf16⟩
  | .hbm, ⟨14, _⟩ => ⟨S11264x2048, .bf16⟩
  | .hbm, ⟨15, _⟩ => ⟨S88x128x2048, .bf16⟩
  | .hbm, ⟨16, _⟩ => ⟨S2048x90112, .fp8e4m3⟩
  | .hbm, ⟨17, _⟩ => ⟨S_, .i32⟩
  | .hbm, ⟨18, _⟩ => ⟨S88, .i32⟩
  | .hbm, ⟨19, _⟩ => ⟨S88, .i32⟩
  | .hbm, ⟨20, _⟩ => ⟨S_, .i32⟩
  | .hbm, ⟨21, _⟩ => ⟨S88, .i32⟩
  | .hbm, ⟨22, _⟩ => ⟨S88, .i1⟩
  | .hbm, ⟨23, _⟩ => ⟨S_, .i32⟩
  | .hbm, ⟨24, _⟩ => ⟨S88, .i32⟩
  | .hbm, ⟨25, _⟩ => ⟨S88, .i32⟩
  | .hbm, ⟨26, _⟩ => ⟨S88, .i32⟩
  | .hbm, ⟨27, _⟩ => ⟨S_, .i32⟩
  | .hbm, ⟨28, _⟩ => ⟨S88x1, .i32⟩
  | .hbm, ⟨29, _⟩ => ⟨S88x1, .i32⟩
  | .hbm, ⟨30, _⟩ => ⟨S88x2, .i32⟩
  | .hbm, ⟨31, _⟩ => ⟨S88x2048x1408, .fp8e4m3⟩
  | .hbm, ⟨32, _⟩ => ⟨S_, .i32⟩
  | .hbm, ⟨33, _⟩ => ⟨S88, .i32⟩
  | .hbm, ⟨34, _⟩ => ⟨S88, .i1⟩
  | .hbm, ⟨35, _⟩ => ⟨S_, .i32⟩
  | .hbm, ⟨36, _⟩ => ⟨S88, .i32⟩
  | .hbm, ⟨37, _⟩ => ⟨S88, .i32⟩
  | .hbm, ⟨38, _⟩ => ⟨S88, .i32⟩
  | .hbm, ⟨39, _⟩ => ⟨S_, .i32⟩
  | .hbm, ⟨40, _⟩ => ⟨S88x1, .i32⟩
  | .hbm, ⟨41, _⟩ => ⟨S88x1, .i32⟩
  | .hbm, ⟨42, _⟩ => ⟨S88x2, .i32⟩
  | .hbm, ⟨43, _⟩ => ⟨S88x16x11, .f32⟩
  | .hbm, ⟨44, _⟩ => ⟨S88x16x11, .bf16⟩
  | .hbm, ⟨45, _⟩ => ⟨S88x16x128x11, .bf16⟩
  | .hbm, ⟨46, _⟩ => ⟨S88x2048x11, .bf16⟩
  | .hbm, ⟨47, _⟩ => ⟨S88x2048x11x128, .bf16⟩
  | .hbm, ⟨48, _⟩ => ⟨S88x2048x1408, .bf16⟩
  | .hbm, ⟨49, _⟩ => ⟨S2048x90112, .fp8e4m3⟩
  | .hbm, ⟨50, _⟩ => ⟨S_, .i32⟩
  | .hbm, ⟨51, _⟩ => ⟨S88, .i32⟩
  | .hbm, ⟨52, _⟩ => ⟨S88, .i32⟩
  | .hbm, ⟨53, _⟩ => ⟨S_, .i32⟩
  | .hbm, ⟨54, _⟩ => ⟨S88, .i32⟩
  | .hbm, ⟨55, _⟩ => ⟨S88, .i1⟩
  | .hbm, ⟨56, _⟩ => ⟨S_, .i32⟩
  | .hbm, ⟨57, _⟩ => ⟨S88, .i32⟩
  | .hbm, ⟨58, _⟩ => ⟨S88, .i32⟩
  | .hbm, ⟨59, _⟩ => ⟨S88, .i32⟩
  | .hbm, ⟨60, _⟩ => ⟨S_, .i32⟩
  | .hbm, ⟨61, _⟩ => ⟨S88x1, .i32⟩
  | .hbm, ⟨62, _⟩ => ⟨S88x1, .i32⟩
  | .hbm, ⟨63, _⟩ => ⟨S88x2, .i32⟩
  | .hbm, ⟨64, _⟩ => ⟨S88x2048x1408, .fp8e4m3⟩
  | .hbm, ⟨65, _⟩ => ⟨S_, .i32⟩
  | .hbm, ⟨66, _⟩ => ⟨S88, .i32⟩
  | .hbm, ⟨67, _⟩ => ⟨S88, .i1⟩
  | .hbm, ⟨68, _⟩ => ⟨S_, .i32⟩
  | .hbm, ⟨69, _⟩ => ⟨S88, .i32⟩
  | .hbm, ⟨70, _⟩ => ⟨S88, .i32⟩
  | .hbm, ⟨71, _⟩ => ⟨S88, .i32⟩
  | .hbm, ⟨72, _⟩ => ⟨S_, .i32⟩
  | .hbm, ⟨73, _⟩ => ⟨S88x1, .i32⟩
  | .hbm, ⟨74, _⟩ => ⟨S88x1, .i32⟩
  | .hbm, ⟨75, _⟩ => ⟨S88x2, .i32⟩
  | .hbm, ⟨76, _⟩ => ⟨S88x16x11, .f32⟩
  | .hbm, ⟨77, _⟩ => ⟨S88x16x11, .bf16⟩
  | .hbm, ⟨78, _⟩ => ⟨S88x16x128x11, .bf16⟩
  | .hbm, ⟨79, _⟩ => ⟨S88x2048x11, .bf16⟩
  | .hbm, ⟨80, _⟩ => ⟨S88x2048x11x128, .bf16⟩
  | .hbm, ⟨81, _⟩ => ⟨S88x2048x1408, .bf16⟩
  | .hbm, ⟨82, _⟩ => ⟨S_, .i32⟩
  | .hbm, ⟨83, _⟩ => ⟨S88, .i32⟩
  | .hbm, ⟨84, _⟩ => ⟨S88, .i32⟩
  | .hbm, ⟨85, _⟩ => ⟨S_, .i32⟩
  | .hbm, ⟨86, _⟩ => ⟨S88, .i32⟩
  | .hbm, ⟨87, _⟩ => ⟨S88, .i1⟩
  | .hbm, ⟨88, _⟩ => ⟨S_, .i32⟩
  | .hbm, ⟨89, _⟩ => ⟨S88, .i32⟩
  | .hbm, ⟨90, _⟩ => ⟨S88, .i32⟩
  | .hbm, ⟨91, _⟩ => ⟨S88, .i32⟩
  | .hbm, ⟨92, _⟩ => ⟨S88x1, .i32⟩
  | .hbm, ⟨93, _⟩ => ⟨S_, .i32⟩
  | .hbm, ⟨94, _⟩ => ⟨S88x1, .i32⟩
  | .hbm, ⟨95, _⟩ => ⟨S88x2, .i32⟩
  | .hbm, ⟨96, _⟩ => ⟨S88x1408x2048, .fp8e4m3⟩
  | .hbm, ⟨97, _⟩ => ⟨S_, .i32⟩
  | .hbm, ⟨98, _⟩ => ⟨S88, .i32⟩
  | .hbm, ⟨99, _⟩ => ⟨S88, .i1⟩
  | .hbm, ⟨100, _⟩ => ⟨S_, .i32⟩
  | .hbm, ⟨101, _⟩ => ⟨S88, .i32⟩
  | .hbm, ⟨102, _⟩ => ⟨S88, .i32⟩
  | .hbm, ⟨103, _⟩ => ⟨S88, .i32⟩
  | .hbm, ⟨104, _⟩ => ⟨S88x1, .i32⟩
  | .hbm, ⟨105, _⟩ => ⟨S_, .i32⟩
  | .hbm, ⟨106, _⟩ => ⟨S88x1, .i32⟩
  | .hbm, ⟨107, _⟩ => ⟨S88x2, .i32⟩
  | .hbm, ⟨108, _⟩ => ⟨S88x11x16, .f32⟩
  | .hbm, ⟨109, _⟩ => ⟨S88x11x16, .bf16⟩
  | .hbm, ⟨110, _⟩ => ⟨S88x11x128x16, .bf16⟩
  | .hbm, ⟨111, _⟩ => ⟨S88x1408x16, .bf16⟩
  | .hbm, ⟨112, _⟩ => ⟨S88x1408x16x128, .bf16⟩
  | .hbm, ⟨113, _⟩ => ⟨S88x1408x2048, .bf16⟩
  | .hbm, ⟨114, _⟩ => ⟨S88x128x2048, .bf16⟩
  | .hbm, ⟨115, _⟩ => ⟨S88x128x1408, .fp8e4m3⟩
  | .hbm, ⟨116, _⟩ => ⟨S88x128x11, .f32⟩
  | .hbm, ⟨117, _⟩ => ⟨S11264x2048, .bf16⟩
  | .hbm, ⟨118, _⟩ => ⟨S11264x1408, .fp8e4m3⟩
  | .hbm, ⟨119, _⟩ => ⟨S11264x11, .f32⟩
  | .local _ .vmem, ⟨0, _⟩ => ⟨S88x128x2048, .fp8e4m3⟩
  | .local _ .vmem, ⟨1, _⟩ => ⟨S88x128x2048, .bf16⟩
  | .local _ .vmem, ⟨2, _⟩ => ⟨S88x2048x1408, .fp8e4m3⟩
  | .local _ .vmem, ⟨3, _⟩ => ⟨S88x2048x1408, .bf16⟩
  | .local _ .vmem, ⟨4, _⟩ => ⟨S88x2048x1408, .fp8e4m3⟩
  | .local _ .vmem, ⟨5, _⟩ => ⟨S88x2048x1408, .bf16⟩
  | .local _ .vmem, ⟨6, _⟩ => ⟨S88x1408x2048, .fp8e4m3⟩
  | .local _ .vmem, ⟨7, _⟩ => ⟨S88x1408x2048, .bf16⟩
  | .local _ .vmem, ⟨8, _⟩ => ⟨S88x128x2048, .bf16⟩
  | .local _ .vmem, ⟨9, _⟩ => ⟨S88x128x1408, .fp8e4m3⟩
  | .local _ .vmem, ⟨10, _⟩ => ⟨S88x128x11, .f32⟩
  | _, _ => ⟨S11264x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_17 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86_0 : Ref sig .tc := ⟨.hbm, 114, rfl⟩
abbrev main_v86_1 : Ref sig .tc := ⟨.hbm, 115, rfl⟩
abbrev main_v86_2 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S88x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S88x128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S88x2048x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S88x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S88x2048x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S88x2048x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S88x1408x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S88x1408x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S88x128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S88x128x1408 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S88x128x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Words.lean ====
/-
  The column indices. The precondition says that every row block's column index is `11 · q` with `q < 64`; what the
  kernel's table and its checks make of such a word is computed here once, for both readings of the kernel.
-/
module

public import proofs.«01_k».proof.Defs
public import proofs.«01_k».proof.Proof.Gen.Pre_routed
public import Idealize.ShloMosaic.Lib.StableHlo.ReadAt
public import Idealize.ShloMosaic.Lib.Claim

@[expose] public section

namespace Cert.Proof

open Idealize.ShloMosaic

/-- A word in [0, 704) as a signed number is the word of a number below 704. -/
theorem word_small (w : BitVec 32) (h0 : IntOp.cmpi .sge w 0#32 = 1#1) (h1 : IntOp.cmpi .slt w 704#32 = 1#1) :
    ∃ n : Fin 704, w = BitVec.ofNat 32 n.val := by
  have ofBool_eq_one (p : Bool) : (BitVec.ofBool p = 1#1) ↔ p = true := by cases p <;> decide
  simp only [IntOp.cmpi, ofBool_eq_one, BitVec.sle_iff_toInt_le, BitVec.slt_iff_toInt_lt] at h0 h1
  have e0 : (0#32).toInt = 0 := rfl
  have e1 : (704#32).toInt = 704 := rfl
  have hlt : w.toNat < 704 := by
    have := w.isLt
    rw [e0, BitVec.toInt_eq_toNat_cond] at h0
    rw [e1, BitVec.toInt_eq_toNat_cond] at h1
    split at h0 <;> omega
  exact ⟨⟨w.toNat, hlt⟩, by simp⟩

/-- Dividing the word of `11 · q` by 11, rounding down, gives the word of `q`: the host's chain of operations. -/
theorem floor_div_word (w : BitVec 32) (q : Fin 64) (h : w = BitVec.ofNat 32 (11 * q.val)) :
    Scalar.select
      (IntOp.andi
        (IntOp.cmpi CmpIPredicate.ne (if w = 0 then 0 else if BitVec.msb w = true then -1 else 1)
          (if (11#32 : BitVec 32) = 0 then (0 : BitVec 32) else if BitVec.msb 11#32 = true then -1 else 1))
        (IntOp.cmpi CmpIPredicate.ne (IntOp.remsi ArithUnit.host w 11#32) 0#32))
      (IntOp.subi (IntOp.divsi ArithUnit.host w 11#32) 1#32)
      (IntOp.divsi ArithUnit.host w 11#32) = BitVec.ofNat 32 q.val := by
  subst h
  revert q
  decide +kernel

/-- The predicate, all ones, read at one row block: the column index there is `11 · q` with `q < 64`. -/
theorem routed_word {F : FTy → Type} [FloatOps F] (x0 x1 x2 x3 x4 x5) (x6 : IVec Cert.Pre_routed.S88x11 32)
    (h : Cert.Pre_routed.fn (F := F) x0 x1 x2 x3 x4 x5 x6 = fun _ => 1#1) (s : Fin 88) :
    ∃ q : Fin 64, x6 (ix2 s 0) = BitVec.ofNat 32 (11 * q.val) := by
  have hs := congrFun h (ix1 s)
  unfold Cert.Pre_routed.fn Cert.Pre_routed.fn_remainder Cert.Pre_routed.fn_where at hs
  dsimp only at hs
  pointwise at hs
  have andi_one (a b : BitVec 1) : IntOp.andi a b = 1#1 ↔ a = 1#1 ∧ b = 1#1 := by revert a b; decide
  rw [andi_one, andi_one] at hs
  obtain ⟨⟨h0, h1⟩, h2⟩ := hs
  obtain ⟨n, hn⟩ := word_small _ h0 h1
  rw [hn] at h2 ⊢
  clear h0 h1 hn h
  revert n
  decide +kernel

end Cert.Proof
-- ==== Proof.PreBits.lean ====
/-
  What the precondition gives the kernel `Kernel`: its table holds `q` where the column index is `11 · q`, so that every
  block that the table selects lies in its array and every scale that the body reads lies in the scale matrix.
-/
module

public import proofs.«01_k».proof.Proof.Words
public import proofs.«01_k».proof.Proof.Gen.Kernel.Frame

@[expose] public section

set_option maxRecDepth 16384

namespace Cert.Proof.Kernel

open Cert.Kernel Cert.Kernel.Gen
open Idealize.ShloMosaic Idealize.ShloMosaic.TcCoe

variable {F : FTy → Type} [FloatOps F]
variable (m : (ℓ : Loc nD τ sig) → Buf (Elt F) ℓ)

/-- Every row block's column index is `11 · q s` with `q s < 64`. -/
def Routed (q : Fin 88 → Fin 64) : Prop :=
  ∀ s : Fin 88, (m (((0 : Dev nD) : Thread nD τ).loc main_arg6) : S88x11.Idx → BitVec 32) (ix2 s 0) = BitVec.ofNat 32 (11 * (q s).val)

variable {m} {q : Fin 88 → Fin 64}

/-- The table that the host computes holds `q s` at row block `s`. -/
theorem table_word (h : Routed m q) (s : Fin 88) : (tbl m 0 : S88.Idx → BitVec 32) (ix1 s) = BitVec.ofNat 32 (q s).val := by
  change (V m 0 main_v2 : S88.Idx → BitVec 32) (ix1 s) = _
  unfold V
  after_reads_at
  exact floor_div_word _ (q s) (h s)

/-- The element of the table that grid point `i` reads is that of row block `i`. -/
theorem table_at (h : Routed m q) (i : grid0.Coords) (hi) (h1) :
    (tbl m : pre0.Contents (Elt F)).at 0 (Rect.unit (s := S88) ![(Scalar.indexCast (BitVec.ofNat 32 (i 0).val)).toNat] S1.size hi) h1
      = BitVec.ofNat 32 (q (i 0)).val := by
  have e : ((Rect.unit (s := S88) ![(Scalar.indexCast (BitVec.ofNat 32 (i 0).val)).toNat] S1.size hi).emb
      (Shape.Idx.first (h1.symm ▸ Nat.one_pos)) : S88.Idx) = ix1 (i 0) := by
    funext a
    obtain rfl : a = 0 := Subsingleton.elim _ _
    apply Fin.ext
    have hlt : (i 0).val < 88 := (i 0).isLt
    change (BitVec.ofNat 32 (i 0).val).toNat + 1 * 0 = (i 0).val
    rw [BitVec.toNat_ofNat]
    omega
  exact (congrArg (tbl m 0 : S88.Idx → BitVec 32) e).trans (table_word h (i 0))

/-- The block of gate columns that grid point `i` reads: block `q i` of the columns. -/
theorem transform_4 (h : Routed m q) (i : grid0.Coords) :
    cc0_transform_4 k0_off1_inb numel1_S1 (tbl m) i = ![0, (q (i 0)).val] := by
  refine (congrArg (fun w : BitVec 32 => ![(0#32).toNat, w.toNat]) (table_at h i (k0_off1_inb i) numel1_S1)).trans ?_
  generalize q (i 0) = n
  revert n
  decide +kernel

/-- The block of up columns that grid point `i` reads: block `64 + q i` of the columns. -/
theorem transform_5 (h : Routed m q) (i : grid0.Coords) :
    cc0_transform_5 k0_off1_inb numel1_S1 (tbl m) i = ![0, 64 + (q (i 0)).val] := by
  refine (congrArg (fun w : BitVec 32 => ![(0#32).toNat, (Scalar.addi 64#32 w).toNat]) (table_at h i (k0_off1_inb i) numel1_S1)).trans ?_
  generalize q (i 0) = n
  revert n
  decide +kernel

/-- The block of rows of the second matrix that grid point `i` reads: block `q i`. -/
theorem transform_6 (h : Routed m q) (i : grid0.Coords) :
    cc0_transform_6 k0_off1_inb numel1_S1 (tbl m) i = ![(q (i 0)).val, 0] := by
  refine (congrArg (fun w : BitVec 32 => ![w.toNat, (0#32).toNat]) (table_at h i (k0_off1_inb i) numel1_S1)).trans ?_
  generalize q (i 0) = n
  revert n
  decide +kernel

/-- Every block that the table selects lies in its array, and its rows are whole words. -/
theorem ok_of_routed (h : Routed m q) : Ok m := by
  unfold Ok ok0
  refine ⟨fun i => ?_, fun i => ?_, fun i => ?_⟩
  · rw [transform_4 h i]
    generalize q (i 0) = n
    revert n
    decide +kernel
  · rw [transform_5 h i]
    generalize q (i 0) = n
    revert n
    decide +kernel
  · rw [transform_6 h i]
    generalize q (i 0) = n
    revert n
    decide +kernel

/-- Every scale that the body reads with the table's word lies in the scale matrix. -/
theorem chk_word : ∀ n : Fin 64, k0_chk1 (BitVec.ofNat 32 n.val) := by
  decide +kernel

/-- So the body's check holds at every grid point. -/
theorem hyps_of_routed (h : Routed m q) (hO : Ok m) : Hyps m hO := by
  refine Hyps.of fun c t => ?_
  unfold Hyps.p0
  have e : tbM0_0.view.readAt (Elt F) (Rect.unit (s := S88) (k0_off1 (grid0.coords t)) S1.size (k0_off1_inb (grid0.coords t))).toLoadRect (tbl m 0)
      (Shape.Idx.first (numel1_S1.symm ▸ Nat.one_pos)) = BitVec.ofNat 32 (q (grid0.coords t 0)).val :=
    table_at h (grid0.coords t) (k0_off1_inb (grid0.coords t)) numel1_S1
  rw [e]
  exact chk_word _

end Cert.Proof.Kernel

namespace Cert.Proof

/-- The precondition says that every row block's column index is `11 · q s` with `q s < 64`. -/
theorem routed_bits (m) (h : Cert.Pre_Kernel m) : ∃ q : Fin 88 → Fin 64, Kernel.Routed m q := by
  have h' := fun s => routed_word _ _ _ _ _ _ _ (h 0) s
  choose q hq using h'
  exact ⟨q, hq⟩

end Cert.Proof
-- ==== Proof.PreIdeal.lean ====
/-
  What the precondition gives the kernel `KernelIdeal`: its table holds `q` where the column index is `11 · q`, so that every
  block that the table selects lies in its array and every scale that the body reads lies in the scale matrix.
-/
module

public import proofs.«01_k».proof.Proof.Words
public import proofs.«01_k».proof.Proof.Gen.KernelIdeal.Frame

@[expose] public section

set_option maxRecDepth 16384

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- Every row block's column index is `11 · q s` with `q s < 64`. -/
def Routed (q : Fin 88 → Fin 64) : Prop :=
  ∀ s : Fin 88, (m (((0 : Dev nD) : Thread nD τ).loc main_arg6) : S88x11.Idx → BitVec 32) (ix2 s 0) = BitVec.ofNat 32 (11 * (q s).val)

variable {m} {q : Fin 88 → Fin 64}

/-- The table that the host computes holds `q s` at row block `s`. -/
theorem table_word (h : Routed m q) (s : Fin 88) : (tbl m 0 : S88.Idx → BitVec 32) (ix1 s) = BitVec.ofNat 32 (q s).val := by
  change (V m 0 main_v2 : S88.Idx → BitVec 32) (ix1 s) = _
  unfold V
  after_reads_at
  exact floor_div_word _ (q s) (h s)

/-- The element of the table that grid point `i` reads is that of row block `i`. -/
theorem table_at (h : Routed m q) (i : grid0.Coords) (hi) (h1) :
    (tbl m : pre0.Contents (Elt F)).at 0 (Rect.unit (s := S88) ![(Scalar.indexCast (BitVec.ofNat 32 (i 0).val)).toNat] S1.size hi) h1
      = BitVec.ofNat 32 (q (i 0)).val := by
  have e : ((Rect.unit (s := S88) ![(Scalar.indexCast (BitVec.ofNat 32 (i 0).val)).toNat] S1.size hi).emb
      (Shape.Idx.first (h1.symm ▸ Nat.one_pos)) : S88.Idx) = ix1 (i 0) := by
    funext a
    obtain rfl : a = 0 := Subsingleton.elim _ _
    apply Fin.ext
    have hlt : (i 0).val < 88 := (i 0).isLt
    change (BitVec.ofNat 32 (i 0).val).toNat + 1 * 0 = (i 0).val
    rw [BitVec.toNat_ofNat]
    omega
  exact (congrArg (tbl m 0 : S88.Idx → BitVec 32) e).trans (table_word h (i 0))

/-- The block of gate columns that grid point `i` reads: block `q i` of the columns. -/
theorem transform_4 (h : Routed m q) (i : grid0.Coords) :
    cc0_transform_4 k0_off1_inb numel1_S1 (tbl m) i = ![0, (q (i 0)).val] := by
  refine (congrArg (fun w : BitVec 32 => ![(0#32).toNat, w.toNat]) (table_at h i (k0_off1_inb i) numel1_S1)).trans ?_
  generalize q (i 0) = n
  revert n
  decide +kernel

/-- The block of up columns that grid point `i` reads: block `64 + q i` of the columns. -/
theorem transform_5 (h : Routed m q) (i : grid0.Coords) :
    cc0_transform_5 k0_off1_inb numel1_S1 (tbl m) i = ![0, 64 + (q (i 0)).val] := by
  refine (congrArg (fun w : BitVec 32 => ![(0#32).toNat, (Scalar.addi 64#32 w).toNat]) (table_at h i (k0_off1_inb i) numel1_S1)).trans ?_
  generalize q (i 0) = n
  revert n
  decide +kernel

/-- The block of rows of the second matrix that grid point `i` reads: block `q i`. -/
theorem transform_6 (h : Routed m q) (i : grid0.Coords) :
    cc0_transform_6 k0_off1_inb numel1_S1 (tbl m) i = ![(q (i 0)).val, 0] := by
  refine (congrArg (fun w : BitVec 32 => ![w.toNat, (0#32).toNat]) (table_at h i (k0_off1_inb i) numel1_S1)).trans ?_
  generalize q (i 0) = n
  revert n
  decide +kernel

/-- Every block that the table selects lies in its array, and its rows are whole words. -/
theorem ok_of_routed (h : Routed m q) : Ok m := by
  unfold Ok ok0
  refine ⟨fun i => ?_, fun i => ?_, fun i => ?_⟩
  · rw [transform_4 h i]
    generalize q (i 0) = n
    revert n
    decide +kernel
  · rw [transform_5 h i]
    generalize q (i 0) = n
    revert n
    decide +kernel
  · rw [transform_6 h i]
    generalize q (i 0) = n
    revert n
    decide +kernel

/-- Every scale that the body reads with the table's word lies in the scale matrix. -/
theorem chk_word : ∀ n : Fin 64, k0_chk1 (BitVec.ofNat 32 n.val) := by
  decide +kernel

/-- So the body's check holds at every grid point. -/
theorem hyps_of_routed (h : Routed m q) (hO : Ok m) : Hyps m hO := by
  refine Hyps.of fun c t => ?_
  unfold Hyps.p0
  have e : tbM0_0.view.readAt (Elt F) (Rect.unit (s := S88) (k0_off1 (grid0.coords t)) S1.size (k0_off1_inb (grid0.coords t))).toLoadRect (tbl m 0)
      (Shape.Idx.first (numel1_S1.symm ▸ Nat.one_pos)) = BitVec.ofNat 32 (q (grid0.coords t 0)).val :=
    table_at h (grid0.coords t) (k0_off1_inb (grid0.coords t)) numel1_S1
  rw [e]
  exact chk_word _

end Cert.Proof.KernelIdeal

namespace Cert.Proof

/-- The precondition says that every row block's column index is `11 · q s` with `q s < 64`. -/
theorem routed_ideal (m) (h : Cert.Pre_KernelIdeal m) : ∃ q : Fin 88 → Fin 64, KernelIdeal.Routed m q := by
  have h' := fun s => routed_word _ _ _ _ _ _ _ (h 0) s
  choose q hq using h'
  exact ⟨q, hq⟩

end Cert.Proof
-- ==== Proof.Tile.lean ====
module

public import proofs.«01_k».proof.Proof.Gen.KernelIdeal.Frame

@[expose] public section

/-! The kernel's body, tile by tile, as functions of the tiles it loads: one definition per kind of
tile, for every column block and every chunk of a contraction. -/

noncomputable section

namespace Cert.Proof.Tile

open Idealize.ShloMosaic Idealize.ShloMosaic.TcCoe
open Cert.KernelIdeal Cert.KernelIdeal.Gen

variable {F : FTy → Type} [FloatOps F]

/-- A weight tile times its scale. -/
def scaled (w : Vec F S128x128 .fp8e4m3) (s : Elt F .f32) : FVec F S128x128 .bf16 :=
  mulf (extf .bf16 w bitsLt_fp8e4m3_bf16) (broadcast S128x128 (Scalar.truncf .bf16 bitsLt_bf16_f32 s))

/-- Two tiles side by side. -/
def pair (a b : FVec F S128x128 .bf16) : FVec F S128x256 .bf16 :=
  concatenate S128x256 1 [⟨S128x128, a⟩, ⟨S128x128, b⟩] concatenates_S128x128_S128x128_S128x256_d1

/-- Two rows of tiles, one below the other. -/
def stack (a b : FVec F S128x256 .bf16) : FVec F S256x256 .bf16 :=
  concatenate S256x256 0 [⟨S128x256, a⟩, ⟨S128x256, b⟩] concatenates_S128x256_S128x256_S256x256_d0

/-- One chunk of 256 of a contraction, added to what came before. -/
def dotAdd (acc : FVec F S128x256 .f32) (x : Vec F S128x256 .bf16) (w : FVec F S256x256 .bf16) : FVec F S128x256 .f32 :=
  addf acc (matmul dot_S128x256_S256x256_S128x256_1_0_0_1_n_n none x w (constant S128x256 .f32 0x00000000#32))

/-- The last chunk, of 128, of the second contraction. -/
def dotAddLast (acc : FVec F S128x256 .f32) (x : Vec F S128x128 .bf16) (w : FVec F S128x256 .bf16) : FVec F S128x256 .f32 :=
  addf acc (matmul dot_S128x128_S128x256_S128x256_1_0_0_1_n_n none x w (constant S128x256 .f32 0x00000000#32))

/-- The zeros an accumulation starts from. -/
def zeros : FVec F S128x256 .f32 := broadcast S128x256 (Scalar.ofBits .f32 0x00000000#32)

/-- The first of the two row tiles of chunk `k`. -/
def lo (k : Fin 8) : Fin 16 := ⟨2 * k.val, by omega⟩

/-- The second of the two row tiles of chunk `k`. -/
def hi (k : Fin 8) : Fin 16 := ⟨2 * k.val + 1, by omega⟩

/-- `[gate | up]` of one column block: the first product, chunk by chunk. -/
def acc (X : Fin 8 → Vec F S128x256 .bf16) (g u : Fin 16 → FVec F S128x128 .bf16) : FVec F S128x256 .f32 :=
  ([0, 1, 2, 3, 4, 5, 6, 7] : List (Fin 8)).foldl
    (fun a k => dotAdd a (X k) (stack (pair (g (lo k)) (u (lo k))) (pair (g (hi k)) (u (hi k))))) zeros

/-- The activation of one column block. -/
def act (a : FVec F S128x256 .f32) : FVec F S128x128 .f32 :=
  mulf (mulf (extractStridedSlice S128x128 ![0, 0] a slices_S128x256_o0_0_S128x128)
      (logistic (extractStridedSlice S128x128 ![0, 0] a slices_S128x256_o0_0_S128x128)))
    (extractStridedSlice S128x128 ![0, 128] a slices_S128x256_o0_128_S128x128)

/-- The shifted words `k <<< 23`. -/
def words : IVec S128x256 32 :=
  shli (iota .tc S128x256 32 [1] iota_S128x256_d1_w32) (broadcast S128x256 23#32)

/-- The exponent word of each row of a tile. -/
def word (h : FVec F S128x128 .f32) : IVec S128x1 32 :=
  shapeCast S128x1
    (multiReductionI .maxsi [1] S128
      (select (cmpf .ogt (bitcastToFloat .f32 words : FVec F S128x256 .f32)
          (broadcastTo S128x256
            (mulf (shapeCast S128x1 (multiReduction .maximumf [1] S128 (absf h) 0xFF800000#32 reduces_S128x128_S128 (.inl rfl) rfl)
                shapeCasts_S128_S128x1)
              (broadcast S128x1 (Scalar.ofBits .f32 0x3B124925#32))) broadcasts_S128x1_S128x256))
        (broadcast S128x256 0#32) words) 2147483648#32 reduces_S128x256_S128 rfl)
    shapeCasts_S128_S128x1

/-- Where the exponent word is zero. -/
def isZero (h : FVec F S128x128 .f32) : IVec S128x1 1 := cmpi .eq (word h) (broadcast S128x1 0#32)

/-- The scale of each row of a tile. -/
def scale (h : FVec F S128x128 .f32) : FVec F S128x1 .f32 :=
  bitcastToFloat .f32 (select (isZero h) (broadcast S128x1 1065353216#32) (addi (word h) (broadcast S128x1 8388608#32)))

/-- The reciprocal scale of each row of a tile. -/
def inv (h : FVec F S128x128 .f32) : FVec F S128x1 .f32 :=
  bitcastToFloat .f32 (select (isZero h) (broadcast S128x1 1065353216#32) (subi (broadcast S128x1 2122317824#32) (word h)))

/-- The codes of a tile. -/
def codes (h : FVec F S128x128 .f32) : FVec F S128x128 .fp8e4m3 :=
  truncf .fp8e4m3
    (minimumf (broadcast S128x128 (Scalar.ofBits .f32 0x43E00000#32))
      (maximumf (broadcast S128x128 (Scalar.ofBits .f32 0xC3E00000#32))
        (mulf h (broadcastTo S128x128 (inv h) broadcasts_S128x1_S128x128)))) bitsLt_fp8e4m3_f32

/-- The tile the second product reads back. -/
def back (h : FVec F S128x128 .f32) : FVec F S128x128 .bf16 :=
  shapeCast S128x128
    (mulf (extf .bf16 (codes h) bitsLt_fp8e4m3_bf16)
      (broadcastTo S128x128 (truncf .bf16 (scale h) bitsLt_bf16_f32) broadcasts_S128x1_S128x128))
    shapeCasts_S128x128_S128x128

/-- The scales of a row block: one column per column block. -/
def scales (h : Fin 11 → FVec F S128x128 .f32) : FVec F S128x11 .f32 :=
  ([0, 1, 2, 3, 4, 5, 6, 7, 8, 9, 10] : List (Fin 11)).foldl
    (fun z f => select (cmpi .eq (iota .tc S128x11 32 [1] iota_S128x11_d1_w32) (broadcast S128x11 (BitVec.ofNat 32 f.val)))
      (broadcastTo S128x11 (shapeCast S128x1 (scale (h f)) shapeCasts_S128x1_S128x1) broadcasts_S128x1_S128x11) z)
    (broadcast S128x11 (Scalar.ofBits .f32 0x00000000#32))

/-- The first of the two row tiles of chunk `k` of the second product. -/
def lo' (k : Fin 5) : Fin 11 := ⟨2 * k.val, by omega⟩

/-- The second of the two row tiles of chunk `k` of the second product. -/
def hi' (k : Fin 5) : Fin 11 := ⟨2 * k.val + 1, by omega⟩

/-- Two column blocks of the second product. -/
def outTile (Y : Fin 5 → Vec F S128x256 .bf16) (Z : Vec F S128x128 .bf16) (a b : Fin 11 → FVec F S128x128 .bf16) :
    FVec F S128x256 .bf16 :=
  truncf .bf16
    (dotAddLast
      (([0, 1, 2, 3, 4] : List (Fin 5)).foldl
        (fun z k => dotAdd z (Y k) (stack (pair (a (lo' k)) (b (lo' k))) (pair (a (hi' k)) (b (hi' k))))) zeros)
      Z (pair (a 10) (b 10))) bitsLt_bf16_f32

theorem xinb (k : Fin 16) : ∀ a, (![0, 128 * k.val] : Fin 2 → ℕ) a + S128x128.size a ≤ S128x2048.size a := by
  revert k; decide
theorem xinb2 (k : Fin 8) : ∀ a, (![0, 256 * k.val] : Fin 2 → ℕ) a + S128x256.size a ≤ S128x2048.size a := by
  revert k; decide
theorem winb (k : Fin 16) (f : Fin 11) :
    ∀ a, (![128 * k.val, 128 * f.val] : Fin 2 → ℕ) a + S128x128.size a ≤ S2048x1408.size a := by
  revert k f; decide
theorem hinb (f : Fin 11) : ∀ a, (![0, 128 * f.val] : Fin 2 → ℕ) a + S128x128.size a ≤ S128x1408.size a := by
  revert f; decide
theorem hinb2 (k : Fin 5) : ∀ a, (![0, 256 * k.val] : Fin 2 → ℕ) a + S128x256.size a ≤ S128x1408.size a := by
  revert k; decide
theorem vinb (f : Fin 11) (n : Fin 16) :
    ∀ a, (![128 * f.val, 128 * n.val] : Fin 2 → ℕ) a + S128x128.size a ≤ S1408x2048.size a := by
  revert f n; decide
theorem s1inb (e : ℕ) (he : e < 64) (n : Fin 352) : ∀ a, (![e, n.val] : Fin 2 → ℕ) a + S1x1.size a ≤ S64x352.size a := by
  intro a; match a with
  | ⟨0, _⟩ => show e + 1 ≤ 64; omega
  | ⟨1, _⟩ => show n.val + 1 ≤ 352; omega
theorem s2inb (e : ℕ) (he : e < 64) (n : Fin 176) : ∀ a, (![e, n.val] : Fin 2 → ℕ) a + S1x1.size a ≤ S64x176.size a := by
  intro a; match a with
  | ⟨0, _⟩ => show e + 1 ≤ 64; omega
  | ⟨1, _⟩ => show n.val + 1 ≤ 176; omega

/-- The place of the scale of row tile `k` of column block `f`, for the gate. -/
def gcol (k : Fin 16) (f : Fin 11) : Fin 352 := ⟨22 * k.val + f.val, by omega⟩
/-- The place of the scale of row tile `k` of column block `f`, for the up projection. -/
def ucol (k : Fin 16) (f : Fin 11) : Fin 352 := ⟨22 * k.val + 11 + f.val, by omega⟩
/-- The place of the scale of row tile `f` of column block `n` of the second product. -/
def ocol (f : Fin 11) (n : Fin 16) : Fin 176 := ⟨16 * f.val + n.val, by omega⟩
/-- The left one of the two column blocks of output tile `n`. -/
def left (n : Fin 8) : Fin 16 := ⟨2 * n.val, by omega⟩
/-- The right one of the two column blocks of output tile `n`. -/
def right (n : Fin 8) : Fin 16 := ⟨2 * n.val + 1, by omega⟩

/-- One number of the first scale table. -/
def s1At (arg2 : Memref sig .tc .smem S64x352 .f32) (harg2 : arg2.IsWhole) (x0 : Vec F S64x352 .f32)
    (e : ℕ) (he : e < 64) (n : Fin 352) : Elt F .f32 :=
  View.readAt (Elt F) arg2.view (Rect.unit (s := S64x352) ![e, n.val] S1x1.size (s1inb e he n)).toLoadRect (harg2.unread x0)
    (Shape.Idx.first (numel1_S1x1.symm ▸ Nat.one_pos))

/-- One number of the second scale table. -/
def s2At (arg3 : Memref sig .tc .smem S64x176 .f32) (harg3 : arg3.IsWhole) (x1 : Vec F S64x176 .f32)
    (e : ℕ) (he : e < 64) (n : Fin 176) : Elt F .f32 :=
  View.readAt (Elt F) arg3.view (Rect.unit (s := S64x176) ![e, n.val] S1x1.size (s2inb e he n)).toLoadRect (harg3.unread x1)
    (Shape.Idx.first (numel1_S1x1.symm ▸ Nat.one_pos))

/-- A tile of the first weight array. -/
def wAt (arg6 : Memref sig .tc .vmem S2048x1408 .fp8e4m3) (harg6 : arg6.IsWhole) (x4 : Vec F S2048x1408 .fp8e4m3)
    (k : Fin 16) (f : Fin 11) : Vec F S128x128 .fp8e4m3 :=
  View.readAt (Elt F) arg6.view (Rect.unit (s := S2048x1408) ![128 * k.val, 128 * f.val] S128x128.size (winb k f)).toLoadRect (harg6.unread x4)

/-- A tile of the second weight array. -/
def vAt (arg8 : Memref sig .tc .vmem S1408x2048 .fp8e4m3) (harg8 : arg8.IsWhole) (x6 : Vec F S1408x2048 .fp8e4m3)
    (f : Fin 11) (n : Fin 16) : Vec F S128x128 .fp8e4m3 :=
  View.readAt (Elt F) arg8.view (Rect.unit (s := S1408x2048) ![128 * f.val, 128 * n.val] S128x128.size (vinb f n)).toLoadRect (harg8.unread x6)

theorem xsl (k : Fin 16) : S128x16.Slices ![0, k.val] S128x1 := by revert k; decide

/-- One tile of the input times its scales. -/
def xTile (k : Fin 16) (x3 : Vec F S128x16 .f32) (x : Vec F S128x128 .fp8e4m3) : FVec F S128x128 .bf16 :=
  shapeCast S128x128
    (mulf (extf .bf16 x bitsLt_fp8e4m3_bf16)
      (broadcastTo S128x128
        (extractStridedSlice S128x1 ![0, k.val] (truncf .bf16 x3 bitsLt_bf16_f32 : FVec F S128x16 .bf16) (xsl k))
        broadcasts_S128x1_S128x128)) shapeCasts_S128x128_S128x128

end Cert.Proof.Tile
-- ==== Proof.Pieces.lean ====
module

public import proofs.«01_k».proof.Proof.Tile

@[expose] public section

set_option maxRecDepth 16384

/-! What one run of the kernel's body stores, as lists of tiles: every stored tile is the same function
(of Tile.lean) at its own column block. -/

noncomputable section

namespace Cert.Proof.Tile

open Idealize.ShloMosaic Idealize.ShloMosaic.TcCoe Idealize.ShloMosaic.Tactic
open Cert.KernelIdeal Cert.KernelIdeal.Gen

variable {F : FTy → Type} [FloatOps F]

variable (c : Dev nD) (i : grid0.Coords) (arg2 : Memref sig .tc .smem S64x352 .f32) (harg2 : arg2.IsWhole) (arg3 : Memref sig .tc .smem S64x176 .f32) (harg3 : arg3.IsWhole) (arg4 : Memref sig .tc .vmem S128x2048 .fp8e4m3) (harg4 : arg4.IsWhole) (arg5 : Memref sig .tc .vmem S128x16 .f32) (harg5 : arg5.IsWhole) (arg6 : Memref sig .tc .vmem S2048x1408 .fp8e4m3) (harg6 : arg6.IsWhole) (arg7 : Memref sig .tc .vmem S2048x1408 .fp8e4m3) (harg7 : arg7.IsWhole) (arg8 : Memref sig .tc .vmem S1408x2048 .fp8e4m3) (harg8 : arg8.IsWhole) (arg9 : Memref sig .tc .vmem S128x2048 .bf16) (harg9 : arg9.IsWhole) (arg10 : Memref sig .tc .vmem S128x1408 .fp8e4m3) (harg10 : arg10.IsWhole) (arg11 : Memref sig .tc .vmem S128x11 .f32) (harg11 : arg11.IsWhole) (arg12 : Memref sig .tc .vmem S128x2048 .bf16) (harg12 : arg12.IsWhole) (arg13 : Memref sig .tc .vmem S128x1408 .bf16) (harg13 : arg13.IsWhole)
    (x0 : Vec F S64x352 .f32) (x1 : Vec F S64x176 .f32) (x2 : Vec F S128x2048 .fp8e4m3) (x3 : Vec F S128x16 .f32) (x4 : Vec F S2048x1408 .fp8e4m3) (x5 : Vec F S2048x1408 .fp8e4m3) (x6 : Vec F S1408x2048 .fp8e4m3) (xt0 : TbBuf0 (F := F) c tbM0_0)

/-- The expert's number, as the body reads it. -/
def expert : ℕ := (Scalar.indexCast (tbM0_0.view.readAt (Elt F) (Rect.unit (s := S88) (k0_off1 i) S1.size (k0_off1_inb i)).toLoadRect xt0 (Shape.Idx.first (numel1_S1.symm ▸ Nat.one_pos)))).toNat

theorem expert_lt (k0_hw1 : k0_chk1 (tbM0_0.view.readAt (Elt F) (Rect.unit (s := S88) (k0_off1 i) S1.size (k0_off1_inb i)).toLoadRect xt0 (Shape.Idx.first (numel1_S1.symm ▸ Nat.one_pos)))) :
    expert c i xt0 < 64 := by
  have h := k0_off2_inb _ k0_hw1 0
  exact h

variable (k0_hw1 : k0_chk1 (tbM0_0.view.readAt (Elt F) (Rect.unit (s := S88) (k0_off1 i) S1.size (k0_off1_inb i)).toLoadRect xt0 (Shape.Idx.first (numel1_S1.symm ▸ Nat.one_pos))))

/-- A chunk of the scaled input, as the body reads it back. -/
def xChunk (k : Fin 8) : Vec F S128x256 .bf16 :=
  arg12.view.readCov (kernelRun0_A.sl.HS0_16 c arg4 harg4 arg5 harg5 x2 x3) (Rect.unit (s := S128x2048) ![0, 256 * k.val] S128x256.size (xinb2 k)).toLoadRect

/-- The activation of column block `f`. -/
def actAt (f : Fin 11) : FVec F S128x128 .f32 :=
  act (acc (xChunk c arg4 harg4 arg5 harg5 arg12 x2 x3)
    (fun k => scaled (wAt arg6 harg6 x4 k f) (s1At arg2 harg2 x0 (expert c i xt0) (expert_lt c i xt0 k0_hw1) (gcol k f)))
    (fun k => scaled (wAt arg7 harg7 x5 k f) (s1At arg2 harg2 x0 (expert c i xt0) (expert_lt c i xt0 k0_hw1) (ucol k f))))

/-- What the body stores of the scaled input. -/
theorem x_pieces : kernelRun0_A.sl.HS0_16 c arg4 harg4 arg5 harg5 x2 x3
    = ([15, 14, 13, 12, 11, 10, 9, 8, 7, 6, 5, 4, 3, 2, 1, 0] : List (Fin 16)).map fun k =>
      (⟨Rect.unit (s := S128x2048) ![0, 128 * k.val] S128x128.size (xinb k),
        xTile k (View.readAt (Elt F) arg5.view (Rect.unit (s := S128x16) ![0, 0] S128x16.size inb_S128x16_S128x16_0_0).toLoadRect (harg5.unread x3))
          (View.readAt (Elt F) arg4.view (Rect.unit (s := S128x2048) ![0, 128 * k.val] S128x128.size (xinb k)).toLoadRect (harg4.unread x2))⟩ :
        View.Piece (Elt F) S128x2048 .bf16) := by
  sl_kernel_rfl

/-- What the body stores of the codes. -/
theorem code_pieces : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).2.1
    = ([10, 9, 8, 7, 6, 5, 4, 3, 2, 1, 0] : List (Fin 11)).map fun f =>
      (⟨Rect.unit (s := S128x1408) ![0, 128 * f.val] S128x128.size (hinb f),
        codes (actAt c i arg2 harg2 arg4 harg4 arg5 harg5 arg6 harg6 arg7 harg7 arg12 x0 x2 x3 x4 x5 xt0 k0_hw1 f)⟩ :
        View.Piece (Elt F) S128x1408 .fp8e4m3) := by
  sl_kernel_rfl

/-- What the body stores of the tiles that the second product reads back. -/
theorem back_pieces : kernelRun0_A.sl.HS1_11 c i arg2 harg2 arg4 harg4 arg5 harg5 arg6 harg6 arg7 harg7 arg12 x0 x2 x3 x4 x5 xt0 k0_hw1
    = ([10, 9, 8, 7, 6, 5, 4, 3, 2, 1, 0] : List (Fin 11)).map fun f =>
      (⟨Rect.unit (s := S128x1408) ![0, 128 * f.val] S128x128.size (hinb f),
        back (actAt c i arg2 harg2 arg4 harg4 arg5 harg5 arg6 harg6 arg7 harg7 arg12 x0 x2 x3 x4 x5 xt0 k0_hw1 f)⟩ :
        View.Piece (Elt F) S128x1408 .bf16) := by
  sl_kernel_rfl

/-- What the body stores of the scales. -/
theorem scale_pieces : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).2.2.1
    = [(⟨Rect.unit (s := S128x11) ![0, 0] S128x11.size inb_S128x11_S128x11_0_0,
        scales (actAt c i arg2 harg2 arg4 harg4 arg5 harg5 arg6 harg6 arg7 harg7 arg12 x0 x2 x3 x4 x5 xt0 k0_hw1)⟩ :
        View.Piece (Elt F) S128x11 .f32)] := by
  sl_kernel_rfl

/-- A chunk of the tiles that the second product reads back. -/
def hChunk (k : Fin 5) : Vec F S128x256 .bf16 :=
  arg13.view.readCov (kernelRun0_A.sl.HS1_11 c i arg2 harg2 arg4 harg4 arg5 harg5 arg6 harg6 arg7 harg7 arg12 x0 x2 x3 x4 x5 xt0 k0_hw1) (Rect.unit (s := S128x1408) ![0, 256 * k.val] S128x256.size (hinb2 k)).toLoadRect

/-- The last tile that the second product reads back. -/
def hLast : Vec F S128x128 .bf16 :=
  arg13.view.readCov (kernelRun0_A.sl.HS1_11 c i arg2 harg2 arg4 harg4 arg5 harg5 arg6 harg6 arg7 harg7 arg12 x0 x2 x3 x4 x5 xt0 k0_hw1) (Rect.unit (s := S128x1408) ![0, 1280] S128x128.size inb_S128x1408_S128x128_0_1280).toLoadRect

/-- What the body stores of the layer's output. -/
theorem out_pieces : (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).1
    = ([7, 6, 5, 4, 3, 2, 1, 0] : List (Fin 8)).map fun n =>
      (⟨Rect.unit (s := S128x2048) ![0, 256 * n.val] S128x256.size (xinb2 n),
        outTile (hChunk c i arg2 harg2 arg4 harg4 arg5 harg5 arg6 harg6 arg7 harg7 arg12 arg13 x0 x2 x3 x4 x5 xt0 k0_hw1)
          (hLast c i arg2 harg2 arg4 harg4 arg5 harg5 arg6 harg6 arg7 harg7 arg12 arg13 x0 x2 x3 x4 x5 xt0 k0_hw1)
          (fun f => scaled (vAt arg8 harg8 x6 f (left n)) (s2At arg3 harg3 x1 (expert c i xt0) (expert_lt c i xt0 k0_hw1) (ocol f (left n))))
          (fun f => scaled (vAt arg8 harg8 x6 f (right n)) (s2At arg3 harg3 x1 (expert c i xt0) (expert_lt c i xt0 k0_hw1) (ocol f (right n))))⟩ :
        View.Piece (Elt F) S128x2048 .bf16) := by
  sl_kernel_rfl

end Cert.Proof.Tile
-- ==== Proof.Exponent.lean ====
/-
  The power-of-two scale of one block. The kernel finds the exponent of `v` by comparing `v` with the powers of two;
  the reference takes the floor of the base-2 logarithm. Both give the same two words, the scale and its inverse.
-/
module

public import Idealize.ShloMosaic.PureOps
public import Idealize.ShloMosaic.PureOps.Ideal
public import Idealize.ShloMosaic.PureOps.Reduce

@[expose] public section

noncomputable section

namespace Cert.Proof

open Idealize.ShloMosaic

/-- The value of the word with exponent field `k` and no fraction. -/
def pw (k : ℕ) : EReal := Ideal.ieee 8 23 (BitVec.ofNat 32 k <<< 23)

/-- The kernel's exponent word: the largest of the words `k · 2²³` whose value is at most `v`. -/
def kword (v : EReal) : BitVec 32 :=
  (Finset.univ : Finset (Fin 256)).fold IKind.maxsi.op 2147483648#32
    (fun k => Scalar.select (Ideal.cmp .ogt (pw k.val) v) 0#32 (BitVec.ofNat 32 k.val <<< 23))

/-- The kernel's scale word. -/
def kscale (v : EReal) : BitVec 32 :=
  Scalar.select (BitVec.ofBool (decide (kword v = 0#32))) 1065353216#32 (kword v + 8388608#32)
/-- The kernel's inverse scale word. -/
def kinv (v : EReal) : BitVec 32 :=
  Scalar.select (BitVec.ofBool (decide (kword v = 0#32))) 1065353216#32 (2122317824#32 - kword v)

/-- The reference's exponent. -/
def rexp (v : EReal) : BitVec 32 :=
  Scalar.select (Ideal.cmp .olt v (Ideal.ofBits .f32 0x00800000#32)) 0#32
    (Ideal.fptosi 32 (Scalar.select (Ideal.cmp .oeq v (Ideal.ofBits .f32 0x7F800000#32)) (Ideal.ofBits .f32 0x43000000#32)
      (min (Ideal.liftRound Int.floor (Ideal.div (Ideal.log v) (Ideal.log (Ideal.ofBits .f32 0x40000000#32))))
        (Ideal.ofBits .f32 0x42FE0000#32))) + 1#32)
/-- The reference's scale word. -/
def rscale (v : EReal) : BitVec 32 := (rexp v + 127#32) <<< 23
/-- The reference's inverse scale word. -/
def rinv (v : EReal) : BitVec 32 := (0#32 - rexp v + 127#32) <<< 23

/-- The words compared are those of the exponent fields 0 to 255: their exponent field is `k`, their fraction is 0. -/
theorem pw_fields : ∀ k : Fin 256, (((BitVec.ofNat 32 k.val <<< 23).extractLsb' 31 1 == 1#1) = false)
    ∧ ((BitVec.ofNat 32 k.val <<< 23).extractLsb' 23 8).toNat = k.val
    ∧ ((BitVec.ofNat 32 k.val <<< 23).extractLsb' 0 23).toNat = 0 := by
  decide +kernel

/-- A word with sign 0, exponent field `k` from 1 to 254 and fraction `fr` is `(2²³ + fr) · 2^(k - 150)`. -/
theorem ieee_normal (b : BitVec 32) (k fr : ℕ) (h0 : 1 ≤ k) (h : k ≤ 254) (h1 : (b.extractLsb' (8 + 23) 1 == 1#1) = false)
    (h2 : (b.extractLsb' 23 8).toNat = k) (h3 : (b.extractLsb' 0 23).toNat = fr) :
    Ideal.ieee 8 23 b = ((((2 ^ 23 + fr : ℕ) : ℝ) * (2 : ℝ) ^ ((k : ℤ) - 150) : ℝ) : EReal) := by
  unfold Ideal.ieee
  simp only [h1, h2, h3]
  rw [if_neg (by norm_num; omega), if_neg (by omega)]
  congr 1
  have : (k : ℤ) - (2 ^ (8 - 1) - 1) - ((23 : ℕ) : ℤ) = (k : ℤ) - 150 := by norm_num; omega
  rw [this]
  norm_num

/-- A word with sign 0 and fraction 0 is zero at exponent field 0 and infinity at exponent field 255. -/
theorem ieee_ends (b : BitVec 32) (h1 : (b.extractLsb' (8 + 23) 1 == 1#1) = false) (h3 : (b.extractLsb' 0 23).toNat = 0) :
    ((b.extractLsb' 23 8).toNat = 0 → Ideal.ieee 8 23 b = 0) ∧ ((b.extractLsb' 23 8).toNat = 255 → Ideal.ieee 8 23 b = ⊤) := by
  constructor <;> intro h2 <;> unfold Ideal.ieee <;> simp only [h1, h2, h3] <;> norm_num

/-- Exponent field 0 is zero. -/
theorem pw_zero : pw 0 = 0 := by
  obtain ⟨h1, h2, h3⟩ := pw_fields ⟨0, by omega⟩
  exact (ieee_ends _ h1 h3).1 h2

/-- Exponent field 255 is infinity. -/
theorem pw_top : pw 255 = ⊤ := by
  obtain ⟨h1, h2, h3⟩ := pw_fields ⟨255, by omega⟩
  exact (ieee_ends _ h1 h3).2 h2

/-- In between, field `k` is the power of two `2^(k - 127)`. -/
theorem pw_mid (k : ℕ) (h0 : 1 ≤ k) (h : k ≤ 254) : pw k = (((2 : ℝ) ^ ((k : ℤ) - 127) : ℝ) : EReal) := by
  obtain ⟨h1, h2, h3⟩ := pw_fields ⟨k, by omega⟩
  unfold pw
  rw [ieee_normal _ k 0 h0 h h1 h2 h3]
  have e : (k : ℤ) - 127 = 23 + ((k : ℤ) - 150) := by omega
  have e2 : ((2 ^ 23 + 0 : ℕ) : ℝ) = (2 : ℝ) ^ (23 : ℤ) := by norm_num
  rw [e, zpow_add₀ two_ne_zero, e2]

/-- The powers of two increase with the field. -/
theorem pw_mono {j k : ℕ} (h : j ≤ k) (hk : k ≤ 255) : pw j ≤ pw k := by
  rcases Nat.eq_zero_or_pos j with rfl | hj
  · rcases Nat.eq_zero_or_pos k with rfl | hk0
    · exact le_rfl
    · rw [pw_zero]
      rcases Nat.lt_or_ge k 255 with h' | h'
      · rw [pw_mid k hk0 (by omega)]; exact_mod_cast (by positivity : (0:ℝ) ≤ 2 ^ ((k : ℤ) - 127))
      · rw [show k = 255 by omega, pw_top]; exact le_top
  · rcases Nat.lt_or_ge k 255 with h' | h'
    · rw [pw_mid j hj (by omega), pw_mid k (by omega) (by omega)]
      exact EReal.coe_le_coe_iff.mpr (zpow_le_zpow_right₀ (by norm_num) (by omega))
    · rw [show k = 255 by omega, pw_top]; exact le_top

/-- The word of field `k` grows with `k`, as a signed number. -/
theorem word_le : ∀ j k : Fin 256, j ≤ k → (BitVec.ofNat 32 j.val <<< 23).sle (BitVec.ofNat 32 k.val <<< 23) = true := by
  intro j k h
  have hh : ∀ k : Fin 256, (BitVec.ofNat 32 k.val <<< 23).toInt = k.val * 8388608 := by decide +kernel
  rw [BitVec.sle_iff_toInt_le, hh, hh]
  have : (j.val : ℤ) ≤ k.val := by exact_mod_cast h
  omega

/-- A signed maximum over a finite set, at least every member and equal to one of them (or the start), is that one. -/
theorem fold_maxsi_eq {ι : Type*} [DecidableEq ι] (s : Finset ι) (f : ι → BitVec 32) (b w : BitVec 32)
    (hb : b.sle w = true) (hle : ∀ i ∈ s, (f i).sle w = true) (hw : w = b ∨ ∃ i ∈ s, f i = w) :
    s.fold IKind.maxsi.op b f = w := by
  have key : ∀ x y : BitVec 32, (IKind.maxsi.op x y).toInt = max x.toInt y.toInt := by
    intro x y
    simp only [IKind.op, IntOp.maxsi]
    rw [apply_ite BitVec.toInt]
    simp only [BitVec.slt_iff_toInt_lt, BitVec.sle_iff_toInt_le]
    split_ifs <;> omega
  have main : ∀ t : Finset ι, (t.fold IKind.maxsi.op b f).toInt = t.fold max b.toInt (fun i => (f i).toInt) := by
    intro t
    induction t using Finset.induction_on with
    | empty => rfl
    | insert a t ha ih => rw [Finset.fold_insert ha, Finset.fold_insert ha, key, ih]
  apply BitVec.eq_of_toInt_eq
  rw [main]
  apply le_antisymm
  · rw [Finset.fold_max_le]
    exact ⟨BitVec.sle_iff_toInt_le.mp hb, fun i hi => BitVec.sle_iff_toInt_le.mp (hle i hi)⟩
  · rw [Finset.le_fold_max]
    rcases hw with h | ⟨i, hi, h⟩
    · left; rw [h]
    · right; exact ⟨i, hi, by rw [h]⟩

/-- There is a largest exponent field whose power of two is at most `v`, unless `v` is negative. -/
theorem exists_field (v : EReal) (hv : 0 ≤ v) : ∃ E : Fin 256, pw E.val ≤ v ∧ ∀ j : Fin 256, pw j.val ≤ v → j ≤ E := by
  classical
  have hne : ((Finset.univ : Finset (Fin 256)).filter fun k => pw k.val ≤ v).Nonempty :=
    ⟨0, by simp [pw_zero, hv]⟩
  refine ⟨Finset.max' _ hne, (Finset.mem_filter.mp (Finset.max'_mem _ hne)).2, fun j hj => Finset.le_max' _ _ ?_⟩
  simp [hj]

theorem gt_true {x v : EReal} (h : ¬ x ≤ v) : Ideal.cmp .ogt x v = 1#1 := congrArg BitVec.ofBool (decide_eq_true (not_le.mp h))
theorem gt_false {x v : EReal} (h : x ≤ v) : Ideal.cmp .ogt x v = 0#1 := congrArg BitVec.ofBool (decide_eq_false (not_lt.mpr h))

/-- The kernel's word is the field found, shifted into place. -/
theorem kword_eq (v : EReal) (E : Fin 256) (h1 : pw E.val ≤ v) (h2 : ∀ j : Fin 256, pw j.val ≤ v → j ≤ E) :
    kword v = BitVec.ofNat 32 E.val <<< 23 := by
  have z : ∀ k : Fin 256, (2147483648#32).sle (BitVec.ofNat 32 k.val <<< 23) = true := by decide +kernel
  refine fold_maxsi_eq _ _ _ _ (z E) (fun j _ => ?_) (.inr ⟨E, Finset.mem_univ _, ?_⟩)
  · by_cases h : pw j.val ≤ v
    · have : Ideal.cmp .ogt (pw j.val) v = 0#1 := gt_false h
      rw [this]; exact word_le j E (h2 j h)
    · have : Ideal.cmp .ogt (pw j.val) v = 1#1 := gt_true h
      rw [this]; exact word_le 0 E (Fin.zero_le _)
  · have : Ideal.cmp .ogt (pw E.val) v = 0#1 := gt_false h1
    rw [this]; rfl

/-- For a negative `v` no power of two qualifies and the word is 0. -/
theorem kword_neg (v : EReal) (hv : v < 0) : kword v = 0#32 := by
  refine fold_maxsi_eq _ _ _ _ (by decide) (fun j _ => ?_) (.inr ⟨0, Finset.mem_univ _, ?_⟩)
  · have hj : ¬ pw j.val ≤ v := fun h => absurd (lt_of_le_of_lt (le_trans (pw_zero ▸ pw_mono (Nat.zero_le _) (by omega)) h) hv) (lt_irrefl _)
    have : Ideal.cmp .ogt (pw j.val) v = 1#1 := gt_true hj
    rw [this]; exact (by decide : (0#32).sle 0#32 = true)
  · have hj : ¬ pw 0 ≤ v := by rw [pw_zero]; exact not_le.mpr hv
    have : Ideal.cmp .ogt (pw (0 : Fin 256).val) v = 1#1 := gt_true hj
    rw [this]; rfl

/-- The smallest normal number, 2^(-126). -/
theorem ofBits_min : Ideal.ofBits .f32 0x00800000#32 = pw 1 := rfl
/-- Infinity. -/
theorem ofBits_inf : Ideal.ofBits .f32 0x7F800000#32 = ⊤ := pw_top
/-- 128. -/
theorem ofBits_128 : Ideal.ofBits .f32 0x43000000#32 = ((128 : ℝ) : EReal) := by
  change pw 134 = _
  rw [pw_mid 134 (by norm_num) (by norm_num)]; norm_num
/-- 2. -/
theorem ofBits_2 : Ideal.ofBits .f32 0x40000000#32 = ((2 : ℝ) : EReal) := by
  change pw 128 = _
  rw [pw_mid 128 (by norm_num) (by norm_num)]; norm_num
/-- 127. -/
theorem ofBits_127 : Ideal.ofBits .f32 0x42FE0000#32 = ((127 : ℝ) : EReal) := by
  have h1 : ((0x42FE0000#32).extractLsb' (8 + 23) 1 == 1#1) = false := by decide
  have h2 : ((0x42FE0000#32).extractLsb' 23 8).toNat = 133 := by decide
  have h3 : ((0x42FE0000#32).extractLsb' 0 23).toNat = 8257536 := by decide
  refine (ieee_normal _ 133 _ (by norm_num) (by norm_num) h1 h2 h3).trans ?_
  norm_num

/-- An integer-valued real between -200 and 200 converts to that integer. -/
theorem fptosi_int (n : ℤ) (h1 : -200 ≤ n) (h2 : n ≤ 200) : Ideal.fptosi 32 (((n : ℝ) : ℝ) : EReal) = BitVec.ofInt 32 n := by
  unfold Ideal.fptosi
  rw [Ideal.toIntClamped_coe]
  congr 1
  simp only [Int.floor_intCast, Int.ceil_intCast, ite_self]
  norm_num
  omega

/-- For a positive real the reference's quotient of logarithms, floored, is the floor of `log r / log 2`. -/
theorem floor_log (r : ℝ) (hr : 0 < r) :
    Ideal.liftRound Int.floor (Ideal.div (Ideal.log (r : EReal)) (Ideal.log (Ideal.ofBits .f32 0x40000000#32)))
      = (((⌊Real.log r / Real.log 2⌋ : ℤ) : ℝ) : EReal) := by
  have elog : ∀ x : ℝ, 0 < x → Ideal.log (x : EReal) = ((Real.log x : ℝ) : EReal) := fun x hx => by
    show (if x ≤ 0 then ⊥ else ((Real.log x : ℝ) : EReal)) = _
    rw [if_neg (not_le.mpr hx)]
  have l2 : Real.log 2 ≠ 0 := ne_of_gt (Real.log_pos (by norm_num))
  rw [ofBits_2, elog r hr, elog 2 (by norm_num), Ideal.div_coe l2, ← EReal.coe_mul, Ideal.liftRound_coe, mul_one_div]

/-- A real at least `2^n` has floored base-2 logarithm at least `n`. -/
theorem le_floor_log (r : ℝ) (n : ℤ) (h : (2 : ℝ) ^ n ≤ r) : n ≤ ⌊Real.log r / Real.log 2⌋ := by
  have l2 : 0 < Real.log 2 := Real.log_pos (by norm_num)
  rw [Int.le_floor, le_div_iff₀ l2, ← Real.log_zpow]
  exact Real.log_le_log (by positivity) h

/-- A positive real below `2^n` has floored base-2 logarithm below `n`. -/
theorem floor_log_lt (r : ℝ) (hr : 0 < r) (n : ℤ) (h : r < (2 : ℝ) ^ n) : ⌊Real.log r / Real.log 2⌋ < n := by
  have l2 : 0 < Real.log 2 := Real.log_pos (by norm_num)
  rw [Int.floor_lt, div_lt_iff₀ l2, ← Real.log_zpow]
  exact Real.log_lt_log hr h

/-- The reference's exponent is the field found less 126, or 0 when the field is 0. -/
theorem rexp_eq (v : EReal) (E : Fin 256) (h1 : pw E.val ≤ v) (h2 : ∀ j : Fin 256, pw j.val ≤ v → j ≤ E) :
    rexp v = if E.val = 0 then 0#32 else BitVec.ofInt 32 ((E.val : ℤ) - 127) + 1#32 := by
  unfold rexp
  rw [ofBits_min, ofBits_inf, ofBits_128, ofBits_127]
  by_cases hE : E.val = 0
  · have hlt : v < pw 1 := by
      rw [← not_le]; intro h
      have := h2 1 h
      have : (1 : Fin 256).val ≤ E.val := this
      simp [hE] at this
    have : Ideal.cmp .olt v (pw 1) = 1#1 := by simp [Ideal.cmp, hlt]
    rw [this, if_pos hE]; rfl
  · rw [if_neg hE]
    have hge : pw 1 ≤ v := le_trans (pw_mono (by omega) (by omega)) h1
    have : Ideal.cmp .olt v (pw 1) = 0#1 := by simp [Ideal.cmp, not_lt.mpr hge]
    rw [this]
    change Ideal.fptosi 32 _ + 1#32 = _
    congr 1
    by_cases hv : v = ⊤
    · have hE' : E.val = 255 := by
        have := h2 255 (by rw [hv]; exact le_top)
        have : (255 : Fin 256).val ≤ E.val := this
        have h255 : (255 : Fin 256).val = 255 := rfl
        omega
      have : Ideal.cmp .oeq v ⊤ = 1#1 := by simp [Ideal.cmp, hv]
      rw [this, hE']
      have := fptosi_int 128 (by norm_num) (by norm_num)
      push_cast at this
      exact this
    · have : Ideal.cmp .oeq v ⊤ = 0#1 := by simp [Ideal.cmp, hv]
      rw [this]
      have hE' : E.val ≤ 254 := by
        by_contra hc
        have : E.val = 255 := by omega
        rw [this, pw_top] at h1
        exact hv (top_le_iff.mp h1)
      have hbot : v ≠ ⊥ := by
        rintro rfl
        rw [pw_mid 1 (by norm_num) (by norm_num)] at hge
        exact absurd (le_bot_iff.mp hge) (EReal.coe_ne_bot _)
      lift v to ℝ using ⟨hv, hbot⟩
      rw [pw_mid _ (by omega) hE', EReal.coe_le_coe_iff] at h1
      have hpos : 0 < v := lt_of_lt_of_le (by positivity) h1
      change Ideal.fptosi 32 (min _ _) = _
      rw [floor_log v hpos]
      have hmin : min (((⌊Real.log v / Real.log 2⌋ : ℤ) : ℝ) : EReal) ((127 : ℝ) : EReal)
          = ((((E.val : ℤ) - 127 : ℤ) : ℝ) : EReal) := by
        have lo := le_floor_log v _ h1
        rw [show (127 : ℝ) = ((127 : ℤ) : ℝ) by norm_num]
        by_cases h254 : E.val = 254
        · rw [h254] at lo ⊢
          rw [min_eq_right (EReal.coe_le_coe_iff.mpr (by exact_mod_cast lo))]
          norm_num
        · have hlt : ¬ pw (E.val + 1) ≤ (v : EReal) := fun h => by
            have := h2 ⟨E.val + 1, by omega⟩ h
            have : E.val + 1 ≤ E.val := this
            omega
          rw [pw_mid _ (by omega) (by omega), EReal.coe_le_coe_iff, not_le] at hlt
          have hi := floor_log_lt v hpos _ hlt
          have : ⌊Real.log v / Real.log 2⌋ = (E.val : ℤ) - 127 := by push_cast at hi; omega
          rw [this]
          refine min_eq_left (EReal.coe_le_coe_iff.mpr ?_)
          exact_mod_cast (by omega : (E.val : ℤ) - 127 ≤ 127)
      rw [hmin]
      exact fptosi_int _ (by omega) (by omega)

/-- The reference's exponent of a negative number is 0. -/
theorem rexp_neg (v : EReal) (hv : v < 0) : rexp v = 0#32 := by
  unfold rexp
  have hlt : v < pw 1 := lt_of_lt_of_le hv (pw_zero ▸ pw_mono (by omega) (by omega))
  have : Ideal.cmp .olt v (pw 1) = 1#1 := by simp [Ideal.cmp, hlt]
  rw [ofBits_min, this]; rfl

/-- The kernel and the reference find the same scale word and the same inverse scale word. -/
theorem words_eq (v : EReal) : kscale v = rscale v ∧ kinv v = rinv v := by
  rcases lt_or_ge v 0 with hv | hv
  · unfold kscale kinv rscale rinv
    rw [kword_neg v hv, rexp_neg v hv]
    exact ⟨rfl, rfl⟩
  · obtain ⟨E, h1, h2⟩ := exists_field v hv
    unfold kscale kinv rscale rinv
    rw [kword_eq v E h1 h2, rexp_eq v E h1 h2]
    clear h1 h2
    revert E
    decide +kernel

/-- The kernel's scale word is the reference's. -/
theorem kscale_eq (v : EReal) : kscale v = rscale v := (words_eq v).1
/-- The kernel's inverse scale word is the reference's. -/
theorem kinv_eq (v : EReal) : kinv v = rinv v := (words_eq v).2

end Cert.Proof
-- ==== Proof.Spec.lean ====
/-
  The layer as plain sums and products over the extended reals: what both programs are shown to compute. A row's 2048
  inputs are 16 blocks of 128, its 1408 hidden values 11 blocks of 128.
-/
module

public import proofs.«01_k».proof.Proof.Exponent

@[expose] public section

noncomputable section

namespace Cert.Proof.Spec

open Idealize.ShloMosaic
open scoped BigOperators

/-- The number whose exponent gives a block's scale: its largest magnitude times the f32 number nearest 1/448. -/
def level (h : Fin 128 → EReal) : EReal :=
  Finset.fold max (Ideal.ofBits .f32 4286578688#32) (fun x => max (h x) (-(h x))) Finset.univ
    * Ideal.ofBits .f32 991054117#32

/-- A block's scale. -/
def scale (h : Fin 128 → EReal) : EReal := Ideal.ofBits .f32 (rscale (level h))

/-- One over a block's scale. -/
def inv (h : Fin 128 → EReal) : EReal := Ideal.ofBits .f32 (rinv (level h))

/-- A block's codes. -/
def code (h : Fin 128 → EReal) (c : Fin 128) : EReal :=
  min (Ideal.ofBits .f32 1138753536#32) (max (Ideal.ofBits .f32 3286237184#32) (h c * inv h))

/-- What the codes stand for. -/
def back (h : Fin 128 → EReal) (c : Fin 128) : EReal := code h c * scale h

/-- The product of a row and a column, block by block. -/
def dot {n : ℕ} (x w : Fin n → Fin 128 → EReal) : EReal := ∑ t : Fin n, ∑ j : Fin 128, x t j * w t j

/-- The activation. -/
def act (g u : EReal) : EReal := g * Ideal.logistic g * u

/-- Row or column `j` of tile `t`, of sixteen. -/
def at16 (t : Fin 16) (j : Fin 128) : Fin 2048 := ⟨128 * t.val + j.val, by omega⟩
/-- Row or column `j` of tile `f`, of eleven. -/
def at11 (f : Fin 11) (j : Fin 128) : Fin 1408 := ⟨128 * f.val + j.val, by omega⟩

end Cert.Proof.Spec
-- ==== Proof.Index.lean ====
/-
  The tile functions of the kernel's body read at an index, over the extended reals.
-/
module

public import proofs.«01_k».proof.Proof.Tile
public import proofs.«01_k».proof.Proof.Spec
public import proofs.«01_k».proof.Proof.Words
public import Idealize.ShloMosaic.Lib.Pointwise.Contract
public import Idealize.ShloMosaic.Lib.Pointwise.Reduce

@[expose] public section

set_option maxRecDepth 16384

noncomputable section

namespace Cert.Proof.Tile

open Idealize.ShloMosaic Idealize.ShloMosaic.TcCoe
open Cert.KernelIdeal Cert.KernelIdeal.Gen
open scoped BigOperators

theorem scaled_apply (w : Vec Ideal S128x128 .fp8e4m3) (s : EReal) (r c : Fin 128) :
    scaled w s (ix2 r c) = (w (ix2 r c) * s : EReal) := by
  unfold scaled
  pointwise
  rfl

/-- Two tiles side by side: the left half. -/
theorem pair_left (a b : FVec Ideal S128x128 .bf16) (r c : Fin 128) :
    pair a b (ix2 r (⟨c.val, by omega⟩ : Fin 256)) = a (ix2 r c) := by
  unfold pair
  pointwise

/-- Two tiles side by side: the right half. -/
theorem pair_right (a b : FVec Ideal S128x128 .bf16) (r c : Fin 128) :
    pair a b (ix2 r (⟨128 + c.val, by omega⟩ : Fin 256)) = b (ix2 r c) := by
  unfold pair
  pointwise

theorem stack_top (a b : FVec Ideal S128x256 .bf16) (r : Fin 128) (c : Fin 256) :
    stack a b (ix2 (⟨r.val, by omega⟩ : Fin 256) c) = a (ix2 r c) := by
  unfold stack
  pointwise

theorem stack_bottom (a b : FVec Ideal S128x256 .bf16) (r : Fin 128) (c : Fin 256) :
    stack a b (ix2 (⟨128 + r.val, by omega⟩ : Fin 256) c) = b (ix2 r c) := by
  unfold stack
  pointwise

theorem ofBits_zero : (FloatOps.ofBits (F := Ideal) .f32 0x00000000#32 : EReal) = 0 := Ideal.ofBits_zero_f32

theorem zeros_apply (i : S128x256.Idx) : (zeros (F := Ideal) i : EReal) = 0 := ofBits_zero

theorem dotAdd_apply (a : FVec Ideal S128x256 .f32) (x : Vec Ideal S128x256 .bf16) (w : FVec Ideal S256x256 .bf16)
    (r : Fin 128) (c : Fin 256) :
    dotAdd a x w (ix2 r c) = (a (ix2 r c) + ∑ k : Fin 256, x (ix2 r k) * w (ix2 k c) : EReal) := by
  unfold dotAdd
  pointwise
  rw [ofBits_zero, zero_add]
  rfl

theorem dotAddLast_apply (a : FVec Ideal S128x256 .f32) (x : Vec Ideal S128x128 .bf16) (w : FVec Ideal S128x256 .bf16)
    (r : Fin 128) (c : Fin 256) :
    dotAddLast a x w (ix2 r c) = (a (ix2 r c) + ∑ k : Fin 128, x (ix2 r k) * w (ix2 k c) : EReal) := by
  unfold dotAddLast
  pointwise
  rw [ofBits_zero, zero_add]
  rfl

/-- A chunk of 256 is two blocks of 128. -/
theorem chunk_sum (x : Vec Ideal S128x256 .bf16) (a b : FVec Ideal S128x256 .bf16) (r : Fin 128) (c : Fin 256)
    (y z : Fin 128 → EReal) (hy : ∀ j : Fin 128, x (ix2 r (⟨j.val, by omega⟩ : Fin 256)) = y j)
    (hz : ∀ j : Fin 128, x (ix2 r (⟨128 + j.val, by omega⟩ : Fin 256)) = z j) :
    (∑ k : Fin 256, x (ix2 r k) * stack a b (ix2 k c) : EReal)
      = (∑ j : Fin 128, y j * a (ix2 j c)) + ∑ j : Fin 128, z j * b (ix2 j c) := by
  refine (Fin.sum_univ_add (a := 128) (b := 128) fun k : Fin (128 + 128) => (x (ix2 r k) * stack a b (ix2 k c) : EReal)).trans ?_
  refine congrArg₂ _ (Finset.sum_congr rfl fun j _ => ?_) (Finset.sum_congr rfl fun j _ => ?_)
  · exact congrArg₂ _ (hy j) (stack_top a b j c)
  · exact congrArg₂ _ (hz j) (stack_bottom a b j c)

/-- A chunked contraction at an index, chunk by chunk. -/
theorem fold_apply {ι : Type} (X : ι → Vec Ideal S128x256 .bf16) (W : ι → FVec Ideal S256x256 .bf16) (r : Fin 128)
    (c : Fin 256) (l : List ι) (a : FVec Ideal S128x256 .f32) :
    (l.foldl (fun a k => dotAdd a (X k) (W k)) a) (ix2 r c)
      = l.foldl (fun (z : EReal) k => z + ∑ j : Fin 256, X k (ix2 r j) * W k (ix2 j c)) (a (ix2 r c)) := by
  induction l generalizing a with
  | nil => rfl
  | cons k l ih => rw [List.foldl_cons, List.foldl_cons, ih, dotAdd_apply]

theorem fold_sixteen (p : Fin 16 → EReal) :
    ([0, 1, 2, 3, 4, 5, 6, 7] : List (Fin 8)).foldl (fun (z : EReal) k => z + (p (lo k) + p (hi k))) 0 = ∑ t, p t := by
  simp only [List.foldl, zero_add, Fin.sum_univ_succ, Finset.univ_eq_empty, Finset.sum_empty, Fin.sum_univ_zero, add_zero]
  simp only [add_assoc]
  rfl

theorem fold_ten (p : Fin 11 → EReal) :
    ([0, 1, 2, 3, 4] : List (Fin 5)).foldl (fun (z : EReal) k => z + (p (lo' k) + p (hi' k))) 0 + p 10 = ∑ t, p t := by
  simp only [List.foldl, zero_add, Fin.sum_univ_succ, Finset.univ_eq_empty, Finset.sum_empty, Fin.sum_univ_zero, add_zero]
  simp only [add_assoc]
  rfl

section acc

variable (X : Fin 8 → Vec Ideal S128x256 .bf16) (g u : Fin 16 → FVec Ideal S128x128 .bf16) (r c : Fin 128)
  (x : Fin 16 → Fin 128 → EReal)
  (hl : ∀ k (j : Fin 128), X k (ix2 r (⟨j.val, by omega⟩ : Fin 256)) = x (lo k) j)
  (hh : ∀ k (j : Fin 128), X k (ix2 r (⟨128 + j.val, by omega⟩ : Fin 256)) = x (hi k) j)
include hl hh

/-- The left half of the first product is the gate's. -/
theorem acc_left : acc X g u (ix2 r (⟨c.val, by omega⟩ : Fin 256)) = Spec.dot x (fun t j => g t (ix2 j c)) := by
  unfold acc Spec.dot
  rw [fold_apply, zeros_apply]
  rw [← fold_sixteen (fun t => ∑ j, x t j * g t (ix2 j c))]
  congr 1
  funext z k
  rw [chunk_sum _ _ _ _ _ _ _ (hl k) (hh k)]
  simp only [pair_left]

/-- The right half is the up projection's. -/
theorem acc_right : acc X g u (ix2 r (⟨128 + c.val, by omega⟩ : Fin 256)) = Spec.dot x (fun t j => u t (ix2 j c)) := by
  unfold acc Spec.dot
  rw [fold_apply, zeros_apply]
  rw [← fold_sixteen (fun t => ∑ j, x t j * u t (ix2 j c))]
  congr 1
  funext z k
  rw [chunk_sum _ _ _ _ _ _ _ (hl k) (hh k)]
  simp only [pair_right]

/-- The activation of a tile at an index. -/
theorem act_acc_apply : act (acc X g u) (ix2 r c)
    = Spec.act (Spec.dot x (fun t j => g t (ix2 j c))) (Spec.dot x (fun t j => u t (ix2 j c))) := by
  rw [← acc_left X g u r c x hl hh, ← acc_right X g u r c x hl hh]
  unfold act
  pointwise
  rfl

end acc

section out

variable (Y : Fin 5 → Vec Ideal S128x256 .bf16) (Z : Vec Ideal S128x128 .bf16) (a b : Fin 11 → FVec Ideal S128x128 .bf16)
  (r c : Fin 128) (x : Fin 11 → Fin 128 → EReal)
  (hl : ∀ k (j : Fin 128), Y k (ix2 r (⟨j.val, by omega⟩ : Fin 256)) = x (lo' k) j)
  (hh : ∀ k (j : Fin 128), Y k (ix2 r (⟨128 + j.val, by omega⟩ : Fin 256)) = x (hi' k) j)
  (hZ : ∀ j : Fin 128, Z (ix2 r j) = x 10 j)
include hl hh hZ

/-- The left half of a tile of the second product. -/
theorem out_left : outTile Y Z a b (ix2 r (⟨c.val, by omega⟩ : Fin 256)) = Spec.dot x (fun f j => a f (ix2 j c)) := by
  unfold outTile
  change dotAddLast _ Z _ _ = _
  rw [dotAddLast_apply, fold_apply, zeros_apply]
  unfold Spec.dot
  rw [← fold_ten (fun t => ∑ j, x t j * a t (ix2 j c))]
  congr 1
  · congr 1
    funext z k
    rw [chunk_sum _ _ _ _ _ _ _ (hl k) (hh k)]
    simp only [pair_left]
  · simp only [pair_left, hZ]

/-- The right half of a tile of the second product. -/
theorem out_right : outTile Y Z a b (ix2 r (⟨128 + c.val, by omega⟩ : Fin 256)) = Spec.dot x (fun f j => b f (ix2 j c)) := by
  unfold outTile
  change dotAddLast _ Z _ _ = _
  rw [dotAddLast_apply, fold_apply, zeros_apply]
  unfold Spec.dot
  rw [← fold_ten (fun t => ∑ j, x t j * b t (ix2 j c))]
  congr 1
  · congr 1
    funext z k
    rw [chunk_sum _ _ _ _ _ _ _ (hl k) (hh k)]
    simp only [pair_right]
  · simp only [pair_right, hZ]

end out

variable (h : FVec Ideal S128x128 .f32) (r c : Fin 128)

/-- The exponent word of a row. -/
theorem word_apply : word h (ix2 r 0) = kword (Spec.level fun x => h (ix2 r x)) := by
  unfold word words
  pointwise
  rfl

theorem isZero_apply : isZero h (ix2 r 0) = BitVec.ofBool (decide (kword (Spec.level fun x => h (ix2 r x)) = 0#32)) := by
  rw [← word_apply]
  rfl

theorem scale_apply : scale h (ix2 r 0) = Spec.scale fun x => h (ix2 r x) := by
  unfold Spec.scale
  rw [← kscale_eq]
  unfold scale kscale
  rw [← isZero_apply, ← word_apply]
  rfl

theorem inv_apply : inv h (ix2 r 0) = Spec.inv fun x => h (ix2 r x) := by
  unfold Spec.inv
  rw [← kinv_eq]
  unfold inv kinv
  rw [← isZero_apply, ← word_apply]
  rfl

theorem codes_apply : codes h (ix2 r c) = Spec.code (fun x => h (ix2 r x)) c := by
  unfold Spec.code
  rw [← inv_apply]
  unfold codes
  pointwise
  rfl

theorem back_apply : back h (ix2 r c) = Spec.back (fun x => h (ix2 r x)) c := by
  unfold Spec.back
  rw [← codes_apply, ← scale_apply]
  unfold back
  pointwise
  rfl

/-- The scales of a row. -/
theorem scales_apply (h : Fin 11 → FVec Ideal S128x128 .f32) (f : Fin 11) :
    scales h (ix2 r f) = Spec.scale fun x => h f (ix2 r x) := by
  rw [← scale_apply]
  have step : ∀ (l : List (Fin 11)) (z : FVec Ideal S128x11 .f32),
      (l.foldl (fun z f => select (cmpi .eq (iota .tc S128x11 32 [1] iota_S128x11_d1_w32) (broadcast S128x11 (BitVec.ofNat 32 f.val)))
        (broadcastTo S128x11 (shapeCast S128x1 (scale (h f)) shapeCasts_S128x1_S128x1) broadcasts_S128x1_S128x11) z) z) (ix2 r f)
      = l.foldl (fun (z : EReal) k => if f = k then scale (h k) (ix2 r 0) else z) (z (ix2 r f)) := by
    intro l
    induction l with
    | nil => intro z; rfl
    | cons k l ih =>
      intro z
      rw [List.foldl_cons, List.foldl_cons, ih]
      congr 1
      pointwise
      by_cases e : f = k
      · subst e
        simp [IntOp.cmpi, Scalar.select]
      · have : BitVec.ofNat 32 f.val ≠ BitVec.ofNat 32 k.val := by
          intro hw
          apply e
          have := congrArg BitVec.toNat hw
          simp only [BitVec.toNat_ofNat] at this
          exact Fin.ext (by omega)
        have t2 : (BitVec.ofNat 32 f.val == BitVec.ofNat 32 k.val) = false := beq_eq_false_iff_ne.mpr this
        simp [IntOp.cmpi, Scalar.select, e, t2]
  unfold scales
  rw [step]
  fin_cases f <;> simp [List.foldl]

end Cert.Proof.Tile
-- ==== Proof.Body.lean ====
module

public import proofs.«01_k».proof.Proof.Pieces
public import proofs.«01_k».proof.Proof.Index

@[expose] public section

set_option maxRecDepth 16384

/-! What one run of the kernel's body leaves in its three results, at an index, as a function of the blocks it was given. -/

noncomputable section

namespace Cert.Proof.Tile

open Idealize.ShloMosaic Idealize.ShloMosaic.TcCoe
open Cert.KernelIdeal Cert.KernelIdeal.Gen
open Cert.Proof.Spec (at16 at11)
open scoped BigOperators

/-- Where the element `(r, j)` of a block at `(a, b)` lies. -/
theorem unit_emb {R M h w a b : ℕ} (inb : ∀ i, (![a, b] : Fin 2 → ℕ) i + (⟨2, ![h, w]⟩ : Shape).size i ≤ (⟨2, ![R, M]⟩ : Shape).size i)
    (r : Fin h) (j : Fin w) (h0 : a + r.val < R) (h1 : b + j.val < M) :
    (Rect.unit (s := ⟨2, ![R, M]⟩) ![a, b] (⟨2, ![h, w]⟩ : Shape).size inb).emb (ix2 r j) = ix2 ⟨a + r.val, h0⟩ ⟨b + j.val, h1⟩ := by
  funext i
  match i with
  | ⟨0, _⟩ => apply Fin.ext; change a + 1 * r.val = a + r.val; omega
  | ⟨1, _⟩ => apply Fin.ext; change b + 1 * j.val = b + j.val; omega

/-- Blocks of columns stored one after the other: the contents at a column of block `k`. -/
theorem canon_cols {n w M : ℕ} {e : EltTy} (hM : M = w * n) (T : Fin n → (⟨2, ![128, w]⟩ : Shape).Idx → Elt Ideal e)
    (inb : ∀ k : Fin n, ∀ i, (![0, w * k.val] : Fin 2 → ℕ) i + (⟨2, ![128, w]⟩ : Shape).size i ≤ (⟨2, ![128, M]⟩ : Shape).size i)
    (l : List (Fin n)) (k : Fin n) (hk : k ∈ l) (r : Fin 128) (j : Fin w) (x : Fin M) (hx : x.val = w * k.val + j.val) :
    View.canon (Val := Elt Ideal) (s := ⟨2, ![128, M]⟩)
      (l.map fun k => ⟨Rect.unit (s := ⟨2, ![128, M]⟩) ![0, w * k.val] (⟨2, ![128, w]⟩ : Shape).size (inb k), T k⟩)
      (ix2 r x) = T k (ix2 r j) := by
  have hw : 0 < w := Nat.lt_of_le_of_lt (Nat.zero_le _) j.isLt
  let G : (⟨2, ![128, M]⟩ : Shape).Idx → Elt Ideal e := fun y =>
    T ⟨(y 1).val / w, Nat.div_lt_of_lt_mul (hM ▸ (y 1).isLt)⟩ (ix2 (y 0) ⟨(y 1).val % w, Nat.mod_lt _ hw⟩)
  have hG : ∀ (k : Fin n) (r : Fin 128) (j : Fin w) (x : Fin M), x.val = w * k.val + j.val → G (ix2 r x) = T k (ix2 r j) := by
    intro k r j x hx
    have e1 : (⟨x.val / w, Nat.div_lt_of_lt_mul (hM ▸ x.isLt)⟩ : Fin n) = k :=
      Fin.ext (by show x.val / w = k.val; rw [hx, Nat.mul_add_div hw, Nat.div_eq_of_lt j.isLt, Nat.add_zero])
    have e2 : (⟨x.val % w, Nat.mod_lt _ hw⟩ : Fin w) = j :=
      Fin.ext (by show x.val % w = j.val; rw [hx, Nat.mul_add_mod, Nat.mod_eq_of_lt j.isLt])
    show T ⟨x.val / w, _⟩ (ix2 r ⟨x.val % w, _⟩) = _
    rw [e1, e2]
  have hlt : ∀ (k : Fin n) (j : Fin w), w * k.val + j.val < M := by
    intro k j
    have h1 : w * (k.val + 1) ≤ w * n := Nat.mul_le_mul_left _ k.isLt
    have h2 := j.isLt
    rw [Nat.mul_add, Nat.mul_one] at h1
    omega
  have hemb : ∀ (k : Fin n) (r : Fin 128) (j : Fin w),
      (Rect.unit (s := ⟨2, ![128, M]⟩) ![0, w * k.val] (⟨2, ![128, w]⟩ : Shape).size (inb k)).emb (ix2 r j) = ix2 r ⟨w * k.val + j.val, hlt k j⟩ := by
    intro k r j
    refine (unit_emb (inb k) r j (by omega) (hlt k j)).trans ?_
    congr 1
    exact Fin.ext (Nat.zero_add _)
  rw [← hG k r j x hx]
  refine View.canon_apply_of_pieces G _ ?_ _ ?_
  · intro p hp y
    obtain ⟨k', _, rfl⟩ := List.mem_map.mp hp
    obtain ⟨r', j', rfl⟩ : ∃ (r' : Fin 128) (j' : Fin w), y = ix2 r' j' := ⟨y 0, y 1, eq_ix2 y⟩
    show T k' (ix2 r' j') = G ((Rect.unit (s := ⟨2, ![128, M]⟩) ![0, w * k'.val] (⟨2, ![128, w]⟩ : Shape).size (inb k')).emb (ix2 r' j'))
    rw [hemb]
    exact (hG k' r' j' _ rfl).symm
  · refine ⟨_, List.mem_map_of_mem hk, ?_⟩
    have h := hemb k r j
    have hx' : (⟨w * k.val + j.val, hlt k j⟩ : Fin M) = x := Fin.ext hx.symm
    rw [hx'] at h
    rw [← h]
    change _ ∈ (Rect.unit (s := ⟨2, ![128, M]⟩) ![0, w * k.val] (⟨2, ![128, w]⟩ : Shape).size (inb k)).set
    rw [← Rect.map_emb_univ]
    exact Finset.mem_map_of_mem _ (Finset.mem_univ _)

/-- A block read off a whole array. -/
theorem ld_unit {R M h w a b : ℕ} {α : Type} (X : (⟨2, ![R, M]⟩ : Shape).Idx → α)
    (inb : ∀ i, (![a, b] : Fin 2 → ℕ) i + (⟨2, ![h, w]⟩ : Shape).size i ≤ (⟨2, ![R, M]⟩ : Shape).size i)
    (r : Fin h) (j : Fin w) (x : Fin R) (y : Fin M) (hx : x.val = a + r.val) (hy : y.val = b + j.val) :
    X ((Rect.unit (s := ⟨2, ![R, M]⟩) ![a, b] (⟨2, ![h, w]⟩ : Shape).size inb).emb (ix2 r j)) = X (ix2 x y) := by
  rw [unit_emb inb r j (hx ▸ x.isLt) (hy ▸ y.isLt)]
  have e0 : (⟨a + r.val, hx ▸ x.isLt⟩ : Fin R) = x := Fin.ext hx.symm
  have e1 : (⟨b + j.val, hy ▸ y.isLt⟩ : Fin M) = y := Fin.ext hy.symm
  rw [e0, e1]

theorem first_eq (h : 0 < S1x1.numel) : Shape.Idx.first h = ix2 (0 : Fin 1) (0 : Fin 1) := by
  funext a
  match a with
  | ⟨0, _⟩ => exact Subsingleton.elim (α := Fin 1) _ _
  | ⟨1, _⟩ => exact Subsingleton.elim (α := Fin 1) _ _

section
variable (arg2 : Memref sig .tc .smem S64x352 .f32) (harg2 : arg2.IsWhole) (arg3 : Memref sig .tc .smem S64x176 .f32) (harg3 : arg3.IsWhole) (arg6 : Memref sig .tc .vmem S2048x1408 .fp8e4m3) (harg6 : arg6.IsWhole) (arg8 : Memref sig .tc .vmem S1408x2048 .fp8e4m3) (harg8 : arg8.IsWhole)
  (x0 : Vec Ideal S64x352 .f32) (x1 : Vec Ideal S64x176 .f32) (x4 : Vec Ideal S2048x1408 .fp8e4m3) (x6 : Vec Ideal S1408x2048 .fp8e4m3)

theorem wAt_apply (k : Fin 16) (f : Fin 11) (j c : Fin 128) : wAt arg6 harg6 x4 k f (ix2 j c) = x4 (ix2 (at16 k j) (at11 f c)) := by
  unfold wAt
  rw [View.readAt_eq_ld, harg6.read_unread]
  exact ld_unit x4 (winb k f) j c (at16 k j) (at11 f c) rfl rfl

theorem vAt_apply (f : Fin 11) (n : Fin 16) (j c : Fin 128) : vAt arg8 harg8 x6 f n (ix2 j c) = x6 (ix2 (at11 f j) (at16 n c)) := by
  unfold vAt
  rw [View.readAt_eq_ld, harg8.read_unread]
  exact ld_unit x6 (vinb f n) j c (at11 f j) (at16 n c) rfl rfl

theorem s1At_apply (e : ℕ) (he : e < 64) (n : Fin 352) : s1At arg2 harg2 x0 e he n = x0 (ix2 ⟨e, he⟩ n) := by
  unfold s1At
  rw [View.readAt_eq_ld, harg2.read_unread]
  refine (congrArg (View.ld x0 _) (first_eq _)).trans ?_
  exact ld_unit x0 (s1inb e he n) (0 : Fin 1) (0 : Fin 1) ⟨e, he⟩ n rfl rfl

theorem s2At_apply (e : ℕ) (he : e < 64) (n : Fin 176) : s2At arg3 harg3 x1 e he n = x1 (ix2 ⟨e, he⟩ n) := by
  unfold s2At
  rw [View.readAt_eq_ld, harg3.read_unread]
  refine (congrArg (View.ld x1 _) (first_eq _)).trans ?_
  exact ld_unit x1 (s2inb e he n) (0 : Fin 1) (0 : Fin 1) ⟨e, he⟩ n rfl rfl

theorem xTile_apply (k : Fin 16) (x3 : Vec Ideal S128x16 .f32) (x : Vec Ideal S128x128 .fp8e4m3) (r j : Fin 128) :
    xTile k x3 x (ix2 r j) = (x (ix2 r j) * x3 (ix2 r k) : EReal) := by
  unfold xTile
  pointwise
  rfl
end

variable (c : Dev nD) (i : grid0.Coords) (arg2 : Memref sig .tc .smem S64x352 .f32) (harg2 : arg2.IsWhole) (arg3 : Memref sig .tc .smem S64x176 .f32) (harg3 : arg3.IsWhole) (arg4 : Memref sig .tc .vmem S128x2048 .fp8e4m3) (harg4 : arg4.IsWhole) (arg5 : Memref sig .tc .vmem S128x16 .f32) (harg5 : arg5.IsWhole) (arg6 : Memref sig .tc .vmem S2048x1408 .fp8e4m3) (harg6 : arg6.IsWhole) (arg7 : Memref sig .tc .vmem S2048x1408 .fp8e4m3) (harg7 : arg7.IsWhole) (arg8 : Memref sig .tc .vmem S1408x2048 .fp8e4m3) (harg8 : arg8.IsWhole) (arg9 : Memref sig .tc .vmem S128x2048 .bf16) (harg9 : arg9.IsWhole) (arg10 : Memref sig .tc .vmem S128x1408 .fp8e4m3) (harg10 : arg10.IsWhole) (arg11 : Memref sig .tc .vmem S128x11 .f32) (harg11 : arg11.IsWhole) (arg12 : Memref sig .tc .vmem S128x2048 .bf16) (harg12 : arg12.IsWhole) (arg13 : Memref sig .tc .vmem S128x1408 .bf16) (harg13 : arg13.IsWhole)
    (x0 : Vec Ideal S64x352 .f32) (x1 : Vec Ideal S64x176 .f32) (x2 : Vec Ideal S128x2048 .fp8e4m3) (x3 : Vec Ideal S128x16 .f32) (x4 : Vec Ideal S2048x1408 .fp8e4m3) (x5 : Vec Ideal S2048x1408 .fp8e4m3) (x6 : Vec Ideal S1408x2048 .fp8e4m3) (xt0 : TbBuf0 (F := Ideal) c tbM0_0)
    (k0_hw1 : k0_chk1 (tbM0_0.view.readAt (Elt Ideal) (Rect.unit (s := S88) (k0_off1 i) S1.size (k0_off1_inb i)).toLoadRect xt0 (Shape.Idx.first (numel1_S1.symm ▸ Nat.one_pos))))

/-- Row `r` of the scaled input: entry `j` of tile `t`. -/
def row (r : Fin 128) (t : Fin 16) (j : Fin 128) : EReal := x2 (ix2 r (at16 t j)) * x3 (ix2 r t)

/-- The gate weights of one column: entry `j` of tile `t`, for column `c` of block `f`. -/
def gateW (e : Fin 64) (f : Fin 11) (c : Fin 128) (t : Fin 16) (j : Fin 128) : EReal :=
  x4 (ix2 (at16 t j) (at11 f c)) * x0 (ix2 e (gcol t f))

/-- The up weights of one column: entry `j` of tile `t`, for column `c` of block `f`. -/
def upW (e : Fin 64) (f : Fin 11) (c : Fin 128) (t : Fin 16) (j : Fin 128) : EReal :=
  x5 (ix2 (at16 t j) (at11 f c)) * x0 (ix2 e (ucol t f))

/-- The activation of row `r`: entry `c` of block `f`. -/
def hid (e : Fin 64) (r : Fin 128) (f : Fin 11) (c : Fin 128) : EReal :=
  Spec.act (Spec.dot (row x2 x3 r) (gateW x0 x4 e f c)) (Spec.dot (row x2 x3 r) (upW x0 x5 e f c))

/-- The second weights of one column: entry `j` of tile `f`, for column `c` of block `n`. -/
def outW (e : Fin 64) (n : Fin 16) (c : Fin 128) (f : Fin 11) (j : Fin 128) : EReal :=
  x6 (ix2 (at11 f j) (at16 n c)) * x1 (ix2 e (ocol f n))

/-- The stored scaled input. -/
theorem x_canon (r : Fin 128) (t : Fin 16) (j : Fin 128) (y : Fin 2048) (hy : y.val = 128 * t.val + j.val) :
    View.canon (kernelRun0_A.sl.HS0_16 c arg4 harg4 arg5 harg5 x2 x3) (ix2 r y) = row x2 x3 r t j := by
  rw [x_pieces]
  refine (canon_cols (n := 16) (w := 128) (M := 2048) rfl _ xinb _ t ((by decide : ∀ t : Fin 16, t ∈ _) t) r j y hy).trans ?_
  rw [xTile_apply, View.readAt_eq_ld, View.readAt_eq_ld, harg5.read_unread, harg4.read_unread]
  unfold row
  congr 1
  · exact ld_unit x2 (xinb t) r j r (at16 t j) (Nat.zero_add _).symm rfl
  · exact ld_unit x3 inb_S128x16_S128x16_0_0 r t r t (Nat.zero_add _).symm (Nat.zero_add _).symm

theorem xChunk_apply (k : Fin 8) (r : Fin 128) (d : Fin 256) (t : Fin 16) (j : Fin 128) (hd : 256 * k.val + d.val = 128 * t.val + j.val) :
    xChunk c arg4 harg4 arg5 harg5 arg12 x2 x3 k (ix2 r d) = row x2 x3 r t j := by
  unfold xChunk
  rw [View.readCov_eq_canon']
  refine (ld_unit _ (xinb2 k) r d r (⟨256 * k.val + d.val, by omega⟩ : Fin 2048) (Nat.zero_add _).symm rfl).trans ?_
  exact x_canon c arg4 harg4 arg5 harg5 x2 x3 r t j _ hd

theorem actAt_apply (f : Fin 11) (r d : Fin 128) :
    actAt c i arg2 harg2 arg4 harg4 arg5 harg5 arg6 harg6 arg7 harg7 arg12 x0 x2 x3 x4 x5 xt0 k0_hw1 f (ix2 r d)
      = hid x0 x2 x3 x4 x5 ⟨expert c i xt0, expert_lt c i xt0 k0_hw1⟩ r f d := by
  unfold actAt
  refine (act_acc_apply _ _ _ r d (row x2 x3 r)
    (fun k j => xChunk_apply c arg4 harg4 arg5 harg5 arg12 x2 x3 k r _ (lo k) j (by simp only [lo]; omega))
    (fun k j => xChunk_apply c arg4 harg4 arg5 harg5 arg12 x2 x3 k r _ (hi k) j (by simp only [hi]; omega))).trans ?_
  simp only [scaled_apply, wAt_apply, s1At_apply]
  rfl

/-- The stored codes. -/
theorem code_canon (r : Fin 128) (f : Fin 11) (d : Fin 128) :
    View.canon (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).2.1 (ix2 r (at11 f d))
      = Spec.code (hid x0 x2 x3 x4 x5 ⟨expert c i xt0, expert_lt c i xt0 k0_hw1⟩ r f) d := by
  rw [code_pieces]
  refine (canon_cols (n := 11) (w := 128) (M := 1408) rfl _ hinb _ f (by revert f; decide) r d _ rfl).trans ?_
  rw [codes_apply]
  simp only [actAt_apply]

/-- The stored tiles that the second product reads back. -/
theorem back_canon (r : Fin 128) (f : Fin 11) (d : Fin 128) (y : Fin 1408) (hy : y.val = 128 * f.val + d.val) :
    View.canon (kernelRun0_A.sl.HS1_11 c i arg2 harg2 arg4 harg4 arg5 harg5 arg6 harg6 arg7 harg7 arg12 x0 x2 x3 x4 x5 xt0 k0_hw1) (ix2 r y)
      = Spec.back (hid x0 x2 x3 x4 x5 ⟨expert c i xt0, expert_lt c i xt0 k0_hw1⟩ r f) d := by
  rw [back_pieces]
  refine (canon_cols (n := 11) (w := 128) (M := 1408) rfl _ hinb _ f ((by decide : ∀ f : Fin 11, f ∈ _) f) r d _ hy).trans ?_
  rw [back_apply]
  simp only [actAt_apply]

/-- The stored scales. -/
theorem scale_canon (r : Fin 128) (f : Fin 11) :
    View.canon (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).2.2.1 (ix2 r f)
      = Spec.scale (hid x0 x2 x3 x4 x5 ⟨expert c i xt0, expert_lt c i xt0 k0_hw1⟩ r f) := by
  rw [scale_pieces]
  refine (canon_cols (n := 1) (w := 11) (M := 11) (e := .f32) rfl (fun _ => scales (actAt c i arg2 harg2 arg4 harg4 arg5 harg5 arg6 harg6 arg7 harg7 arg12 x0 x2 x3 x4 x5 xt0 k0_hw1))
    (fun k => by obtain rfl : k = 0 := Subsingleton.elim _ _; exact inb_S128x11_S128x11_0_0) [0] 0 (List.mem_singleton.mpr rfl) r f f (Nat.zero_add _).symm).trans ?_
  rw [scales_apply]
  simp only [actAt_apply]

theorem hChunk_apply (k : Fin 5) (r : Fin 128) (d : Fin 256) (f : Fin 11) (j : Fin 128) (hd : 256 * k.val + d.val = 128 * f.val + j.val) :
    hChunk c i arg2 harg2 arg4 harg4 arg5 harg5 arg6 harg6 arg7 harg7 arg12 arg13 x0 x2 x3 x4 x5 xt0 k0_hw1 k (ix2 r d)
      = Spec.back (hid x0 x2 x3 x4 x5 ⟨expert c i xt0, expert_lt c i xt0 k0_hw1⟩ r f) j := by
  unfold hChunk
  rw [View.readCov_eq_canon']
  refine (ld_unit _ (hinb2 k) r d r (⟨256 * k.val + d.val, by omega⟩ : Fin 1408) (Nat.zero_add _).symm rfl).trans ?_
  exact back_canon c i arg2 harg2 arg4 harg4 arg5 harg5 arg6 harg6 arg7 harg7 arg12 x0 x2 x3 x4 x5 xt0 k0_hw1 r f j _ hd

theorem hLast_apply (r j : Fin 128) :
    hLast c i arg2 harg2 arg4 harg4 arg5 harg5 arg6 harg6 arg7 harg7 arg12 arg13 x0 x2 x3 x4 x5 xt0 k0_hw1 (ix2 r j)
      = Spec.back (hid x0 x2 x3 x4 x5 ⟨expert c i xt0, expert_lt c i xt0 k0_hw1⟩ r 10) j := by
  unfold hLast
  rw [View.readCov_eq_canon']
  refine (ld_unit _ inb_S128x1408_S128x128_0_1280 r j r (⟨1280 + j.val, by omega⟩ : Fin 1408) (Nat.zero_add _).symm rfl).trans ?_
  exact back_canon c i arg2 harg2 arg4 harg4 arg5 harg5 arg6 harg6 arg7 harg7 arg12 x0 x2 x3 x4 x5 xt0 k0_hw1 r 10 j _ rfl

/-- The stored output. -/
theorem out_canon (r : Fin 128) (n : Fin 16) (d : Fin 128) :
    View.canon (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1).1 (ix2 r (at16 n d))
      = Spec.dot (fun f => Spec.back (hid x0 x2 x3 x4 x5 ⟨expert c i xt0, expert_lt c i xt0 k0_hw1⟩ r f))
          (outW x1 x6 ⟨expert c i xt0, expert_lt c i xt0 k0_hw1⟩ n d) := by
  rw [out_pieces]
  have hl := fun (k : Fin 5) (j : Fin 128) => hChunk_apply c i arg2 harg2 arg4 harg4 arg5 harg5 arg6 harg6 arg7 harg7 arg12 arg13 x0 x2 x3 x4 x5 xt0 k0_hw1 k r ⟨j.val, by omega⟩ (lo' k) j (by simp only [lo']; omega)
  have hh := fun (k : Fin 5) (j : Fin 128) => hChunk_apply c i arg2 harg2 arg4 harg4 arg5 harg5 arg6 harg6 arg7 harg7 arg12 arg13 x0 x2 x3 x4 x5 xt0 k0_hw1 k r ⟨128 + j.val, by omega⟩ (hi' k) j (by simp only [hi']; omega)
  have hZ := fun (j : Fin 128) => hLast_apply c i arg2 harg2 arg4 harg4 arg5 harg5 arg6 harg6 arg7 harg7 arg12 arg13 x0 x2 x3 x4 x5 xt0 k0_hw1 r j
  obtain ⟨n', hn⟩ : ∃ n' : Fin 8, n = left n' ∨ n = right n' :=
    ⟨⟨n.val / 2, by omega⟩, by simp only [left, right, Fin.ext_iff]; omega⟩
  rcases hn with rfl | rfl
  · refine (canon_cols (n := 8) (w := 256) (M := 2048) rfl _ xinb2 _ n' (by revert n'; decide) r (⟨d.val, by omega⟩ : Fin 256) _
      (by simp only [at16, left]; omega)).trans ?_
    refine (out_left _ _ _ _ r d (fun f => Spec.back (hid x0 x2 x3 x4 x5 ⟨expert c i xt0, expert_lt c i xt0 k0_hw1⟩ r f)) hl hh hZ).trans ?_
    simp only [scaled_apply, vAt_apply, s2At_apply]
    rfl
  · refine (canon_cols (n := 8) (w := 256) (M := 2048) rfl _ xinb2 _ n' (by revert n'; decide) r (⟨128 + d.val, by omega⟩ : Fin 256) _
      (by simp only [at16, right]; omega)).trans ?_
    refine (out_right _ _ _ _ r d (fun f => Spec.back (hid x0 x2 x3 x4 x5 ⟨expert c i xt0, expert_lt c i xt0 k0_hw1⟩ r f)) hl hh hZ).trans ?_
    simp only [scaled_apply, vAt_apply, s2At_apply]
    rfl

/-- The run's output, read back. -/
theorem out_apply (r : Fin 128) (n : Fin 16) (d : Fin 128) :
    out0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 (ix2 r (at16 n d))
      = Spec.dot (fun f => Spec.back (hid x0 x2 x3 x4 x5 ⟨expert c i xt0, expert_lt c i xt0 k0_hw1⟩ r f)) (outW x1 x6 ⟨expert c i xt0, expert_lt c i xt0 k0_hw1⟩ n d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1)]
  exact out_canon c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 r n d

/-- The run's codes, read back. -/
theorem code_apply (r : Fin 128) (f : Fin 11) (d : Fin 128) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 (ix2 r (at11 f d)) = Spec.code (hid x0 x2 x3 x4 x5 ⟨expert c i xt0, expert_lt c i xt0 k0_hw1⟩ r f) d := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1)]
  exact code_canon c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 r f d

/-- The run's scales, read back. -/
theorem scale_apply' (r : Fin 128) (f : Fin 11) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 (ix2 r f) = Spec.scale (hid x0 x2 x3 x4 x5 ⟨expert c i xt0, expert_lt c i xt0 k0_hw1⟩ r f) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1)]
  exact scale_canon c i arg2 harg2 arg3 harg3 arg4 harg4 arg5 harg5 arg6 harg6 arg7 harg7 arg8 harg8 arg9 harg9 arg10 harg10 arg11 harg11 arg12 harg12 arg13 harg13 x0 x1 x2 x3 x4 x5 x6 xt0 k0_hw1 r f

end Cert.Proof.Tile
-- ==== Proof.Whole.lean ====
module

public import proofs.«01_k».proof.Proof.Spec
public import Idealize.ShloMosaic.Lib.Pointwise.Contract

@[expose] public section

/-! The layer's three results as functions of its argument arrays and of the expert of every row block:
what both programs compute. -/

noncomputable section

namespace Cert.Proof.Spec

open Idealize.ShloMosaic
open scoped BigOperators

/-- Row `r` of row block `s`. -/
def brow (s : Fin 88) (r : Fin 128) : Fin 11264 := ⟨128 * s.val + r.val, by omega⟩
/-- Gate column `y` of expert `e`. -/
def gateCol (e : Fin 64) (y : Fin 1408) : Fin 180224 := ⟨1408 * e.val + y.val, by omega⟩
/-- Up column `y` of expert `e`. -/
def upCol (e : Fin 64) (y : Fin 1408) : Fin 180224 := ⟨90112 + 1408 * e.val + y.val, by omega⟩
/-- Gate scale column `f` of expert `e`. -/
def gateScol (e : Fin 64) (f : Fin 11) : Fin 1408 := ⟨11 * e.val + f.val, by omega⟩
/-- Up scale column `f` of expert `e`. -/
def upScol (e : Fin 64) (f : Fin 11) : Fin 1408 := ⟨704 + 11 * e.val + f.val, by omega⟩
/-- Row `y` of expert `e` of the second matrix. -/
def outRow (e : Fin 64) (y : Fin 1408) : Fin 90112 := ⟨1408 * e.val + y.val, by omega⟩
/-- Scale row `f` of expert `e` of the second matrix. -/
def outSrow (e : Fin 64) (f : Fin 11) : Fin 704 := ⟨11 * e.val + f.val, by omega⟩

variable (A0 : (⟨2, ![11264, 2048]⟩ : Shape).Idx → EReal) (A1 : (⟨2, ![11264, 16]⟩ : Shape).Idx → EReal)
  (A2 : (⟨2, ![2048, 180224]⟩ : Shape).Idx → EReal) (A3 : (⟨2, ![16, 1408]⟩ : Shape).Idx → EReal)
  (A4 : (⟨2, ![90112, 2048]⟩ : Shape).Idx → EReal) (A5 : (⟨2, ![704, 16]⟩ : Shape).Idx → EReal) (q : Fin 88 → Fin 64)

/-- Row `r` of row block `s` of the scaled input: entry `j` of tile `t`. -/
def xRow (s : Fin 88) (r : Fin 128) (t : Fin 16) (j : Fin 128) : EReal :=
  A0 (ix2 (brow s r) (at16 t j)) * A1 (ix2 (brow s r) t)

/-- The gate weights of expert `e`, column `c` of block `f`: entry `j` of tile `t`. -/
def gateW (e : Fin 64) (f : Fin 11) (c : Fin 128) (t : Fin 16) (j : Fin 128) : EReal :=
  A2 (ix2 (at16 t j) (gateCol e (at11 f c))) * A3 (ix2 t (gateScol e f))

/-- The up weights of expert `e`, column `c` of block `f`: entry `j` of tile `t`. -/
def upW (e : Fin 64) (f : Fin 11) (c : Fin 128) (t : Fin 16) (j : Fin 128) : EReal :=
  A2 (ix2 (at16 t j) (upCol e (at11 f c))) * A3 (ix2 t (upScol e f))

/-- The activation of row `r` of row block `s`: entry `c` of block `f`. -/
def hidden (s : Fin 88) (r : Fin 128) (f : Fin 11) (c : Fin 128) : EReal :=
  act (dot (xRow A0 A1 s r) (gateW A2 A3 (q s) f c)) (dot (xRow A0 A1 s r) (upW A2 A3 (q s) f c))

/-- The second weights of expert `e`, column `c` of block `n`: entry `j` of tile `f`. -/
def outW (e : Fin 64) (n : Fin 16) (c : Fin 128) (f : Fin 11) (j : Fin 128) : EReal :=
  A4 (ix2 (outRow e (at11 f j)) (at16 n c)) * A5 (ix2 (outSrow e f) n)

/-- The row block of a row. -/
def blk (x : Fin 11264) : Fin 88 := ⟨x.val / 128, by omega⟩
/-- A row's place in its row block. -/
def sub (x : Fin 11264) : Fin 128 := ⟨x.val % 128, by omega⟩
/-- The tile of a column, of sixteen. -/
def blk16 (x : Fin 2048) : Fin 16 := ⟨x.val / 128, by omega⟩
/-- A column's place in its tile. -/
def sub16 (x : Fin 2048) : Fin 128 := ⟨x.val % 128, by omega⟩
/-- The tile of a column, of eleven. -/
def blk11 (x : Fin 1408) : Fin 11 := ⟨x.val / 128, by omega⟩
/-- A column's place in its tile. -/
def sub11 (x : Fin 1408) : Fin 128 := ⟨x.val % 128, by omega⟩

theorem brow_eq (x : Fin 11264) : brow (blk x) (sub x) = x := Fin.ext (Nat.div_add_mod _ _)
theorem at16_eq (x : Fin 2048) : at16 (blk16 x) (sub16 x) = x := Fin.ext (Nat.div_add_mod _ _)
theorem at11_eq (x : Fin 1408) : at11 (blk11 x) (sub11 x) = x := Fin.ext (Nat.div_add_mod _ _)
theorem blk_brow (s : Fin 88) (r : Fin 128) : blk (brow s r) = s :=
  Fin.ext (by show (128 * s.val + r.val) / 128 = s.val; omega)
theorem sub_brow (s : Fin 88) (r : Fin 128) : sub (brow s r) = r :=
  Fin.ext (by show (128 * s.val + r.val) % 128 = r.val; omega)
theorem blk_at16 (t : Fin 16) (j : Fin 128) : blk16 (at16 t j) = t :=
  Fin.ext (by show (128 * t.val + j.val) / 128 = t.val; omega)
theorem sub_at16 (t : Fin 16) (j : Fin 128) : sub16 (at16 t j) = j :=
  Fin.ext (by show (128 * t.val + j.val) % 128 = j.val; omega)
theorem blk_at11 (t : Fin 11) (j : Fin 128) : blk11 (at11 t j) = t :=
  Fin.ext (by show (128 * t.val + j.val) / 128 = t.val; omega)
theorem sub_at11 (t : Fin 11) (j : Fin 128) : sub11 (at11 t j) = j :=
  Fin.ext (by show (128 * t.val + j.val) % 128 = j.val; omega)

/-- The layer's output. -/
def outArr : (⟨2, ![11264, 2048]⟩ : Shape).Idx → EReal := fun y =>
  dot (fun f => back (hidden A0 A1 A2 A3 q (blk (y 0)) (sub (y 0)) f)) (outW A4 A5 (q (blk (y 0))) (blk16 (y 1)) (sub16 (y 1)))

/-- The hidden codes. -/
def codeArr : (⟨2, ![11264, 1408]⟩ : Shape).Idx → EReal := fun y =>
  code (hidden A0 A1 A2 A3 q (blk (y 0)) (sub (y 0)) (blk11 (y 1))) (sub11 (y 1))

/-- The hidden scales. -/
def scaleArr : (⟨2, ![11264, 11]⟩ : Shape).Idx → EReal := fun y =>
  scale (hidden A0 A1 A2 A3 q (blk (y 0)) (sub (y 0)) (y 1))

theorem outArr_apply (s : Fin 88) (r : Fin 128) (n : Fin 16) (c : Fin 128) :
    outArr A0 A1 A2 A3 A4 A5 q (ix2 (brow s r) (at16 n c))
      = dot (fun f => back (hidden A0 A1 A2 A3 q s r f)) (outW A4 A5 (q s) n c) := by
  unfold outArr
  rw [ix2_0, ix2_1, blk_brow, sub_brow, blk_at16, sub_at16]

theorem codeArr_apply (s : Fin 88) (r : Fin 128) (f : Fin 11) (c : Fin 128) :
    codeArr A0 A1 A2 A3 q (ix2 (brow s r) (at11 f c)) = code (hidden A0 A1 A2 A3 q s r f) c := by
  unfold codeArr
  rw [ix2_0, ix2_1, blk_brow, sub_brow, blk_at11, sub_at11]

theorem scaleArr_apply (s : Fin 88) (r : Fin 128) (f : Fin 11) :
    scaleArr A0 A1 A2 A3 q (ix2 (brow s r) f) = scale (hidden A0 A1 A2 A3 q s r f) := by
  unfold scaleArr
  rw [ix2_0, ix2_1, blk_brow, sub_brow]

end Cert.Proof.Spec
-- ==== Proof.Blocks.lean ====
module

public import proofs.«01_k».proof.Proof.Body
public import proofs.«01_k».proof.Proof.Whole
public import proofs.«01_k».proof.Proof.PreIdeal
public import Idealize.ShloMosaic.Lib.Pipeline.ValueKit.Geometry
public import Idealize.ShloMosaic.Lib.StableHlo.ReadAt

@[expose] public section

set_option maxRecDepth 16384

/-! The blocks that a grid point of the kernel is given, at an index, as entries of the argument arrays. -/

noncomputable section

namespace Cert.Proof.KernelIdeal

open Idealize.ShloMosaic Idealize.ShloMosaic.TcCoe Idealize.ShloMosaic.Tactic
open Cert.KernelIdeal Cert.KernelIdeal.Gen
open Cert.Proof.Spec
open Cert.Proof.Tile (gcol ucol ocol)

variable {m : (ℓ : Loc nD τ sig) → Buf (Elt Ideal) ℓ} (hO : Ok m) {q : Fin 88 → Fin 64} (h : Routed m q)

/-- The row block of grid point `t`. -/
def pt (t : Fin (cfgM m hO).N) : Fin 88 := grid0.coords t 0

theorem index_0 (t : Fin (cfgM m hO).N) : ((cfgM m hO).win 0).index t = ![0, 0] :=
  (by decide +kernel : ∀ i : grid0.Coords, cc0_transform_0 i = ![0, 0]) (grid0.coords t)
theorem index_1 (t : Fin (cfgM m hO).N) : ((cfgM m hO).win 1).index t = ![0, 0] :=
  (by decide +kernel : ∀ i : grid0.Coords, cc0_transform_1 i = ![0, 0]) (grid0.coords t)
theorem index_2 (t : Fin (cfgM m hO).N) : ((cfgM m hO).win 2).index t = ![(pt hO t).val, 0] :=
  (by decide +kernel : ∀ i : grid0.Coords, cc0_transform_2 i = ![(i 0).val, 0]) (grid0.coords t)
theorem index_3 (t : Fin (cfgM m hO).N) : ((cfgM m hO).win 3).index t = ![(pt hO t).val, 0] :=
  (by decide +kernel : ∀ i : grid0.Coords, cc0_transform_3 i = ![(i 0).val, 0]) (grid0.coords t)
include h in
theorem index_4 (t : Fin (cfgM m hO).N) : ((cfgM m hO).win 4).index t = ![0, (q (pt hO t)).val] :=
  transform_4 h (grid0.coords t)
include h in
theorem index_5 (t : Fin (cfgM m hO).N) : ((cfgM m hO).win 5).index t = ![0, 64 + (q (pt hO t)).val] :=
  transform_5 h (grid0.coords t)
include h in
theorem index_6 (t : Fin (cfgM m hO).N) : ((cfgM m hO).win 6).index t = ![(q (pt hO t)).val, 0] :=
  transform_6 h (grid0.coords t)
theorem index_7 (t : Fin (cfgM m hO).N) : ((cfgM m hO).win 7).index t = ![(pt hO t).val, 0] :=
  (by decide +kernel : ∀ i : grid0.Coords, cc0_transform_7 i = ![(i 0).val, 0]) (grid0.coords t)
theorem index_8 (t : Fin (cfgM m hO).N) : ((cfgM m hO).win 8).index t = ![(pt hO t).val, 0] :=
  (by decide +kernel : ∀ i : grid0.Coords, cc0_transform_8 i = ![(i 0).val, 0]) (grid0.coords t)
theorem index_9 (t : Fin (cfgM m hO).N) : ((cfgM m hO).win 9).index t = ![(pt hO t).val, 0] :=
  (by decide +kernel : ∀ i : grid0.Coords, cc0_transform_9 i = ![(i 0).val, 0]) (grid0.coords t)

theorem emb_0 (t : Fin (cfgM m hO).N) (e : Fin 64) (n : Fin 352) :
    (((cfgM m hO).win 0).blk t).view.emb (ix2 e n) = ix2 e n := by
  funext a
  apply Fin.ext
  match a with
  | ⟨0, _⟩ => blk_simp; rw [index_0 hO t]; change 0 * _ + _ = _; rw [Nat.zero_mul]; exact Nat.zero_add _
  | ⟨1, _⟩ => blk_simp; rw [index_0 hO t]; change 0 * _ + _ = _; rw [Nat.zero_mul]; exact Nat.zero_add _
theorem emb_1 (t : Fin (cfgM m hO).N) (e : Fin 64) (n : Fin 176) :
    (((cfgM m hO).win 1).blk t).view.emb (ix2 e n) = ix2 e n := by
  funext a
  apply Fin.ext
  match a with
  | ⟨0, _⟩ => blk_simp; rw [index_1 hO t]; change 0 * _ + _ = _; rw [Nat.zero_mul]; exact Nat.zero_add _
  | ⟨1, _⟩ => blk_simp; rw [index_1 hO t]; change 0 * _ + _ = _; rw [Nat.zero_mul]; exact Nat.zero_add _
theorem emb_2 (t : Fin (cfgM m hO).N) (r : Fin 128) (y : Fin 2048) :
    (((cfgM m hO).win 2).blk t).view.emb (ix2 r y) = ix2 (brow (pt hO t) r) y := by
  funext a
  apply Fin.ext
  match a with
  | ⟨0, _⟩ => blk_simp; rw [index_2 hO t]; change (pt hO t).val * 128 + r.val = 128 * (pt hO t).val + r.val; omega
  | ⟨1, _⟩ => blk_simp; rw [index_2 hO t]; change 0 * _ + _ = _; rw [Nat.zero_mul]; exact Nat.zero_add _
theorem emb_3 (t : Fin (cfgM m hO).N) (r : Fin 128) (y : Fin 16) :
    (((cfgM m hO).win 3).blk t).view.emb (ix2 r y) = ix2 (brow (pt hO t) r) y := by
  funext a
  apply Fin.ext
  match a with
  | ⟨0, _⟩ => blk_simp; rw [index_3 hO t]; change (pt hO t).val * 128 + r.val = 128 * (pt hO t).val + r.val; omega
  | ⟨1, _⟩ => blk_simp; rw [index_3 hO t]; change 0 * _ + _ = _; rw [Nat.zero_mul]; exact Nat.zero_add _
include h in
theorem emb_4 (t : Fin (cfgM m hO).N) (x : Fin 2048) (y : Fin 1408) :
    (((cfgM m hO).win 4).blk t).view.emb (ix2 x y) = ix2 x (gateCol (q (pt hO t)) y) := by
  funext a
  apply Fin.ext
  match a with
  | ⟨0, _⟩ => blk_simp; rw [index_4 hO h t]; change 0 * _ + _ = _; rw [Nat.zero_mul]; exact Nat.zero_add _
  | ⟨1, _⟩ => blk_simp; rw [index_4 hO h t]; change (q (pt hO t)).val * 1408 + y.val = 1408 * (q (pt hO t)).val + y.val; omega
include h in
theorem emb_5 (t : Fin (cfgM m hO).N) (x : Fin 2048) (y : Fin 1408) :
    (((cfgM m hO).win 5).blk t).view.emb (ix2 x y) = ix2 x (upCol (q (pt hO t)) y) := by
  funext a
  apply Fin.ext
  match a with
  | ⟨0, _⟩ => blk_simp; rw [index_5 hO h t]; change 0 * _ + _ = _; rw [Nat.zero_mul]; exact Nat.zero_add _
  | ⟨1, _⟩ => blk_simp; rw [index_5 hO h t]; change (64 + (q (pt hO t)).val) * 1408 + y.val = 90112 + 1408 * (q (pt hO t)).val + y.val; omega
include h in
theorem emb_6 (t : Fin (cfgM m hO).N) (x : Fin 1408) (y : Fin 2048) :
    (((cfgM m hO).win 6).blk t).view.emb (ix2 x y) = ix2 (outRow (q (pt hO t)) x) y := by
  funext a
  apply Fin.ext
  match a with
  | ⟨0, _⟩ => blk_simp; rw [index_6 hO h t]; change (q (pt hO t)).val * 1408 + x.val = 1408 * (q (pt hO t)).val + x.val; omega
  | ⟨1, _⟩ => blk_simp; rw [index_6 hO h t]; change 0 * _ + _ = _; rw [Nat.zero_mul]; exact Nat.zero_add _
theorem emb_7 (t : Fin (cfgM m hO).N) (r : Fin 128) (y : Fin 2048) :
    (((cfgM m hO).win 7).blk t).view.emb (ix2 r y) = ix2 (brow (pt hO t) r) y := by
  funext a
  apply Fin.ext
  match a with
  | ⟨0, _⟩ => blk_simp; rw [index_7 hO t]; change (pt hO t).val * 128 + r.val = 128 * (pt hO t).val + r.val; omega
  | ⟨1, _⟩ => blk_simp; rw [index_7 hO t]; change 0 * _ + _ = _; rw [Nat.zero_mul]; exact Nat.zero_add _
theorem emb_8 (t : Fin (cfgM m hO).N) (r : Fin 128) (y : Fin 1408) :
    (((cfgM m hO).win 8).blk t).view.emb (ix2 r y) = ix2 (brow (pt hO t) r) y := by
  funext a
  apply Fin.ext
  match a with
  | ⟨0, _⟩ => blk_simp; rw [index_8 hO t]; change (pt hO t).val * 128 + r.val = 128 * (pt hO t).val + r.val; omega
  | ⟨1, _⟩ => blk_simp; rw [index_8 hO t]; change 0 * _ + _ = _; rw [Nat.zero_mul]; exact Nat.zero_add _
theorem emb_9 (t : Fin (cfgM m hO).N) (r : Fin 128) (y : Fin 11) :
    (((cfgM m hO).win 9).blk t).view.emb (ix2 r y) = ix2 (brow (pt hO t) r) y := by
  funext a
  apply Fin.ext
  match a with
  | ⟨0, _⟩ => blk_simp; rw [index_9 hO t]; change (pt hO t).val * 128 + r.val = 128 * (pt hO t).val + r.val; omega
  | ⟨1, _⟩ => blk_simp; rw [index_9 hO t]; change 0 * _ + _ = _; rw [Nat.zero_mul]; exact Nat.zero_add _

variable (m) in
/-- The argument arrays, as functions of an index. -/
abbrev a0 : S11264x2048.Idx → EReal := m (((0 : Dev nD) : Thread nD τ).loc main_arg0)
variable (m) in
abbrev a1 : S11264x16.Idx → EReal := m (((0 : Dev nD) : Thread nD τ).loc main_arg1)
variable (m) in
abbrev a2 : S2048x180224.Idx → EReal := m (((0 : Dev nD) : Thread nD τ).loc main_arg2)
variable (m) in
abbrev a3 : S16x1408.Idx → EReal := m (((0 : Dev nD) : Thread nD τ).loc main_arg3)
variable (m) in
abbrev a4 : S90112x2048.Idx → EReal := m (((0 : Dev nD) : Thread nD τ).loc main_arg4)
variable (m) in
abbrev a5 : S704x16.Idx → EReal := m (((0 : Dev nD) : Thread nD τ).loc main_arg5)

/-- The first scale table at a gate place. -/
theorem s1_gate (e : Fin 64) (t : Fin 16) (f : Fin 11) :
    (V m 0 main_v5 : S64x352.Idx → EReal) (ix2 e (gcol t f)) = a3 m (ix2 t (gateScol e f)) := by
  unfold V
  after_reads_at
  refine congrArg (a3 m) (congrArg₂ ix2 (Fin.ext ?_) (Fin.ext ?_)) <;>
    simp only [gcol, ucol, ocol, gateScol, upScol, outSrow] <;> omega

/-- The first scale table at an up place. -/
theorem s1_up (e : Fin 64) (t : Fin 16) (f : Fin 11) :
    (V m 0 main_v5 : S64x352.Idx → EReal) (ix2 e (ucol t f)) = a3 m (ix2 t (upScol e f)) := by
  unfold V
  after_reads_at
  refine congrArg (a3 m) (congrArg₂ ix2 (Fin.ext ?_) (Fin.ext ?_)) <;>
    simp only [gcol, ucol, ocol, gateScol, upScol, outSrow] <;> omega

/-- The second scale table. -/
theorem s2_at (e : Fin 64) (f : Fin 11) (n : Fin 16) :
    (V m 0 main_v6 : S64x176.Idx → EReal) (ix2 e (ocol f n)) = a5 m (ix2 (outSrow e f) n) := by
  unfold V
  after_reads_at
  refine congrArg (a5 m) (congrArg₂ ix2 (Fin.ext ?_) (Fin.ext ?_)) <;>
    simp only [gcol, ucol, ocol, gateScol, upScol, outSrow] <;> omega

theorem iblk_0 (t : Fin (cfgM m hO).N) (e : Fin 64) (n : Fin 352) :
    iblk m hO 0 0 t (ix2 e n) = (V m 0 main_v5 : S64x352.Idx → EReal) (ix2 e n) := by
  blk_simp [iblk]
  exact congrArg (V m 0 main_v5 : S64x352.Idx → EReal) (emb_0 hO t e n)
theorem iblk_1 (t : Fin (cfgM m hO).N) (e : Fin 64) (n : Fin 176) :
    iblk m hO 0 1 t (ix2 e n) = (V m 0 main_v6 : S64x176.Idx → EReal) (ix2 e n) := by
  blk_simp [iblk]
  exact congrArg (V m 0 main_v6 : S64x176.Idx → EReal) (emb_1 hO t e n)
theorem iblk_2 (t : Fin (cfgM m hO).N) (r : Fin 128) (y : Fin 2048) :
    iblk m hO 0 2 t (ix2 r y) = a0 m (ix2 (brow (pt hO t) r) y) := by
  blk_simp [iblk]
  exact (congrFun (V_main_arg0 m 0) _).trans (congrArg (a0 m) (emb_2 hO t r y))
theorem iblk_3 (t : Fin (cfgM m hO).N) (r : Fin 128) (y : Fin 16) :
    iblk m hO 0 3 t (ix2 r y) = a1 m (ix2 (brow (pt hO t) r) y) := by
  blk_simp [iblk]
  exact (congrFun (V_main_arg1 m 0) _).trans (congrArg (a1 m) (emb_3 hO t r y))
include h in
theorem iblk_4 (t : Fin (cfgM m hO).N) (x : Fin 2048) (y : Fin 1408) :
    iblk m hO 0 4 t (ix2 x y) = a2 m (ix2 x (gateCol (q (pt hO t)) y)) := by
  blk_simp [iblk]
  exact (congrFun (V_main_arg2 m 0) _).trans (congrArg (a2 m) (emb_4 hO h t x y))
include h in
theorem iblk_5 (t : Fin (cfgM m hO).N) (x : Fin 2048) (y : Fin 1408) :
    iblk m hO 0 5 t (ix2 x y) = a2 m (ix2 x (upCol (q (pt hO t)) y)) := by
  blk_simp [iblk]
  exact (congrFun (V_main_arg2 m 0) _).trans (congrArg (a2 m) (emb_5 hO h t x y))
include h in
theorem iblk_6 (t : Fin (cfgM m hO).N) (x : Fin 1408) (y : Fin 2048) :
    iblk m hO 0 6 t (ix2 x y) = a4 m (ix2 (outRow (q (pt hO t)) x) y) := by
  blk_simp [iblk]
  exact (congrFun (V_main_arg4 m 0) _).trans (congrArg (a4 m) (emb_6 hO h t x y))

end Cert.Proof.KernelIdeal
-- ==== Proof.Arrays.lean ====
module

public import proofs.«01_k».proof.Proof.Blocks

@[expose] public section

set_option maxRecDepth 16384

/-! The kernel's three result arrays after its run. -/

noncomputable section

namespace Cert.Proof.KernelIdeal

open Idealize.ShloMosaic Idealize.ShloMosaic.TcCoe Idealize.ShloMosaic.Tactic
open Cert.KernelIdeal Cert.KernelIdeal.Gen
open Cert.Proof.Spec

variable {m : (ℓ : Loc nD τ sig) → Buf (Elt Ideal) ℓ} (hO : Ok m) (hH : Hyps m hO) {q : Fin 88 → Fin 64} (h : Routed m q)

theorem exists_out (y : S128x2048.Idx) : ∃ (r : Fin 128) (n : Fin 16) (c : Fin 128), y = ix2 r (at16 n c) :=
  ⟨y 0, blk16 (y 1), sub16 (y 1), (eq_ix2 y).trans (congrArg (ix2 (y 0)) (at16_eq (y 1)).symm)⟩
theorem exists_code (y : S128x1408.Idx) : ∃ (r : Fin 128) (f : Fin 11) (c : Fin 128), y = ix2 r (at11 f c) :=
  ⟨y 0, blk11 (y 1), sub11 (y 1), (eq_ix2 y).trans (congrArg (ix2 (y 0)) (at11_eq (y 1)).symm)⟩
theorem exists_scale (y : S128x11.Idx) : ∃ (r : Fin 128) (f : Fin 11), y = ix2 r f := ⟨y 0, y 1, eq_ix2 y⟩

include h in
/-- The expert that the body reads at a grid point. -/
theorem expert_eq (t : Fin (cfgM m hO).N) (he) :
    (⟨Tile.expert 0 (grid0.coords t) (tbl m 0), he⟩ : Fin 64) = q (pt hO t) := by
  apply Fin.ext
  have e := table_at h (grid0.coords t) (k0_off1_inb (grid0.coords t)) numel1_S1
  refine (congrArg (fun w : BitVec 32 => (Scalar.indexCast w).toNat) e).trans ?_
  change _ = (q (grid0.coords t 0)).val
  generalize q (grid0.coords t 0) = n
  revert n
  decide +kernel

include h in
/-- The activation at a grid point. -/
theorem hid_eq (t : Fin (cfgM m hO).N) (he) (r : Fin 128) (f : Fin 11) (c : Fin 128) :
    Tile.hid (iblk m hO 0 0 t) (iblk m hO 0 2 t) (iblk m hO 0 3 t) (iblk m hO 0 4 t) (iblk m hO 0 5 t)
        ⟨Tile.expert 0 (grid0.coords t) (tbl m 0), he⟩ r f c
      = Spec.hidden (a0 m) (a1 m) (a2 m) (a3 m) q (pt hO t) r f c := by
  rw [expert_eq hO h t]
  unfold Tile.hid Spec.hidden
  have eX : Tile.row (iblk m hO 0 2 t) (iblk m hO 0 3 t) r = xRow (a0 m) (a1 m) (pt hO t) r := by
    funext k j
    exact congrArg₂ (fun a b : EReal => a * b) (iblk_2 hO t r (at16 k j)) (iblk_3 hO t r k)
  have eG : Tile.gateW (iblk m hO 0 0 t) (iblk m hO 0 4 t) (q (pt hO t)) f c = gateW (a2 m) (a3 m) (q (pt hO t)) f c := by
    funext k j
    exact congrArg₂ (fun a b : EReal => a * b) (iblk_4 hO h t (at16 k j) (at11 f c)) ((iblk_0 hO t _ _).trans (s1_gate _ k f))
  have eU : Tile.upW (iblk m hO 0 0 t) (iblk m hO 0 5 t) (q (pt hO t)) f c = upW (a2 m) (a3 m) (q (pt hO t)) f c := by
    funext k j
    exact congrArg₂ (fun a b : EReal => a * b) (iblk_5 hO h t (at16 k j) (at11 f c)) ((iblk_0 hO t _ _).trans (s1_up _ k f))
  rw [eX, eG, eU]

include h in
/-- The second weights at a grid point. -/
theorem outW_eq (t : Fin (cfgM m hO).N) (he) (n : Fin 16) (c : Fin 128) :
    Tile.outW (iblk m hO 0 1 t) (iblk m hO 0 6 t) ⟨Tile.expert 0 (grid0.coords t) (tbl m 0), he⟩ n c
      = outW (a4 m) (a5 m) (q (pt hO t)) n c := by
  rw [expert_eq hO h t]
  funext f j
  exact congrArg₂ (fun a b : EReal => a * b) (iblk_6 hO h t (at11 f j) (at16 n c)) ((iblk_1 hO t _ _).trans (s2_at _ f n))

include h in
/-- What a grid point leaves of the output. -/
theorem point_out (t : Fin (cfgM m hO).N) (r : Fin 128) (n : Fin 16) (c : Fin 128) :
    (outsAt0 m hO hH 0 t).1 (ix2 r (at16 n c))
      = dot (fun f => back (Spec.hidden (a0 m) (a1 m) (a2 m) (a3 m) q (pt hO t) r f)) (outW (a4 m) (a5 m) (q (pt hO t)) n c) := by
  unfold outsAt0
  dsimp only
  refine (Tile.out_apply 0 (grid0.coords t) _ _ _ _ _ _ _ _ _ _ _ _ _ _ _ _ _ _ _ _ _ _ _ _ _ _ _ _ _ _ _ _ _ r n c).trans ?_
  exact congrArg₂ dot (funext fun f => congrArg back (funext fun x => hid_eq hO h t _ r f x)) (outW_eq hO h t _ n c)

include h in
/-- What a grid point leaves of the codes. -/
theorem point_code (t : Fin (cfgM m hO).N) (r : Fin 128) (f : Fin 11) (c : Fin 128) :
    (outsAt0 m hO hH 0 t).2.1 (ix2 r (at11 f c)) = code (Spec.hidden (a0 m) (a1 m) (a2 m) (a3 m) q (pt hO t) r f) c := by
  unfold outsAt0
  dsimp only
  refine (Tile.code_apply 0 (grid0.coords t) _ _ _ _ _ _ _ _ _ _ _ _ _ _ _ _ _ _ _ _ _ _ _ _ _ _ _ _ _ _ _ _ _ r f c).trans ?_
  exact congrFun (congrArg code (funext fun x => hid_eq hO h t _ r f x)) c

include h in
/-- What a grid point leaves of the scales. -/
theorem point_scale (t : Fin (cfgM m hO).N) (r : Fin 128) (f : Fin 11) :
    (outsAt0 m hO hH 0 t).2.2 (ix2 r f) = scale (Spec.hidden (a0 m) (a1 m) (a2 m) (a3 m) q (pt hO t) r f) := by
  unfold outsAt0
  dsimp only
  refine (Tile.scale_apply' 0 (grid0.coords t) _ _ _ _ _ _ _ _ _ _ _ _ _ _ _ _ _ _ _ _ _ _ _ _ _ _ _ _ _ _ _ _ _ r f).trans ?_
  exact congrArg scale (funext fun x => hid_eq hO h t _ r f x)

include h in
/-- The layer's output after the run. -/
theorem final_out : ((dats m hO hH 0 0).arrAt 7 (cfgM m hO).N : S11264x2048.Idx → EReal)
    = outArr (a0 m) (a1 m) (a2 m) (a3 m) (a4 m) (a5 m) q := by
  refine (dats m hO hH 0 0).arrAt_eq_of_covers 7 _ (of_decide_eq_true (by sl_kernel_rfl)) fun t hf y => ?_
  blk_simp
  rw [after0_7]
  obtain ⟨r, n, c, rfl⟩ : ∃ (r : Fin 128) (n : Fin 16) (c : Fin 128), y = ix2 r (at16 n c) := exists_out y
  refine Eq.trans ?_ (congrArg (outArr (a0 m) (a1 m) (a2 m) (a3 m) (a4 m) (a5 m) q) (emb_7 hO t r (at16 n c))).symm
  rw [outArr_apply]
  exact point_out hO hH h t r n c

include h in
/-- The hidden codes after the run. -/
theorem final_codes : ((dats m hO hH 0 0).arrAt 8 (cfgM m hO).N : S11264x1408.Idx → EReal)
    = codeArr (a0 m) (a1 m) (a2 m) (a3 m) q := by
  refine (dats m hO hH 0 0).arrAt_eq_of_covers 8 _ (of_decide_eq_true (by sl_kernel_rfl)) fun t hf y => ?_
  blk_simp
  rw [after0_8]
  obtain ⟨r, f, c, rfl⟩ : ∃ (r : Fin 128) (f : Fin 11) (c : Fin 128), y = ix2 r (at11 f c) := exists_code y
  refine Eq.trans ?_ (congrArg (codeArr (a0 m) (a1 m) (a2 m) (a3 m) q) (emb_8 hO t r (at11 f c))).symm
  rw [codeArr_apply]
  exact point_code hO hH h t r f c

include h in
/-- The hidden scales after the run. -/
theorem final_scales : ((dats m hO hH 0 0).arrAt 9 (cfgM m hO).N : S11264x11.Idx → EReal)
    = scaleArr (a0 m) (a1 m) (a2 m) (a3 m) q := by
  refine (dats m hO hH 0 0).arrAt_eq_of_covers 9 _ (of_decide_eq_true (by sl_kernel_rfl)) fun t hf y => ?_
  blk_simp
  rw [after0_9]
  obtain ⟨r, f, rfl⟩ : ∃ (r : Fin 128) (f : Fin 11), y = ix2 r f := exists_scale y
  refine Eq.trans ?_ (congrArg (scaleArr (a0 m) (a1 m) (a2 m) (a3 m) q) (emb_9 hO t r f)).symm
  rw [scaleArr_apply]
  exact point_scale hO hH h t r f

end Cert.Proof.KernelIdeal
-- ==== Proof.RefBody.lean ====
module

public import proofs.«01_k».proof.Proof.Whole
public import proofs.«01_k».proof.Proof.Gen.ReferenceIdeal.Frame
public import Idealize.ShloMosaic.Lib.Pointwise.Contract
public import Idealize.ShloMosaic.Lib.Pointwise.Reduce
public import Idealize.ShloMosaic.Lib.StableHlo.ReadAt

@[expose] public section

set_option maxRecDepth 16384

/-! What the reference's one body leaves in its three results, at an index, as a function of its eight inputs. -/

noncomputable section

namespace Cert.Proof.Ref

open Idealize.ShloMosaic Idealize.ShloMosaic.TcCoe
open Cert.ReferenceIdeal Cert.ReferenceIdeal.Gen
open Cert.Proof.Spec (at16 at11)
open scoped BigOperators

variable (x0 : Vec Ideal S88x128x2048 .fp8e4m3) (x1 : Vec Ideal S88x128x2048 .bf16) (x2 : Vec Ideal S88x2048x1408 .fp8e4m3) (x3 : Vec Ideal S88x2048x1408 .bf16)
  (x4 : Vec Ideal S88x2048x1408 .fp8e4m3) (x5 : Vec Ideal S88x2048x1408 .bf16) (x6 : Vec Ideal S88x1408x2048 .fp8e4m3) (x7 : Vec Ideal S88x1408x2048 .bf16)

/-- A sum over 2048 is a sum over sixteen blocks of 128. -/
theorem sum16 (g : Fin 2048 → EReal) : ∑ k, g k = ∑ t : Fin 16, ∑ j : Fin 128, g (at16 t j) := by
  rw [← Finset.sum_product' (s := Finset.univ) (t := Finset.univ) (f := fun (t : Fin 16) (j : Fin 128) => g (at16 t j)), Finset.univ_product_univ]
  exact (Fintype.sum_equiv
    ⟨fun p : Fin 16 × Fin 128 => at16 p.1 p.2, fun k => (Spec.blk16 k, Spec.sub16 k),
      fun p => Prod.ext (Spec.blk_at16 p.1 p.2) (Spec.sub_at16 p.1 p.2), Spec.at16_eq⟩ _ _ fun _ => rfl).symm

/-- A sum over 1408 is a sum over eleven blocks of 128. -/
theorem sum11 (g : Fin 1408 → EReal) : ∑ k, g k = ∑ t : Fin 11, ∑ j : Fin 128, g (at11 t j) := by
  rw [← Finset.sum_product' (s := Finset.univ) (t := Finset.univ) (f := fun (t : Fin 11) (j : Fin 128) => g (at11 t j)), Finset.univ_product_univ]
  exact (Fintype.sum_equiv
    ⟨fun p : Fin 11 × Fin 128 => at11 p.1 p.2, fun k => (Spec.blk11 k, Spec.sub11 k),
      fun p => Prod.ext (Spec.blk_at11 p.1 p.2) (Spec.sub_at11 p.1 p.2), Spec.at11_eq⟩ _ _ fun _ => rfl).symm

theorem ofBits_zero : (FloatOps.ofBits (F := Ideal) .f32 0x00000000#32 : EReal) = 0 := Ideal.ofBits_zero_f32

/-- Row `r` of row block `s` of the scaled input: entry `j` of tile `t`. -/
def row (s : Fin 88) (r : Fin 128) (t : Fin 16) (j : Fin 128) : EReal := x0 (ix3 s r (at16 t j)) * x1 (ix3 s r (at16 t j))

/-- A scaled weight matrix of row block `s`, column `c` of block `f`: entry `j` of tile `t`. -/
def wcol (s : Fin 88) (f : Fin 11) (c : Fin 128) (t : Fin 16) (j : Fin 128) : EReal :=
  x2 (ix3 s (at16 t j) (at11 f c)) * x3 (ix3 s (at16 t j) (at11 f c))

/-- The activation of row `r` of row block `s`: entry `c` of block `f`. -/
def hid (s : Fin 88) (r : Fin 128) (f : Fin 11) (c : Fin 128) : EReal :=
  Spec.act (Spec.dot (row x0 x1 s r) (wcol x2 x3 s f c)) (Spec.dot (row x0 x1 s r) (wcol x4 x5 s f c))

/-- The scaled second weights of row block `s`, column `c` of block `n`: entry `j` of tile `f`. -/
def vcol (s : Fin 88) (n : Fin 16) (c : Fin 128) (f : Fin 11) (j : Fin 128) : EReal :=
  x6 (ix3 s (at11 f j) (at16 n c)) * x7 (ix3 s (at11 f j) (at16 n c))

theorem at11_mul (f : Fin 11) (c : Fin 128) (h) : (⟨f.val * 128 + c.val, h⟩ : Fin 1408) = at11 f c :=
  Fin.ext (by show f.val * 128 + c.val = 128 * f.val + c.val; omega)

/-- The activation before its reshape, at an index. -/
theorem act_apply (g u : FVec Ideal S88x128x1408 .f32) (s : Fin 88) (r : Fin 128) (f : Fin 11) (c : Fin 128) :
    shapeCast S88x128x11x128 (mulf (mulf g (logistic g)) u) shapeCasts_S88x128x1408_S88x128x11x128 (ix4 s r f c)
      = Spec.act (g (ix3 s r (at11 f c))) (u (ix3 s r (at11 f c))) := by
  pointwise
  simp only [at11_mul]
  rfl

/-- A product of the scaled input and a scaled weight matrix, at an index. -/
theorem dot_apply (s : Fin 88) (r : Fin 128) (f : Fin 11) (c : Fin 128) :
    matmul dot_S88x128x2048_S88x2048x1408_S88x128x1408_2_1_1_2_0_0 none
        (mulf (extf .bf16 (shapeCast S88x128x2048 x0 shapeCasts_S88x128x2048_S88x128x2048) bitsLt_fp8e4m3_bf16)
          (shapeCast S88x128x2048 x1 shapeCasts_S88x128x2048_S88x128x2048) : FVec Ideal S88x128x2048 .bf16)
        (mulf (extf .bf16 (shapeCast S88x2048x1408 x2 shapeCasts_S88x2048x1408_S88x2048x1408) bitsLt_fp8e4m3_bf16)
          (shapeCast S88x2048x1408 x3 shapeCasts_S88x2048x1408_S88x2048x1408) : FVec Ideal S88x2048x1408 .bf16)
        (constant S88x128x1408 .f32 0x00000000#32) (ix3 s r (at11 f c))
      = Spec.dot (row x0 x1 s r) (wcol x2 x3 s f c) := by
  pointwise
  rw [ofBits_zero, zero_add]
  exact sum16 fun k => (x0 (ix3 s r k) * x1 (ix3 s r k)) * (x2 (ix3 s k (at11 f c)) * x3 (ix3 s k (at11 f c)) : EReal)

/-- The activations. -/
theorem pay2_apply (s : Fin 88) (r : Fin 128) (f : Fin 11) (c : Fin 128) :
    k0_pay2 x0 x1 x2 x3 x4 x5 (ix4 s r f c) = hid x0 x1 x2 x3 x4 x5 s r f c := by
  unfold k0_pay2
  refine (act_apply _ _ s r f c).trans ?_
  rw [dot_apply, dot_apply]
  rfl

/-- A maximum over the last of four axes, at an index. -/
theorem max_last {n0 n1 n2 n3 : ℕ} (v : FVec Ideal ⟨4, ![n0, n1, n2, n3]⟩ .f32) (acc : BitVec 32)
    (hr : (⟨4, ![n0, n1, n2, n3]⟩ : Shape).Reduces [3] ⟨3, ![n0, n1, n2]⟩) (hφ : FKind.Formats .f32)
    (hacc : acc = FKind.maximumf.neutral .f32 hφ) (s : Fin n0) (r : Fin n1) (f : Fin n2) :
    multiReduction (F := Ideal) .maximumf [3] ⟨3, ![n0, n1, n2]⟩ v acc hr hφ hacc (ix3 s r f)
      = Finset.fold max (Ideal.ofBits .f32 acc) (fun c => v (ix4 s r f c)) Finset.univ := by
  refine (multiReduction_maximumf_eq_fold v acc hr hφ hacc (ix3 s r f)).trans ?_
  exact Shape.Reduces.fold_fiber_r4_a3 hr (ix3 s r f) _ _ v

/-- The product with the f32 number nearest 1/448, at an index. -/
theorem times_apply (m : FVec Ideal S88x128x11 .f32) (s : Fin 88) (r : Fin 128) (f : Fin 11) :
    mulf (shapeCast S88x128x11x1 m shapeCasts_S88x128x11_S88x128x11x1) (broadcast S88x128x11x1 (Scalar.ofBits (F := Ideal) .f32 0x3B124925#32)) (ix4 s r f 0)
      = (m (ix3 s r f) * Ideal.ofBits .f32 991054117#32 : EReal) := by
  pointwise
  rfl

/-- The largest magnitude of a block times the f32 number nearest 1/448, at an index. -/
theorem level_apply (h : FVec Ideal S88x128x11x128 .f32) (s : Fin 88) (r : Fin 128) (f : Fin 11) :
    mulf (shapeCast S88x128x11x1 (multiReduction .maximumf [3] S88x128x11 (absf h) 0xFF800000#32 reduces_S88x128x11x128_S88x128x11 (.inl rfl) rfl)
        shapeCasts_S88x128x11_S88x128x11x1) (broadcast S88x128x11x1 (Scalar.ofBits (F := Ideal) .f32 0x3B124925#32)) (ix4 s r f 0)
      = Spec.level fun c => h (ix4 s r f c) := by
  refine (times_apply _ s r f).trans ?_
  exact congrArg (fun z : EReal => z * Ideal.ofBits .f32 991054117#32)
    (max_last (absf h) 0xFF800000#32 reduces_S88x128x11x128_S88x128x11 (.inl rfl) rfl s r f)

/-- The number whose exponent gives a block's scale. -/
theorem pay3_apply (s : Fin 88) (r : Fin 128) (f : Fin 11) :
    k0_pay3 x0 x1 x2 x3 x4 x5 (ix4 s r f 0) = Spec.level (hid x0 x1 x2 x3 x4 x5 s r f) := by
  unfold k0_pay3
  dsimp only
  refine (level_apply _ s r f).trans ?_
  exact congrArg Spec.level (funext fun c => pay2_apply x0 x1 x2 x3 x4 x5 s r f c)

/-- The floor of a base-2 logarithm, at an index. -/
theorem log_apply (v : FVec Ideal S88x128x11x1 .f32) (s : Fin 88) (r : Fin 128) (f : Fin 11) :
    floor (divf (log v) (log (broadcast S88x128x11x1 (Scalar.ofBits (F := Ideal) .f32 0x40000000#32)))) (ix4 s r f 0)
      = Ideal.liftRound Int.floor (Ideal.div (Ideal.log (v (ix4 s r f 0))) (Ideal.log (Ideal.ofBits .f32 0x40000000#32))) := by
  pointwise
  rfl

theorem pay4_apply (s : Fin 88) (r : Fin 128) (f : Fin 11) :
    k0_pay4 x0 x1 x2 x3 x4 x5 (ix4 s r f 0)
      = Ideal.liftRound Int.floor (Ideal.div (Ideal.log (k0_pay3 x0 x1 x2 x3 x4 x5 (ix4 s r f 0))) (Ideal.log (Ideal.ofBits .f32 0x40000000#32))) := by
  unfold k0_pay4
  exact log_apply _ s r f

/-- Whether a number is infinite, at an index. -/
theorem top_apply (v : FVec Ideal S88x128x11x1 .f32) (s : Fin 88) (r : Fin 128) (f : Fin 11) :
    cmpf .oeq v (broadcast S88x128x11x1 (Scalar.ofBits (F := Ideal) .f32 0x7F800000#32)) (ix4 s r f 0)
      = Ideal.cmp .oeq (v (ix4 s r f 0)) (Ideal.ofBits .f32 0x7F800000#32) := by
  pointwise
  rfl

theorem pay5_apply (s : Fin 88) (r : Fin 128) (f : Fin 11) :
    k0_pay5 x0 x1 x2 x3 x4 x5 (ix4 s r f 0)
      = Ideal.cmp .oeq (k0_pay3 x0 x1 x2 x3 x4 x5 (ix4 s r f 0)) (Ideal.ofBits .f32 0x7F800000#32) := by
  unfold k0_pay5
  exact top_apply _ s r f

section
variable (h : FVec Ideal S88x128x11x128 .f32) (v d : FVec Ideal S88x128x11x1 .f32) (b : IVec S88x128x11x1 1)
  (s : Fin 88) (r : Fin 128) (f : Fin 11)
  (hd : d (ix4 s r f 0) = Ideal.liftRound Int.floor (Ideal.div (Ideal.log (v (ix4 s r f 0))) (Ideal.log (Ideal.ofBits .f32 0x40000000#32))))
  (hb : b (ix4 s r f 0) = Ideal.cmp .oeq (v (ix4 s r f 0)) (Ideal.ofBits .f32 0x7F800000#32))
include hd hb

/-- The exponent. -/
theorem pay6_apply : k0_pay6 v d b (ix4 s r f 0) = rexp (v (ix4 s r f 0)) := by
  unfold k0_pay6 rexp
  pointwise
  rw [hd, hb]
  rfl

/-- The scale. -/
theorem pay7_apply : k0_pay7 v d b (ix4 s r f 0) = Ideal.ofBits .f32 (rscale (v (ix4 s r f 0))) := by
  have e := pay6_apply v d b s r f hd hb
  unfold k0_pay7 rscale
  rw [← e]
  generalize k0_pay6 v d b = w
  pointwise
  rfl

/-- The codes. -/
theorem pay8_apply (c : Fin 128) : k0_pay8 h v d b (ix4 s r f c)
    = (min (Ideal.ofBits .f32 1138753536#32) (max (Ideal.ofBits .f32 3286237184#32) (h (ix4 s r f c) * Ideal.ofBits .f32 (rinv (v (ix4 s r f 0))))) : EReal) := by
  have e := pay6_apply v d b s r f hd hb
  unfold k0_pay8 rinv
  rw [← e]
  generalize k0_pay6 v d b = w
  pointwise
  rfl
end

/-- A reshape of eleven blocks of 128 to a row, at an index. -/
theorem flat_apply {α : Type} (h : S88x128x11x128.Idx → α) (s : Fin 88) (r : Fin 128) (f : Fin 11) (c : Fin 128) :
    shapeCast S88x128x1408 h shapeCasts_S88x128x11x128_S88x128x1408 (ix3 s r (at11 f c)) = h (ix4 s r f c) := by
  unfold at11
  pointwise

/-- The scales without their unit axis, at an index. -/
theorem drop_apply (v : FVec Ideal S88x128x11x1 .f32) (s : Fin 88) (r : Fin 128) (f : Fin 11) :
    shapeCast S88x128x11 v shapeCasts_S88x128x11x1_S88x128x11 (ix3 s r f) = v (ix4 s r f 0) := by
  pointwise

/-- Codes times scales, at an index. -/
theorem scaled_apply (h : FVec Ideal S88x128x11x128 .fp8e4m3) (v : FVec Ideal S88x128x11x1 .f32) (s : Fin 88) (r : Fin 128) (f : Fin 11) (c : Fin 128) :
    mulf (extf .bf16 h bitsLt_fp8e4m3_bf16) (broadcastTo S88x128x11x128 (truncf .bf16 v bitsLt_bf16_f32) broadcasts_S88x128x11x1_S88x128x11x128) (ix4 s r f c)
      = (h (ix4 s r f c) * v (ix4 s r f 0) : EReal) := by
  pointwise
  rfl

/-- The second product, at an index. -/
theorem pay1_apply (y : FVec Ideal S88x128x1408 .bf16) (s : Fin 88) (r : Fin 128) (n : Fin 16) (c : Fin 128)
    (b : Fin 11 → Fin 128 → EReal) (hy : ∀ f j, y (ix3 s r (at11 f j)) = b f j) :
    k0_pay1 y x6 x7 (ix3 s r (at16 n c)) = Spec.dot b (vcol x6 x7 s n c) := by
  unfold k0_pay1
  pointwise
  rw [ofBits_zero, zero_add]
  refine (sum11 fun k => (y (ix3 s r k) * (x6 (ix3 s k (at16 n c)) * x7 (ix3 s k (at16 n c))) : EReal)).trans ?_
  simp only [hy]
  rfl

theorem off3 : (![0, 0, 0] : Fin 3 → ℕ) = fun _ => 0 := by
  funext a
  match a with
  | ⟨0, _⟩ => rfl
  | ⟨1, _⟩ => rfl
  | ⟨2, _⟩ => rfl

/-- A whole block read back is the block. -/
theorem ld3 {e : EltTy} {n0 n1 n2 : ℕ} (inb : ∀ a, (![0, 0, 0] : Fin 3 → ℕ) a + (⟨3, ![n0, n1, n2]⟩ : Shape).size a ≤ (⟨3, ![n0, n1, n2]⟩ : Shape).size a)
    (X : (⟨3, ![n0, n1, n2]⟩ : Shape).Idx → Elt Ideal e) :
    View.ld X (Rect.unit (s := ⟨3, ![n0, n1, n2]⟩) ![0, 0, 0] (⟨3, ![n0, n1, n2]⟩ : Shape).size inb) = X :=
  View.ld_unit_zero off3 inb X

/-- A whole block stored is the block. -/
theorem canon3 {e : EltTy} {n0 n1 n2 : ℕ} (inb : ∀ a, (![0, 0, 0] : Fin 3 → ℕ) a + (⟨3, ![n0, n1, n2]⟩ : Shape).size a ≤ (⟨3, ![n0, n1, n2]⟩ : Shape).size a)
    (X : (⟨3, ![n0, n1, n2]⟩ : Shape).Idx → Elt Ideal e) :
    View.canon (Val := Elt Ideal) (s := ⟨3, ![n0, n1, n2]⟩) [⟨Rect.unit (s := ⟨3, ![n0, n1, n2]⟩) ![0, 0, 0] (⟨3, ![n0, n1, n2]⟩ : Shape).size inb, X⟩] = X :=
  View.canon_unit_zero off3 inb X

/-- The scale of a block. -/
theorem scale_eq (s : Fin 88) (r : Fin 128) (f : Fin 11) :
    k0_pay7 (k0_pay3 x0 x1 x2 x3 x4 x5) (k0_pay4 x0 x1 x2 x3 x4 x5) (k0_pay5 x0 x1 x2 x3 x4 x5) (ix4 s r f 0)
      = Spec.scale (hid x0 x1 x2 x3 x4 x5 s r f) :=
  (pay7_apply _ _ _ s r f (pay4_apply x0 x1 x2 x3 x4 x5 s r f) (pay5_apply x0 x1 x2 x3 x4 x5 s r f)).trans
    (congrArg (fun z => Ideal.ofBits .f32 (rscale z)) (pay3_apply x0 x1 x2 x3 x4 x5 s r f))

/-- The codes of a block. -/
theorem code_eq (s : Fin 88) (r : Fin 128) (f : Fin 11) (c : Fin 128) :
    k0_pay8 (k0_pay2 x0 x1 x2 x3 x4 x5) (k0_pay3 x0 x1 x2 x3 x4 x5) (k0_pay4 x0 x1 x2 x3 x4 x5) (k0_pay5 x0 x1 x2 x3 x4 x5) (ix4 s r f c)
      = Spec.code (hid x0 x1 x2 x3 x4 x5 s r f) c := by
  refine (pay8_apply _ _ _ _ s r f (pay4_apply x0 x1 x2 x3 x4 x5 s r f) (pay5_apply x0 x1 x2 x3 x4 x5 s r f) c).trans ?_
  rw [pay2_apply, pay3_apply]
  rfl

/-- The hidden scales that the body stores. -/
theorem out10_apply (s : Fin 88) (r : Fin 128) (f : Fin 11) :
    out0_10 x0 x1 x2 x3 x4 x5 x6 x7 (ix3 s r f) = Spec.scale (hid x0 x1 x2 x3 x4 x5 s r f) := by
  unfold_out out0_10
  rw [ld3, ld3, ld3, ld3, ld3, ld3]
  refine (congrFun (canon3 _ _) _).trans ?_
  unfold k0_pay10
  exact (drop_apply _ s r f).trans (scale_eq x0 x1 x2 x3 x4 x5 s r f)

/-- The hidden codes that the body stores. -/
theorem out9_apply (s : Fin 88) (r : Fin 128) (f : Fin 11) (c : Fin 128) :
    out0_9 x0 x1 x2 x3 x4 x5 x6 x7 (ix3 s r (at11 f c)) = Spec.code (hid x0 x1 x2 x3 x4 x5 s r f) c := by
  unfold_out out0_9
  rw [ld3, ld3, ld3, ld3, ld3, ld3]
  refine (congrFun (canon3 _ _) _).trans ?_
  unfold k0_pay9
  exact (flat_apply _ s r f c).trans (code_eq x0 x1 x2 x3 x4 x5 s r f c)

/-- The output that the body stores. -/
theorem out8_apply (s : Fin 88) (r : Fin 128) (n : Fin 16) (c : Fin 128) :
    out0_8 x0 x1 x2 x3 x4 x5 x6 x7 (ix3 s r (at16 n c))
      = Spec.dot (fun f => Spec.back (hid x0 x1 x2 x3 x4 x5 s r f)) (vcol x6 x7 s n c) := by
  unfold_out out0_8
  rw [ld3, ld3, ld3, ld3, ld3, ld3, ld3, ld3]
  refine (congrFun (canon3 _ _) _).trans ?_
  refine pay1_apply x6 x7 _ s r n c _ fun f j => ?_
  unfold k0_pay11
  refine (flat_apply _ s r f j).trans ?_
  refine (scaled_apply _ _ s r f j).trans ?_
  exact congrArg₂ (fun a b : EReal => a * b) (code_eq x0 x1 x2 x3 x4 x5 s r f j) (scale_eq x0 x1 x2 x3 x4 x5 s r f)

end Cert.Proof.Ref
-- ==== Proof.RefHost.lean ====
module

public import proofs.«01_k».proof.Proof.Whole
public import proofs.«01_k».proof.Proof.Gen.ReferenceIdeal.Frame
public import Idealize.ShloMosaic.Lib.Pointwise.Contract
public import Idealize.ShloMosaic.Lib.StableHlo.ReadAt

@[expose] public section

set_option maxRecDepth 16384

/-! What the reference's host lines hand to its one body: the row blocks, the expert's weights, and every scale repeated. -/

noncomputable section

namespace Cert.Proof.Ref

open Idealize.ShloMosaic Idealize.ShloMosaic.TcCoe
open Cert.ReferenceIdeal Cert.ReferenceIdeal.Gen
open Cert.Proof.Spec

/-- The dimension numbers of a slice cut out of a matrix for every entry of a table of rows and columns. -/
abbrev sliceDims (N M n a b : ℕ)
    (wf : GatherDims.WF ⟨2, ![N, M]⟩ ⟨2, ![n, 2]⟩ ⟨3, ![n, a, b]⟩ [1, 2] [] [] [0, 1] [] 1 ![a, b]) :
    GatherDims ⟨2, ![N, M]⟩ ⟨2, ![n, 2]⟩ ⟨3, ![n, a, b]⟩ where
  offsetDims := [1, 2]
  collapsedSliceDims := []
  operandBatchingDims := []
  startIndicesBatchingDims := []
  startIndexMap := [0, 1]
  indexVectorDim := 1
  sliceSizes := ![a, b]
  wf := wf

/-- A slice cut out of a matrix at the row and the column that a table names: one slice for every entry of the table. -/
theorem slice_apply {α : Type} {N M n a b : ℕ}
    (wf : GatherDims.WF ⟨2, ![N, M]⟩ ⟨2, ![n, 2]⟩ ⟨3, ![n, a, b]⟩ [1, 2] [] [] [0, 1] [] 1 ![a, b])
    (X : (⟨2, ![N, M]⟩ : Shape).Idx → α) (idx : IVec ⟨2, ![n, 2]⟩ 32) (s : Fin n) (k : Fin a) (y : Fin b) (u : Fin N) (v : Fin M)
    (p0 p1 : ℕ) (h0 : (idx (ix2 s 0)).toInt.toNat = p0) (h1 : (idx (ix2 s 1)).toInt.toNat = p1) (l0 : p0 + a ≤ N) (l1 : p1 + b ≤ M)
    (hu : u.val = p0 + k.val) (hv : v.val = p1 + y.val) :
    Host.gather (sliceDims N M n a b wf) X idx (ix3 s k y) = X (ix2 u v) := by
  unfold Host.gather
  congr 1
  funext c
  refine Fin.ext ?_
  show (sliceDims N M n a b wf).start (ix3 s k y) idx c + (sliceDims N M n a b wf).batchCoord (ix3 s k y) c
    + (sliceDims N M n a b wf).offCoord (ix3 s k y) c = _
  rw [GatherDims.batchCoord_eq_zero _ _ _ List.not_mem_nil, Nat.add_zero]
  have h01 : c = 0 ∨ c = 1 := by
    match c with
    | ⟨0, _⟩ => exact Or.inl rfl
    | ⟨1, _⟩ => exact Or.inr rfl
  have m0 : (0 : Fin 2) ∈ (sliceDims N M n a b wf).startIndexMap := List.mem_cons_self
  have m1 : (1 : Fin 2) ∈ (sliceDims N M n a b wf).startIndexMap := List.mem_cons_of_mem _ List.mem_cons_self
  rcases h01 with rfl | rfl
  · unfold GatherDims.start
    rw [dif_pos m0]
    have e : (sliceDims N M n a b wf).siIdx (ix3 s k y) ⟨List.idxOf (0 : Fin 2) (sliceDims N M n a b wf).startIndexMap,
        List.idxOf_lt_length_iff.2 m0⟩ = ix2 s 0 := by
      funext d
      refine Fin.ext ?_
      match d with
      | ⟨0, _⟩ => rfl
      | ⟨1, _⟩ => rfl
    rw [e, h0]
    show min p0 (N - a) + k.val = u.val
    omega
  · unfold GatherDims.start
    rw [dif_pos m1]
    have e : (sliceDims N M n a b wf).siIdx (ix3 s k y) ⟨List.idxOf (1 : Fin 2) (sliceDims N M n a b wf).startIndexMap,
        List.idxOf_lt_length_iff.2 m1⟩ = ix2 s 1 := by
      funext d
      refine Fin.ext ?_
      match d with
      | ⟨0, _⟩ => rfl
      | ⟨1, _⟩ => rfl
    rw [e, h1]
    show min p1 (M - b) + y.val = v.val
    omega

/-- Two columns side by side, at an index of the first. -/
theorem cols_left (x y : S88x1.Idx → BitVec 32) (s : Fin 88) :
    concatenate S88x2 1 [⟨S88x1, x⟩, ⟨S88x1, y⟩] concatenates_S88x1_S88x1_S88x2_d1 (ix2 s 0) = x (ix2 s 0) := by
  pointwise

/-- Two columns side by side, at an index of the second. -/
theorem cols_right (x y : S88x1.Idx → BitVec 32) (s : Fin 88) :
    concatenate S88x2 1 [⟨S88x1, x⟩, ⟨S88x1, y⟩] concatenates_S88x1_S88x1_S88x2_d1 (ix2 s 1) = y (ix2 s 0) := by
  pointwise

/-- Where an expert's first column or row lies: 128 times the column index, which is not negative. -/
theorem start_word : ∀ n : Fin 64, (Scalar.select (IntOp.cmpi .slt (BitVec.ofNat 32 (11 * n.val) * 128#32) 0#32)
    (BitVec.ofNat 32 (11 * n.val) * 128#32 + 90112#32) (BitVec.ofNat 32 (11 * n.val) * 128#32)).toInt.toNat = 1408 * n.val := by
  decide +kernel

/-- Where an expert's first scale lies: the column index, which is not negative. -/
theorem sstart_word : ∀ n : Fin 64, (Scalar.select (IntOp.cmpi .slt (BitVec.ofNat 32 (11 * n.val)) 0#32)
    (BitVec.ofNat 32 (11 * n.val) + 704#32) (BitVec.ofNat 32 (11 * n.val))).toInt.toNat = 11 * n.val := by
  decide +kernel

variable (m : (ℓ : Loc nD τ sig) → Buf (Elt Ideal) ℓ)

/-- The reference's argument arrays. -/
abbrev b0 : S11264x2048.Idx → EReal := m (((0 : Dev nD) : Thread nD τ).loc main_arg0)
abbrev b1 : S11264x16.Idx → EReal := m (((0 : Dev nD) : Thread nD τ).loc main_arg1)
abbrev b2 : S2048x180224.Idx → EReal := m (((0 : Dev nD) : Thread nD τ).loc main_arg2)
abbrev b3 : S16x1408.Idx → EReal := m (((0 : Dev nD) : Thread nD τ).loc main_arg3)
abbrev b4 : S90112x2048.Idx → EReal := m (((0 : Dev nD) : Thread nD τ).loc main_arg4)
abbrev b5 : S704x16.Idx → EReal := m (((0 : Dev nD) : Thread nD τ).loc main_arg5)

/-- Every row block's column index is `11 · q s` with `q s < 64`. -/
def Routed (q : Fin 88 → Fin 64) : Prop :=
  ∀ s : Fin 88, (m (((0 : Dev nD) : Thread nD τ).loc main_arg6) : S88x11.Idx → BitVec 32) (ix2 s 0) = BitVec.ofNat 32 (11 * (q s).val)

variable {m} {q : Fin 88 → Fin 64}

theorem zero_word : (0#32).toInt.toNat = 0 := rfl

theorem start_at (h : Routed m q) (s : Fin 88) :
    (Scalar.select (IntOp.cmpi .slt (IntOp.muli (m (0, Proc.tc.devRef main_arg6) (ix2 s 0)) 128#32) 0#32)
      (IntOp.addi (IntOp.muli (m (0, Proc.tc.devRef main_arg6) (ix2 s 0)) 128#32) 90112#32)
      (IntOp.muli (m (0, Proc.tc.devRef main_arg6) (ix2 s 0)) 128#32)).toInt.toNat = 1408 * (q s).val := by
  refine Eq.trans ?_ (start_word (q s))
  rw [← h s]
  rfl

theorem sstart_at (h : Routed m q) (s : Fin 88) :
    (Scalar.select (IntOp.cmpi .slt (m (0, Proc.tc.devRef main_arg6) (ix2 s 0)) 0#32)
      (IntOp.addi (m (0, Proc.tc.devRef main_arg6) (ix2 s 0)) 704#32)
      (m (0, Proc.tc.devRef main_arg6) (ix2 s 0))).toInt.toNat = 11 * (q s).val := by
  refine Eq.trans ?_ (sstart_word (q s))
  rw [← h s]
  rfl

/-- The row blocks of the codes. -/
theorem x_at (s : Fin 88) (r : Fin 128) (y : Fin 2048) : (V m 0 main_v4 : S88x128x2048.Idx → EReal) (ix3 s r y) = b0 m (ix2 (brow s r) y) := by
  unfold V
  after_reads_at
  refine congrArg (b0 m) (congrArg₂ ix2 (Fin.ext ?_) rfl)
  simp only [brow]
  omega

/-- The row scales, repeated along every tile. -/
theorem xs_at (s : Fin 88) (r : Fin 128) (t : Fin 16) (j : Fin 128) :
    (V m 0 main_v8 : S88x128x2048.Idx → EReal) (ix3 s r (at16 t j)) = b1 m (ix2 (brow s r) t) := by
  unfold V
  after_reads_at
  refine congrArg (b1 m) (congrArg₂ ix2 (Fin.ext ?_) (Fin.ext ?_)) <;> simp only [brow, at16] <;> omega

/-- Every row block's gate weights. -/
theorem g_at (h : Routed m q) (s : Fin 88) (k : Fin 2048) (y : Fin 1408) :
    (V m 0 main_v20 : S88x2048x1408.Idx → EReal) (ix3 s k y) = b2 m (ix2 k (gateCol (q s) y)) := by
  unfold V
  after_reads_at
  refine (slice_apply gather_S2048x90112_S88x2_S88x2048x1408_12_n_n_n_01_1_20481408_wf _ _ s k y k
    ⟨1408 * (q s).val + y.val, by omega⟩ 0 (1408 * (q s).val) ?_ ?_ (by omega) (by omega) (by omega) rfl).trans ?_
  · refine (congrArg (fun w : BitVec 32 => w.toInt.toNat) (cols_left _ _ s)).trans ?_
    after_reads_at
    exact zero_word
  · refine (congrArg (fun w : BitVec 32 => w.toInt.toNat) (cols_right _ _ s)).trans ?_
    after_reads_at
    exact start_at h s
  · pointwise
    refine congrArg (b2 m) (congrArg₂ ix2 rfl (Fin.ext ?_))
    simp only [gateCol]
    try omega

/-- Every row block's gate scales, repeated over their tiles. -/
theorem gs_at (h : Routed m q) (s : Fin 88) (t : Fin 16) (j : Fin 128) (f : Fin 11) (c : Fin 128) :
    (V m 0 main_v34 : S88x2048x1408.Idx → EReal) (ix3 s (at16 t j) (at11 f c)) = b3 m (ix2 t (gateScol (q s) f)) := by
  unfold V
  after_reads_at
  refine (slice_apply gather_S16x704_S88x2_S88x16x11_12_n_n_n_01_1_1611_wf _ _ s _ _ t
    ⟨11 * (q s).val + f.val, by omega⟩ 0 (11 * (q s).val) ?_ ?_ (by omega) (by omega)
    (by simp only [at16]; omega) (by simp only [at11]; omega)).trans ?_
  · refine (congrArg (fun w : BitVec 32 => w.toInt.toNat) (cols_left _ _ s)).trans ?_
    after_reads_at
    exact zero_word
  · refine (congrArg (fun w : BitVec 32 => w.toInt.toNat) (cols_right _ _ s)).trans ?_
    after_reads_at
    exact sstart_at h s
  · pointwise
    refine congrArg (b3 m) (congrArg₂ ix2 rfl (Fin.ext ?_))
    simp only [gateScol]
    try omega

/-- Every row block's up weights. -/
theorem u_at (h : Routed m q) (s : Fin 88) (k : Fin 2048) (y : Fin 1408) :
    (V m 0 main_v46 : S88x2048x1408.Idx → EReal) (ix3 s k y) = b2 m (ix2 k (upCol (q s) y)) := by
  unfold V
  after_reads_at
  refine (slice_apply gather_S2048x90112_S88x2_S88x2048x1408_12_n_n_n_01_1_20481408_wf _ _ s k y k
    ⟨1408 * (q s).val + y.val, by omega⟩ 0 (1408 * (q s).val) ?_ ?_ (by omega) (by omega) (by omega) rfl).trans ?_
  · refine (congrArg (fun w : BitVec 32 => w.toInt.toNat) (cols_left _ _ s)).trans ?_
    after_reads_at
    exact zero_word
  · refine (congrArg (fun w : BitVec 32 => w.toInt.toNat) (cols_right _ _ s)).trans ?_
    after_reads_at
    exact start_at h s
  · pointwise
    refine congrArg (b2 m) (congrArg₂ ix2 rfl (Fin.ext ?_))
    simp only [upCol]
    try omega

/-- Every row block's up scales, repeated over their tiles. -/
theorem us_at (h : Routed m q) (s : Fin 88) (t : Fin 16) (j : Fin 128) (f : Fin 11) (c : Fin 128) :
    (V m 0 main_v60 : S88x2048x1408.Idx → EReal) (ix3 s (at16 t j) (at11 f c)) = b3 m (ix2 t (upScol (q s) f)) := by
  unfold V
  after_reads_at
  refine (slice_apply gather_S16x704_S88x2_S88x16x11_12_n_n_n_01_1_1611_wf _ _ s _ _ t
    ⟨11 * (q s).val + f.val, by omega⟩ 0 (11 * (q s).val) ?_ ?_ (by omega) (by omega)
    (by simp only [at16]; omega) (by simp only [at11]; omega)).trans ?_
  · refine (congrArg (fun w : BitVec 32 => w.toInt.toNat) (cols_left _ _ s)).trans ?_
    after_reads_at
    exact zero_word
  · refine (congrArg (fun w : BitVec 32 => w.toInt.toNat) (cols_right _ _ s)).trans ?_
    after_reads_at
    exact sstart_at h s
  · pointwise
    refine congrArg (b3 m) (congrArg₂ ix2 rfl (Fin.ext ?_))
    simp only [upScol]
    try omega

/-- Every row block's second weights. -/
theorem w_at (h : Routed m q) (s : Fin 88) (k : Fin 1408) (y : Fin 2048) :
    (V m 0 main_v71 : S88x1408x2048.Idx → EReal) (ix3 s k y) = b4 m (ix2 (outRow (q s) k) y) := by
  unfold V
  after_reads_at
  refine slice_apply gather_S90112x2048_S88x2_S88x1408x2048_12_n_n_n_01_1_14082048_wf _ _ s k y (outRow (q s) k) y
    (1408 * (q s).val) 0 ?_ ?_ (by omega) (by omega) rfl (by omega)
  · refine (congrArg (fun w : BitVec 32 => w.toInt.toNat) (cols_left _ _ s)).trans ?_
    after_reads_at
    exact start_at h s
  · refine (congrArg (fun w : BitVec 32 => w.toInt.toNat) (cols_right _ _ s)).trans ?_
    after_reads_at
    exact zero_word

/-- Every row block's second scales, repeated over their tiles. -/
theorem ws_at (h : Routed m q) (s : Fin 88) (f : Fin 11) (j : Fin 128) (n : Fin 16) (c : Fin 128) :
    (V m 0 main_v85 : S88x1408x2048.Idx → EReal) (ix3 s (at11 f j) (at16 n c)) = b5 m (ix2 (outSrow (q s) f) n) := by
  unfold V
  after_reads_at
  refine slice_apply gather_S704x16_S88x2_S88x11x16_12_n_n_n_01_1_1116_wf _ _ s _ _ (outSrow (q s) f) n
    (11 * (q s).val) 0 ?_ ?_ (by omega) (by omega) (by simp only [at11, outSrow]; omega) (by simp only [at16]; omega)
  · refine (congrArg (fun w : BitVec 32 => w.toInt.toNat) (cols_left _ _ s)).trans ?_
    after_reads_at
    exact sstart_at h s
  · refine (congrArg (fun w : BitVec 32 => w.toInt.toNat) (cols_right _ _ s)).trans ?_
    after_reads_at
    exact zero_word

end Cert.Proof.Ref
-- ==== Proof.RefArrays.lean ====
module

public import proofs.«01_k».proof.Proof.RefBody
public import proofs.«01_k».proof.Proof.RefHost
public import Idealize.ShloMosaic.Lib.Pipeline.ValueKit.Geometry
public import proofs.«01_k».proof.Proof.Gen.ReferenceIdeal.Run

@[expose] public section

set_option maxRecDepth 16384

/-! The reference's three result arrays after its run. -/

noncomputable section

namespace Cert.Proof.Ref

open Idealize.ShloMosaic Idealize.ShloMosaic.TcCoe Idealize.ShloMosaic.Tactic
open Cert.ReferenceIdeal Cert.ReferenceIdeal.Gen
open Cert.Proof.Spec

variable {m : (ℓ : Loc nD τ sig) → Buf (Elt Ideal) ℓ} {q : Fin 88 → Fin 64} (h : Routed m q)

/-- Every window is a whole array: its block index is zero. -/
theorem index_zero (w : Fin cfg0.W) (t : Fin cfg0.N) (a : Fin (cfg0.win w).shape.rank) : (cfg0.win w).index t a = 0 := by
  revert w t a
  decide +kernel

/-- A window's block lies in its array at the same coordinates. -/
theorem emb_val (w : Fin cfg0.W) (t : Fin cfg0.N) (y : ((cfg0.win w).xblock (cfg0.grid.coords t)).Idx) (a : Fin (cfg0.win w).shape.rank) :
    (((cfg0.win w).rect t).emb y a).val = (y a).val :=
  (cfg0.win w).rect_emb_val_of_index_zero _ _ (index_zero w t a) _

/-- The body's input 0 is the row blocks. -/
theorem iblk_0 (t : Fin cfg0.N) (y : S88x128x2048.Idx) : iblk m 0 0 t y = (V m 0 main_v4 : S88x128x2048.Idx → EReal) y := by
  blk_simp [iblk]
  exact congrArg (V m 0 main_v4) (funext fun a => Fin.ext (emb_val 0 t y a))
/-- The body's input 1 is the row blocks' scales, repeated. -/
theorem iblk_1 (t : Fin cfg0.N) (y : S88x128x2048.Idx) : iblk m 0 1 t y = (V m 0 main_v8 : S88x128x2048.Idx → EReal) y := by
  blk_simp [iblk]
  exact congrArg (V m 0 main_v8) (funext fun a => Fin.ext (emb_val 1 t y a))
/-- The body's input 2 is the gate weights. -/
theorem iblk_2 (t : Fin cfg0.N) (y : S88x2048x1408.Idx) : iblk m 0 2 t y = (V m 0 main_v20 : S88x2048x1408.Idx → EReal) y := by
  blk_simp [iblk]
  exact congrArg (V m 0 main_v20) (funext fun a => Fin.ext (emb_val 2 t y a))
/-- The body's input 3 is the gate scales, repeated. -/
theorem iblk_3 (t : Fin cfg0.N) (y : S88x2048x1408.Idx) : iblk m 0 3 t y = (V m 0 main_v34 : S88x2048x1408.Idx → EReal) y := by
  blk_simp [iblk]
  exact congrArg (V m 0 main_v34) (funext fun a => Fin.ext (emb_val 3 t y a))
/-- The body's input 4 is the up weights. -/
theorem iblk_4 (t : Fin cfg0.N) (y : S88x2048x1408.Idx) : iblk m 0 4 t y = (V m 0 main_v46 : S88x2048x1408.Idx → EReal) y := by
  blk_simp [iblk]
  exact congrArg (V m 0 main_v46) (funext fun a => Fin.ext (emb_val 4 t y a))
/-- The body's input 5 is the up scales, repeated. -/
theorem iblk_5 (t : Fin cfg0.N) (y : S88x2048x1408.Idx) : iblk m 0 5 t y = (V m 0 main_v60 : S88x2048x1408.Idx → EReal) y := by
  blk_simp [iblk]
  exact congrArg (V m 0 main_v60) (funext fun a => Fin.ext (emb_val 5 t y a))
/-- The body's input 6 is the second weights. -/
theorem iblk_6 (t : Fin cfg0.N) (y : S88x1408x2048.Idx) : iblk m 0 6 t y = (V m 0 main_v71 : S88x1408x2048.Idx → EReal) y := by
  blk_simp [iblk]
  exact congrArg (V m 0 main_v71) (funext fun a => Fin.ext (emb_val 6 t y a))
/-- The body's input 7 is the second scales, repeated. -/
theorem iblk_7 (t : Fin cfg0.N) (y : S88x1408x2048.Idx) : iblk m 0 7 t y = (V m 0 main_v85 : S88x1408x2048.Idx → EReal) y := by
  blk_simp [iblk]
  exact congrArg (V m 0 main_v85) (funext fun a => Fin.ext (emb_val 7 t y a))

include h in
/-- The activation that the reference computes. -/
theorem hid_eq (t : Fin cfg0.N) (s : Fin 88) (r : Fin 128) (f : Fin 11) :
    hid (iblk m 0 0 t) (iblk m 0 1 t) (iblk m 0 2 t) (iblk m 0 3 t) (iblk m 0 4 t) (iblk m 0 5 t) s r f
      = Spec.hidden (b0 m) (b1 m) (b2 m) (b3 m) q s r f := by
  funext c
  unfold hid Spec.hidden
  have eX : row (iblk m 0 0 t) (iblk m 0 1 t) s r = xRow (b0 m) (b1 m) s r := by
    funext k j
    exact congrArg₂ (fun a b : EReal => a * b) ((iblk_0 t _).trans (x_at s r _)) ((iblk_1 t _).trans (xs_at s r k j))
  have eG : wcol (iblk m 0 2 t) (iblk m 0 3 t) s f c = gateW (b2 m) (b3 m) (q s) f c := by
    funext k j
    exact congrArg₂ (fun a b : EReal => a * b) ((iblk_2 t _).trans (g_at h s _ _)) ((iblk_3 t _).trans (gs_at h s k j f c))
  have eU : wcol (iblk m 0 4 t) (iblk m 0 5 t) s f c = upW (b2 m) (b3 m) (q s) f c := by
    funext k j
    exact congrArg₂ (fun a b : EReal => a * b) ((iblk_4 t _).trans (u_at h s _ _)) ((iblk_5 t _).trans (us_at h s k j f c))
  rw [eX, eG, eU]

include h in
/-- The second weights that the reference multiplies by. -/
theorem vcol_eq (t : Fin cfg0.N) (s : Fin 88) (n : Fin 16) (c : Fin 128) :
    vcol (iblk m 0 6 t) (iblk m 0 7 t) s n c = outW (b4 m) (b5 m) (q s) n c := by
  funext f j
  exact congrArg₂ (fun a b : EReal => a * b) ((iblk_6 t _).trans (w_at h s _ _)) ((iblk_7 t _).trans (ws_at h s f j n c))

theorem exists_out (y : S88x128x2048.Idx) : ∃ (s : Fin 88) (r : Fin 128) (n : Fin 16) (c : Fin 128), y = ix3 s r (at16 n c) :=
  ⟨y 0, y 1, blk16 (y 2), sub16 (y 2), (eq_ix3 y).trans (congrArg (ix3 (y 0) (y 1)) (at16_eq (y 2)).symm)⟩
theorem exists_code (y : S88x128x1408.Idx) : ∃ (s : Fin 88) (r : Fin 128) (f : Fin 11) (c : Fin 128), y = ix3 s r (at11 f c) :=
  ⟨y 0, y 1, blk11 (y 2), sub11 (y 2), (eq_ix3 y).trans (congrArg (ix3 (y 0) (y 1)) (at11_eq (y 2)).symm)⟩
theorem exists_scale (y : S88x128x11.Idx) : ∃ (s : Fin 88) (r : Fin 128) (f : Fin 11), y = ix3 s r f := ⟨y 0, y 1, y 2, eq_ix3 y⟩

/-- A matrix of 11264 rows, its rows in 88 blocks. -/
abbrev blocks {N : ℕ} (G : (⟨2, ![11264, N]⟩ : Shape).Idx → EReal) : (⟨3, ![88, 128, N]⟩ : Shape).Idx → EReal :=
  fun y => G (ix2 (brow (y 0) (y 1)) (y 2))

/-- The row blocks put back under each other. -/
theorem blocks_apply {N : ℕ} (G : (⟨2, ![11264, N]⟩ : Shape).Idx → EReal)
    (hs : Shape.ShapeCasts (⟨3, ![88, 128, N]⟩ : Shape) ⟨2, ![11264, N]⟩) : shapeCast _ (blocks G) hs = G := by
  funext y
  refine (shapeCast_apply (blocks G) hs y (ix3 (blk (y 0)) (sub (y 0)) (y 1)) ?_).trans ?_
  · rw [Shape.rowMajor_val_three, Shape.rowMajor_val_two]
    show ((blk (y 0)).val * 128 + (sub (y 0)).val) * N + (y 1).val = (y 0).val * N + (y 1).val
    have e : (blk (y 0)).val * 128 + (sub (y 0)).val = (y 0).val := by
      rw [Nat.mul_comm]
      exact congrArg Fin.val (brow_eq (y 0))
    rw [e]
  · exact congrArg G ((congrArg (fun x => ix2 x (y 1)) (brow_eq (y 0))).trans (eq_ix2 y).symm)

include h in
/-- The body's output, by row blocks. -/
theorem reg_out : (Value.reg_main_v86_0 m 0 : S88x128x2048.Idx → EReal) = blocks (outArr (b0 m) (b1 m) (b2 m) (b3 m) (b4 m) (b5 m) q) := by
  refine (dats m 0 0).arrAt_eq_of_covers 8 _ (of_decide_eq_true (by sl_kernel_rfl)) fun t hf y => ?_
  blk_simp
  rw [after0_8]
  refine Eq.trans ?_ (congrArg (blocks (outArr (b0 m) (b1 m) (b2 m) (b3 m) (b4 m) (b5 m) q)) (funext fun a => Fin.ext (emb_val 8 t y a))).symm
  obtain ⟨s, r, n, c, rfl⟩ := exists_out y
  refine (out8_apply _ _ _ _ _ _ _ _ s r n c).trans (Eq.trans ?_ (outArr_apply _ _ _ _ _ _ _ s r n c).symm)
  rw [vcol_eq h]
  exact congrArg (fun z => dot z _) (funext fun f => congrArg back (hid_eq h t s r f))

include h in
/-- The body's codes, by row blocks. -/
theorem reg_code : (Value.reg_main_v86_1 m 0 : S88x128x1408.Idx → EReal) = blocks (codeArr (b0 m) (b1 m) (b2 m) (b3 m) q) := by
  refine (dats m 0 0).arrAt_eq_of_covers 9 _ (of_decide_eq_true (by sl_kernel_rfl)) fun t hf y => ?_
  blk_simp
  rw [after0_9]
  refine Eq.trans ?_ (congrArg (blocks (codeArr (b0 m) (b1 m) (b2 m) (b3 m) q)) (funext fun a => Fin.ext (emb_val 9 t y a))).symm
  obtain ⟨s, r, f, c, rfl⟩ := exists_code y
  refine (out9_apply _ _ _ _ _ _ _ _ s r f c).trans (Eq.trans ?_ (codeArr_apply _ _ _ _ _ s r f c).symm)
  exact congrArg (fun z => code z c) (hid_eq h t s r f)

include h in
/-- The body's scales, by row blocks. -/
theorem reg_scale : (Value.reg_main_v86_2 m 0 : S88x128x11.Idx → EReal) = blocks (scaleArr (b0 m) (b1 m) (b2 m) (b3 m) q) := by
  refine (dats m 0 0).arrAt_eq_of_covers 10 _ (of_decide_eq_true (by sl_kernel_rfl)) fun t hf y => ?_
  blk_simp
  rw [after0_10]
  refine Eq.trans ?_ (congrArg (blocks (scaleArr (b0 m) (b1 m) (b2 m) (b3 m) q)) (funext fun a => Fin.ext (emb_val 10 t y a))).symm
  obtain ⟨s, r, f, rfl⟩ := exists_scale y
  refine (out10_apply _ _ _ _ _ _ _ _ s r f).trans (Eq.trans ?_ (scaleArr_apply _ _ _ _ _ s r f).symm)
  exact congrArg scale (hid_eq h t s r f)

end Cert.Proof.Ref
-- ==== Proof.Algebraic.lean ====
module

public import proofs.«01_k».proof.Defs
public import proofs.«01_k».proof.Proof.Gen.Pre_routed
public import proofs.«01_k».proof.Proof.Arrays
public import proofs.«01_k».proof.Proof.RefArrays
public import proofs.«01_k».proof.Proof.PreIdeal
public import Idealize.ShloMosaic.Adequacy
public import Idealize.ShloMosaic.Init

@[expose] public section

set_option maxRecDepth 16384

/-! The kernel and the reference, run on the same arguments, end with the same three results at the extended reals. -/

noncomputable section

namespace Cert.Proof

open Idealize.ShloMosaic Idealize.ShloMosaic.TcCoe Idealize.SL.Sem
open Cert.Proof.Spec

/-- The kernel's run: its three results are the layer's output, codes and scales of its arguments. -/
theorem kernel_run (m : (ℓ : Loc Cert.KernelIdeal.nD Cert.KernelIdeal.τ Cert.KernelIdeal.sig) → Buf (Elt Ideal) ℓ)
    (g : Dev Cert.KernelIdeal.nD → PrngReg) {q : Fin 88 → Fin 64} (h : KernelIdeal.Routed m q) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        (r.2.mem ((c.tc : Thread Cert.KernelIdeal.nD Cert.KernelIdeal.τ).loc Cert.KernelIdeal.main_v7_0) : Cert.KernelIdeal.S11264x2048.Idx → EReal)
            = outArr (KernelIdeal.a0 m) (KernelIdeal.a1 m) (KernelIdeal.a2 m) (KernelIdeal.a3 m) (KernelIdeal.a4 m) (KernelIdeal.a5 m) q
        ∧ (r.2.mem ((c.tc : Thread Cert.KernelIdeal.nD Cert.KernelIdeal.τ).loc Cert.KernelIdeal.main_v7_1) : Cert.KernelIdeal.S11264x1408.Idx → EReal)
            = codeArr (KernelIdeal.a0 m) (KernelIdeal.a1 m) (KernelIdeal.a2 m) (KernelIdeal.a3 m) q
        ∧ (r.2.mem ((c.tc : Thread Cert.KernelIdeal.nD Cert.KernelIdeal.τ).loc Cert.KernelIdeal.main_v7_2) : Cert.KernelIdeal.S11264x11.Idx → EReal)
            = scaleArr (KernelIdeal.a0 m) (KernelIdeal.a1 m) (KernelIdeal.a2 m) (KernelIdeal.a3 m) q := by
  have hO := KernelIdeal.ok_of_routed h
  have hH := KernelIdeal.hyps_of_routed h hO
  refine (θ_run _ _ _).mono (fun r hr c => ?_) (Cert.KernelIdeal.Gen.run_main m g hO hH)
  obtain rfl : c = 0 := Subsingleton.elim _ _
  exact ⟨((hr 0).1 7).trans (KernelIdeal.final_out hO hH h), ((hr 0).1 8).trans (KernelIdeal.final_codes hO hH h),
    ((hr 0).1 9).trans (KernelIdeal.final_scales hO hH h)⟩

/-- The reference's run: its three results are the same functions of its arguments. -/
theorem reference_run (m : (ℓ : Loc Cert.ReferenceIdeal.nD Cert.ReferenceIdeal.τ Cert.ReferenceIdeal.sig) → Buf (Elt Ideal) ℓ)
    (g : Dev Cert.ReferenceIdeal.nD → PrngReg) {q : Fin 88 → Fin 64} (h : Ref.Routed m q) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        (r.2.mem ((c.tc : Thread Cert.ReferenceIdeal.nD Cert.ReferenceIdeal.τ).loc Cert.ReferenceIdeal.main_v87) : Cert.ReferenceIdeal.S11264x2048.Idx → EReal)
            = outArr (Ref.b0 m) (Ref.b1 m) (Ref.b2 m) (Ref.b3 m) (Ref.b4 m) (Ref.b5 m) q
        ∧ (r.2.mem ((c.tc : Thread Cert.ReferenceIdeal.nD Cert.ReferenceIdeal.τ).loc Cert.ReferenceIdeal.main_v88) : Cert.ReferenceIdeal.S11264x1408.Idx → EReal)
            = codeArr (Ref.b0 m) (Ref.b1 m) (Ref.b2 m) (Ref.b3 m) q
        ∧ (r.2.mem ((c.tc : Thread Cert.ReferenceIdeal.nD Cert.ReferenceIdeal.τ).loc Cert.ReferenceIdeal.main_v89) : Cert.ReferenceIdeal.S11264x11.Idx → EReal)
            = scaleArr (Ref.b0 m) (Ref.b1 m) (Ref.b2 m) (Ref.b3 m) q := by
  refine (θ_run _ _ _).mono (fun r hr c => ?_) (Cert.ReferenceIdeal.Value.run m g)
  obtain rfl : c = 0 := Subsingleton.elim _ _
  obtain ⟨e0, e1, e2, -⟩ := hr 0
  refine ⟨e0.trans ?_, e1.trans ?_, e2.trans ?_⟩
  · exact (congrArg (fun X => shapeCast _ X _) (Ref.reg_out h)).trans (Ref.blocks_apply _ _)
  · exact (congrArg (fun X => shapeCast _ X _) (Ref.reg_code h)).trans (Ref.blocks_apply _ _)
  · exact (congrArg (fun X => shapeCast _ X _) (Ref.reg_scale h)).trans (Ref.blocks_apply _ _)

/-- The kernel and the reference compute the same output, the same codes and the same scales on every routed input. -/
theorem algebraic : Cert.algebraic_KernelIdeal_ReferenceIdeal (hKernelIdeal := Cert.KernelIdeal.Gen.facts)
    (hReferenceIdeal := Cert.ReferenceIdeal.Gen.facts) (hPre_routed := Cert.Pre_routed.Gen.facts) := by
  intro m g m' g' hpre hagree
  obtain ⟨q, hq⟩ := routed_ideal m hpre
  obtain ⟨h0, h1, h2, h3, h4, h5, h6⟩ := hagree 0
  have hq' : Ref.Routed m' q := fun s => (congrFun h6 (ix2 s 0)).trans (hq s)
  have hO := KernelIdeal.ok_of_routed hq
  have hH := KernelIdeal.hyps_of_routed hq hO
  refine ⟨fun _ => outArr (KernelIdeal.a0 m) (KernelIdeal.a1 m) (KernelIdeal.a2 m) (KernelIdeal.a3 m) (KernelIdeal.a4 m) (KernelIdeal.a5 m) q,
    fun _ => codeArr (KernelIdeal.a0 m) (KernelIdeal.a1 m) (KernelIdeal.a2 m) (KernelIdeal.a3 m) q,
    fun _ => scaleArr (KernelIdeal.a0 m) (KernelIdeal.a1 m) (KernelIdeal.a2 m) (KernelIdeal.a3 m) q, ?_, ?_⟩
  · refine (θ_run _ _ _).mono (fun r hr c => ?_) (θ_run_and (kernel_run m g hq) (Cert.KernelIdeal.Gen.unchanged m g hO hH))
    exact ⟨(hr.1 c).1, (hr.1 c).2.1, (hr.1 c).2.2, hr.2 c⟩
  · refine (θ_run _ _ _).mono (fun r hr c => ?_) (θ_run_and (reference_run m' g' hq') (Cert.ReferenceIdeal.Value.run m' g'))
    have e0 : Ref.b0 m' = KernelIdeal.a0 m := h0
    have e1 : Ref.b1 m' = KernelIdeal.a1 m := h1
    have e2 : Ref.b2 m' = KernelIdeal.a2 m := h2
    have e3 : Ref.b3 m' = KernelIdeal.a3 m := h3
    have e4 : Ref.b4 m' = KernelIdeal.a4 m := h4
    have e5 : Ref.b5 m' = KernelIdeal.a5 m := h5
    have hv := hr.1 c
    rw [e0, e1, e2, e3, e4, e5] at hv
    exact ⟨hv.1, hv.2.1, hv.2.2, (hr.2 c).2.2.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_routed
public import proofs.«01_k».proof.Proof.Gen.ReferenceIdeal.Run
public import proofs.«01_k».proof.Proof.Gen.ReferenceIdeal.Read
public import proofs.«01_k».proof.Proof.PreBits
public import proofs.«01_k».proof.Proof.PreIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel runs to its end on every routed input, at the bits. -/
theorem frame_bits : Cert.quiescent_Kernel (hKernel := Cert.Kernel.Gen.facts) (hPre_routed := Cert.Pre_routed.Gen.facts) := fun m ρ h => by
  obtain ⟨q, hq⟩ := routed_bits m h
  exact Cert.Kernel.Gen.frame m ρ (Kernel.ok_of_routed hq) (Kernel.hyps_of_routed hq _)

/-- The kernel runs to its end on every routed input, at the extended reals. -/
theorem frame_ideal : Cert.quiescent_KernelIdeal (hKernelIdeal := Cert.KernelIdeal.Gen.facts) (hPre_routed := Cert.Pre_routed.Gen.facts) :=
  fun m ρ h => by
  obtain ⟨q, hq⟩ := routed_ideal m h
  exact Cert.KernelIdeal.Gen.frame m ρ (KernelIdeal.ok_of_routed hq) (KernelIdeal.hyps_of_routed hq _)

/-- Every claim of the certificate. -/
theorem claim : Cert.Claim := ⟨Cert.Kernel.Gen.facts, Cert.KernelIdeal.Gen.facts, Cert.ReferenceIdeal.Gen.facts, Cert.Pre_routed.Gen.facts,
  frame_bits, frame_ideal, fun m ρ _ => Cert.ReferenceIdeal.Gen.frame m ρ, fun m ρ _ => Cert.ReferenceIdeal.Gen.frame m ρ, trivial, algebraic⟩

end Cert.Proof

end
